-- ==== Defs.lean ====
def Pre_Kernel [hPre_experts : Cert.Pre_experts.Facts] (m : (ℓ : Loc Cert.Kernel.nD Cert.Kernel.τ Cert.Kernel.sig) → Buf (Elt Bits) ℓ) : Prop :=
  ∀ c : Dev Cert.Kernel.nD,
    (Cert.Pre_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_experts : Cert.Pre_experts.Facts] (m : (ℓ : Loc Cert.KernelIdeal.nD Cert.KernelIdeal.τ Cert.KernelIdeal.sig) → Buf (Elt Ideal) ℓ) : Prop :=
  ∀ c : Dev Cert.KernelIdeal.nD,
    (Cert.Pre_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_experts : Cert.Pre_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_experts : Cert.Pre_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_experts : Cert.Pre_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_experts : Cert.Pre_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts : Cert.Pre_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9_2)) (v1 : (c : Dev Cert.Kernel5Ideal.nD) → Buf (Elt Ideal) ((c.tc : Thread Cert.Kernel5Ideal.nD Cert.Kernel5Ideal.τ).loc Cert.Kernel5Ideal.main_v9_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_2) = v0 c
          ∧ r.2.mem ((c.tc : Thread Cert.Kernel5Ideal.nD Cert.Kernel5Ideal.τ).loc Cert.Kernel5Ideal.main_v9_3) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_indices) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_experts : Cert.Pre_experts.Facts) (hPre_finite : Cert.Pre_finite.Facts),
    quiescent_Kernel (hKernel := hKernel) (hPre_experts := hPre_experts)
    ∧ quiescent_KernelIdeal (hKernelIdeal := hKernelIdeal) (hPre_experts := hPre_experts)
    ∧ quiescent_ReferenceIdeal (hReferenceIdeal := hReferenceIdeal) (hPre_experts := hPre_experts)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_experts := hPre_experts)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
-- ==== Pre_experts.lean ====
abbrev S304 : Shape := ⟨1, ![304]⟩
abbrev S1 : Shape := ⟨1, ![1]⟩
abbrev S622592x128 : Shape := ⟨2, ![622592, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  shapeCasts_S1_S_ : S1.ShapeCasts S_
  bcast_S_S304 : S_.BroadcastsInDim S304 (![] : Fin 0 → Fin S304.rank)
  reducesTo_S304_S_d0 : S304.ReducesTo [0] S_
  h_S_ : 0 < S_.numel

variable [Facts]

def fn_part1 {F : FTy → Type} [FloatOps F] (main_v18 : IVec S304 1) (main_c_3 : IVec S_ 1) : IVec S_ 1 :=
  let main_v19 : IVec S_ 1 := (fun x v => Host.reduce IntOp.andi x v reducesTo_S304_S_d0 h_S_) main_v18 main_c_3
  main_v19

def fn {F : FTy → Type} [FloatOps F] (main_arg0 : IVec S304 32) (main_arg1 : IVec S1 32) (main_arg2 : IVec S304 32) (main_arg3 : FVec F S622592x128 .f32) (main_arg4 : FVec F S32x1024x2048 .f32) (main_arg5 : FVec F S32x1x2048 .f32) (main_arg6 : FVec F S32x1024x1024 .f32) (main_arg7 : FVec F S32x1x1024 .f32) : IVec S_ 1 :=
  let main_v0 : IVec S304 32 := iotaInDim S304 32 0
  let main_v1 : IVec S_ 32 := shapeCast S_ main_arg1 shapeCasts_S1_S_
  let main_v2 : IVec S304 32 := broadcastInDim S304 ![] bcast_S_S304 main_v1
  let main_v3 : IVec S304 1 := cmpi .slt main_v0 main_v2
  let main_c : IVec S_ 32 := constantI S_ 32 0#32
  let main_v4 : IVec S304 32 := broadcastInDim S304 ![] bcast_S_S304 main_c
  let main_v5 : IVec S304 1 := cmpi .sge main_arg0 main_v4
  let main_c_0 : IVec S_ 32 := constantI S_ 32 32#32
  let main_v6 : IVec S304 32 := broadcastInDim S304 ![] bcast_S_S304 main_c_0
  let main_v7 : IVec S304 1 := cmpi .slt main_arg0 main_v6
  let main_v8 : IVec S304 1 := andi main_v5 main_v7
  let main_c_1 : IVec S_ 32 := constantI S_ 32 0#32
  let main_v9 : IVec S304 32 := broadcastInDim S304 ![] bcast_S_S304 main_c_1
  let main_v10 : IVec S304 1 := cmpi .sge main_arg2 main_v9
  let main_v11 : IVec S304 1 := andi main_v8 main_v10
  let main_c_2 : IVec S_ 32 := constantI S_ 32 32#32
  let main_v12 : IVec S304 32 := broadcastInDim S304 ![] bcast_S_S304 main_c_2
  let main_v13 : IVec S304 1 := cmpi .slt main_arg2 main_v12
  let main_v14 : IVec S304 1 := andi main_v11 main_v13
  let main_v15 : IVec S304 1 := cmpi .eq main_arg2 main_arg0
  let main_v16 : IVec S304 1 := noti main_v3
  let main_v17 : IVec S304 1 := ori main_v15 main_v16
  let main_v18 : IVec S304 1 := andi main_v14 main_v17
  let main_c_3 : IVec S_ 1 := constantI S_ 1 1#1
  fn_part1 (F := F) main_v18 main_c_3
-- ==== Pre_finite.lean ====
abbrev S16384x512 : Shape := ⟨2, ![16384, 512]⟩
abbrev S8x2048x1024 : Shape := ⟨3, ![8, 2048, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x32 : S_.BroadcastsInDim S1x1024x32 (![] : Fin 0 → Fin S1x1024x32.rank)
  reducesTo_S1x1024x32_S_d0_1_2 : S1x1024x32.ReducesTo [0, 1, 2] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S16384x512 .f32) (main_arg1 : FVec F S16384x512 .f32) (main_arg2 : FVec F S8x2048x1024 .f32) (main_arg3 : FVec F S1x1024x1024 .f32) (main_arg4 : FVec F S1x1024 .f32) (main_arg5 : FVec F S1x1024x32 .f32) (main_arg6 : FVec F S1x32 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x32 .f32 := Host.absf main_arg5
  let main_cst_0 : FVec F S_ .f32 := constant S_ .f32 0x7F800000#32
  let main_v5 : FVec F S1x1024x32 .f32 := broadcastInDim S1x1024x32 ![] bcast_S_S1x1024x32 main_cst_0
  let main_v6 : IVec S1x1024x32 1 := cmpf .olt main_v4 main_v5
  let main_c_1 : IVec S_ 1 := constantI S_ 1 1#1
  let main_v7 : IVec S_ 1 := (fun x v => Host.reduce IntOp.andi x v reducesTo_S1x1024x32_S_d0_1_2 h_S_) main_v6 main_c_1
  let main_v8 : IVec S_ 1 := andi main_v3 main_v7
  let main_cst_2 : FVec F S_ .f32 := constant S_ .f32 0xFF800000#32
  let main_v9 : FVec F S1x32 .f32 := broadcastInDim S1x32 ![] bcast_S_S1x32 main_cst_2
  let main_v10 : IVec S1x32 1 := cmpf .ogt main_arg6 main_v9
  let main_c_3 : IVec S_ 1 := constantI S_ 1 1#1
  let main_v11 : IVec S_ 1 := (fun x v => Host.reduce IntOp.andi x v reducesTo_S1x32_S_d0_1 h_S_) main_v10 main_c_3
  let main_v12 : IVec S_ 1 := andi main_v8 main_v11
  main_v12
-- ==== Kernel.lean ====
abbrev S304 : Shape := ⟨1, ![304]⟩
abbrev S1 : Shape := ⟨1, ![1]⟩
abbrev S622592x128 : Shape := ⟨2, ![622592, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S2048x128 : Shape := ⟨2, ![2048, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x128 : Shape := ⟨2, ![256, 128]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S622592x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S622592x128, .f32⟩
  | .local _ .vmem, ⟨0, _⟩ => ⟨S2048x128, .f32⟩
  | .local _ .vmem, ⟨1, _⟩ => ⟨S2048x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S2048x128, .f32⟩
  | .local _ .vmem, ⟨11, _⟩ => ⟨S2048x128, .f32⟩
  | .local _ .vmem, ⟨12, _⟩ => ⟨S1024x2048, .bf16⟩
  | .local _ .vmem, ⟨13, _⟩ => ⟨S1024x1024, .bf16⟩
  | .local _ .smem, ⟨0, _⟩ => ⟨S304, .i32⟩
  | .local _ .smem, ⟨1, _⟩ => ⟨S1, .i32⟩
  | .local _ .smem, ⟨2, _⟩ => ⟨S304, .i32⟩
  | _, _ => ⟨S622592x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![304], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.maxsi arg0 c1_i32
  let c1_i32_0 : BitVec 32 := 1#32
  let v3 : BitVec 32 := Scalar.subi v2 c1_i32_0
  let v4 : Index := Scalar.indexCast v3
  ![v4.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.maxsi v0 c1_i32
  let c1_i32_0 : BitVec 32 := 1#32
  let v2 : BitVec 32 := Scalar.subi v1 c1_i32_0
  let v3 : BitVec 32 := Scalar.minsi arg0 v2
  let c0_i32 : BitVec 32 := 0#32
  let c0_i32_1 : BitVec 32 := 0#32
  ![v3.toNat, c0_i32.toNat]

def cc0_transform_1 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S304 : Shape := ⟨1, ![304]⟩
abbrev S1 : Shape := ⟨1, ![1]⟩
abbrev S622592x128 : Shape := ⟨2, ![622592, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S304x256x1024 : Shape := ⟨3, ![304, 256, 1024]⟩
abbrev S_ : Shape := ⟨0, ![]⟩
abbrev S304x1 : Shape := ⟨2, ![304, 1]⟩
abbrev S304x1024x2048 : Shape := ⟨3, ![304, 1024, 2048]⟩
abbrev S304x256x2048 : Shape := ⟨3, ![304, 256, 2048]⟩
abbrev S304x1x2048 : Shape := ⟨3, ![304, 1, 2048]⟩
abbrev S304x1024x1024 : Shape := ⟨3, ![304, 1024, 1024]⟩
abbrev S304x1x1024 : Shape := ⟨3, ![304, 1, 1024]⟩
abbrev S304x1x1 : Shape := ⟨3, ![304, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S304, .i32⟩
  | .hbm, ⟨1, _⟩ => ⟨S1, .i32⟩
  | .hbm, ⟨2, _⟩ => ⟨S304, .i32⟩
  | .hbm, ⟨3, _⟩ => ⟨S622592x128, .f32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S304x256x1024, .f32⟩
  | .hbm, ⟨9, _⟩ => ⟨S_, .i32⟩
  | .hbm, ⟨10, _⟩ => ⟨S304, .i32⟩
  | .hbm, ⟨11, _⟩ => ⟨S304, .i1⟩
  | .hbm, ⟨12, _⟩ => ⟨S_, .i32⟩
  | .hbm, ⟨13, _⟩ => ⟨S304, .i32⟩
  | .hbm, ⟨14, _⟩ => ⟨S304, .i32⟩
  | .hbm, ⟨15, _⟩ => ⟨S304, .i32⟩
  | .hbm, ⟨16, _⟩ => ⟨S304x1, .i32⟩
  | .hbm, ⟨17, _⟩ => ⟨S304x1024x2048, .f32⟩
  | .hbm, ⟨18, _⟩ => ⟨S304x256x2048, .f32⟩
  | .hbm, ⟨19, _⟩ => ⟨S_, .i32⟩
  | .hbm, ⟨20, _⟩ => ⟨S304, .i32⟩
  | .hbm, ⟨21, _⟩ => ⟨S304, .i1⟩
  | .hbm, ⟨22, _⟩ => ⟨S_, .i32⟩
  | .hbm, ⟨23, _⟩ => ⟨S304, .i32⟩
  | .hbm, ⟨24, _⟩ => ⟨S304, .i32⟩
  | .hbm, ⟨25, _⟩ => ⟨S304, .i32⟩
  | .hbm, ⟨26, _⟩ => ⟨S304x1, .i32⟩
  | .hbm, ⟨27, _⟩ => ⟨S304x1x2048, .f32⟩
  | .hbm, ⟨28, _⟩ => ⟨S304x256x2048, .f32⟩
  | .hbm, ⟨29, _⟩ => ⟨S304x256x2048, .f32⟩
  | .hbm, ⟨30, _⟩ => ⟨S304x256x1024, .f32⟩
  | .hbm, ⟨31, _⟩ => ⟨S304x256x1024, .f32⟩
  | .hbm, ⟨32, _⟩ => ⟨S_, .f32⟩
  | .hbm, ⟨33, _⟩ => ⟨S304x256x1024, .f32⟩
  | .hbm, ⟨34, _⟩ => ⟨S304x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S304x256x1024, .f32⟩
  | .hbm, ⟨39, _⟩ => ⟨S304x256x1024, .f32⟩
  | .hbm, ⟨40, _⟩ => ⟨S_, .f32⟩
  | .hbm, ⟨41, _⟩ => ⟨S304x256x1024, .f32⟩
  | .hbm, ⟨42, _⟩ => ⟨S304x256x1024, .f32⟩
  | .hbm, ⟨43, _⟩ => ⟨S_, .f32⟩
  | .hbm, ⟨44, _⟩ => ⟨S304x256x1024, .f32⟩
  | .hbm, ⟨45, _⟩ => ⟨S304x256x1024, .f32⟩
  | .hbm, ⟨46, _⟩ => ⟨S304x256x1024, .f32⟩
  | .hbm, ⟨47, _⟩ => ⟨S304x256x1024, .f32⟩
  | .hbm, ⟨48, _⟩ => ⟨S_, .f32⟩
  | .hbm, ⟨49, _⟩ => ⟨S304x256x1024, .f32⟩
  | .hbm, ⟨50, _⟩ => ⟨S304x256x1024, .f32⟩
  | .hbm, ⟨51, _⟩ => ⟨S_, .f32⟩
  | .hbm, ⟨52, _⟩ => ⟨S304x256x1024, .f32⟩
  | .hbm, ⟨53, _⟩ => ⟨S304x256x1024, .f32⟩
  | .hbm, ⟨54, _⟩ => ⟨S304x256x1024, .f32⟩
  | .hbm, ⟨55, _⟩ => ⟨S_, .f32⟩
  | .hbm, ⟨56, _⟩ => ⟨S304x256x1024, .f32⟩
  | .hbm, ⟨57, _⟩ => ⟨S304x256x1024, .f32⟩
  | .hbm, ⟨58, _⟩ => ⟨S304x256x1024, .f32⟩
  | .hbm, ⟨59, _⟩ => ⟨S_, .i32⟩
  | .hbm, ⟨60, _⟩ => ⟨S304, .i32⟩
  | .hbm, ⟨61, _⟩ => ⟨S304, .i1⟩
  | .hbm, ⟨62, _⟩ => ⟨S_, .i32⟩
  | .hbm, ⟨63, _⟩ => ⟨S304, .i32⟩
  | .hbm, ⟨64, _⟩ => ⟨S304, .i32⟩
  | .hbm, ⟨65, _⟩ => ⟨S304, .i32⟩
  | .hbm, ⟨66, _⟩ => ⟨S304x1, .i32⟩
  | .hbm, ⟨67, _⟩ => ⟨S304x1024x1024, .f32⟩
  | .hbm, ⟨68, _⟩ => ⟨S304x256x1024, .f32⟩
  | .hbm, ⟨69, _⟩ => ⟨S_, .i32⟩
  | .hbm, ⟨70, _⟩ => ⟨S304, .i32⟩
  | .hbm, ⟨71, _⟩ => ⟨S304, .i1⟩
  | .hbm, ⟨72, _⟩ => ⟨S_, .i32⟩
  | .hbm, ⟨73, _⟩ => ⟨S304, .i32⟩
  | .hbm, ⟨74, _⟩ => ⟨S304, .i32⟩
  | .hbm, ⟨75, _⟩ => ⟨S304, .i32⟩
  | .hbm, ⟨76, _⟩ => ⟨S304x1, .i32⟩
  | .hbm, ⟨77, _⟩ => ⟨S304x1x1024, .f32⟩
  | .hbm, ⟨78, _⟩ => ⟨S304x256x1024, .f32⟩
  | .hbm, ⟨79, _⟩ => ⟨S304x256x1024, .f32⟩
  | .hbm, ⟨80, _⟩ => ⟨S304, .i32⟩
  | .hbm, ⟨81, _⟩ => ⟨S_, .i32⟩
  | .hbm, ⟨82, _⟩ => ⟨S304, .i32⟩
  | .hbm, ⟨83, _⟩ => ⟨S304, .i1⟩
  | .hbm, ⟨84, _⟩ => ⟨S304x1x1, .i1⟩
  | .hbm, ⟨85, _⟩ => ⟨S_, .f32⟩
  | .hbm, ⟨86, _⟩ => ⟨S_, .f32⟩
  | .hbm, ⟨87, _⟩ => ⟨S304x256x1024, .i1⟩
  | .hbm, ⟨88, _⟩ => ⟨S304x256x1024, .f32⟩
  | .hbm, ⟨89, _⟩ => ⟨S304x256x1024, .f32⟩
  | .hbm, ⟨90, _⟩ => ⟨S622592x128, .f32⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x3840 : Shape := ⟨3, ![1, 1024, 3840]⟩
abbrev S16384x1024 : Shape := ⟨2, ![16384, 1024]⟩
abbrev S1024x3840 : Shape := ⟨2, ![1024, 3840]⟩
abbrev S16384x2048 : Shape := ⟨2, ![16384, 2048]⟩
abbrev S16384x1792 : Shape := ⟨2, ![16384, 1792]⟩
abbrev S512x1024 : Shape := ⟨2, ![512, 1024]⟩
abbrev S512x2048 : Shape := ⟨2, ![512, 2048]⟩
abbrev S512x1792 : Shape := ⟨2, ![512, 1792]⟩
abbrev S512 : Shape := ⟨1, ![512]⟩
abbrev S512x1 : Shape := ⟨2, ![512, 1]⟩
abbrev S1024x2048 : Shape := ⟨2, ![1024, 2048]⟩
abbrev S1024x1792 : Shape := ⟨2, ![1024, 1792]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3840, .f32⟩
  | .hbm, ⟨3, _⟩ => ⟨S16384x1024, .f32⟩
  | .hbm, ⟨4, _⟩ => ⟨S1024x3840, .f32⟩
  | .hbm, ⟨5, _⟩ => ⟨S1024x3840, .bf16⟩
  | .hbm, ⟨6, _⟩ => ⟨S16384x2048, .f32⟩
  | .hbm, ⟨7, _⟩ => ⟨S16384x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x2048, .f32⟩
  | .local _ .vmem, ⟨5, _⟩ => ⟨S512x2048, .f32⟩
  | .local _ .vmem, ⟨6, _⟩ => ⟨S512x1792, .f32⟩
  | .local _ .vmem, ⟨7, _⟩ => ⟨S512x1792, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x2048x1024 : Shape := ⟨3, ![8, 2048, 1024]⟩
abbrev S1x1024 : Shape := ⟨2, ![1, 1024]⟩
abbrev S1x1024x3840 : Shape := ⟨3, ![1, 1024, 3840]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x3840 : Shape := ⟨2, ![1024, 3840]⟩
abbrev S16384x3840 : Shape := ⟨2, ![16384, 3840]⟩
abbrev S16384x2048 : Shape := ⟨2, ![16384, 2048]⟩
abbrev S16384x1792 : Shape := ⟨2, ![16384, 1792]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3840, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x3840, .f32⟩
  | .hbm, ⟨22, _⟩ => ⟨S16384x3840, .f32⟩
  | .hbm, ⟨23, _⟩ => ⟨S16384x2048, .f32⟩
  | .hbm, ⟨24, _⟩ => ⟨S16384x1792, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S8x2048x1024 : Shape := ⟨3, ![8, 2048, 1024]⟩
abbrev S128x8x1024 : Shape := ⟨3, ![128, 8, 1024]⟩
abbrev S1x1024 : Shape := ⟨2, ![1, 1024]⟩
abbrev S8x1x1024 : Shape := ⟨3, ![8, 1, 1024]⟩
abbrev S8x1024 : Shape := ⟨2, ![8, 1024]⟩
abbrev S128x1x1024 : Shape := ⟨3, ![128, 1, 1024]⟩
abbrev S128x1024 : Shape := ⟨2, ![128, 1024]⟩
abbrev S136x1024 : Shape := ⟨2, ![136, 1024]⟩
abbrev S136 : Shape := ⟨1, ![136]⟩
abbrev S136x1 : Shape := ⟨2, ![136, 1]⟩

abbrev nBuf : Space → Nat
  | .hbm => 9
  | .vmem => 3
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1x1024, .f32⟩
  | .hbm, ⟨3, _⟩ => ⟨S8x1x1024, .f32⟩
  | .hbm, ⟨4, _⟩ => ⟨S8x1024, .f32⟩
  | .hbm, ⟨5, _⟩ => ⟨S128x1x1024, .f32⟩
  | .hbm, ⟨6, _⟩ => ⟨S128x1024, .f32⟩
  | .hbm, ⟨7, _⟩ => ⟨S136x1024, .f32⟩
  | .hbm, ⟨8, _⟩ => ⟨S136x1024, .f32⟩
  | .local _ .vmem, ⟨0, _⟩ => ⟨S136x1024, .f32⟩
  | .local _ .vmem, ⟨1, _⟩ => ⟨S1x1024, .f32⟩
  | .local _ .vmem, ⟨2, _⟩ => ⟨S136x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S136x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference3Ideal.lean ====
abbrev S8x2048x1024 : Shape := ⟨3, ![8, 2048, 1024]⟩
abbrev S128x8x1024 : Shape := ⟨3, ![128, 8, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S128x8 : Shape := ⟨2, ![128, 8]⟩
abbrev S128x8x1 : Shape := ⟨3, ![128, 8, 1]⟩
abbrev S8x1x1024 : Shape := ⟨3, ![8, 1, 1024]⟩
abbrev S8x1024 : Shape := ⟨2, ![8, 1024]⟩
abbrev S128x1x1024 : Shape := ⟨3, ![128, 1, 1024]⟩
abbrev S128x1024 : Shape := ⟨2, ![128, 1024]⟩
abbrev S136x1024 : Shape := ⟨2, ![136, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1x1024, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S128x8x1024, .f32⟩
  | .hbm, ⟨21, _⟩ => ⟨S_, .f32⟩
  | .hbm, ⟨22, _⟩ => ⟨S128x8, .f32⟩
  | .hbm, ⟨23, _⟩ => ⟨S128x8x1, .f32⟩
  | .hbm, ⟨24, _⟩ => ⟨S_, .f32⟩
  | .hbm, ⟨25, _⟩ => ⟨S128x8x1, .f32⟩
  | .hbm, ⟨26, _⟩ => ⟨S128x8x1, .f32⟩
  | .hbm, ⟨27, _⟩ => ⟨S_, .f32⟩
  | .hbm, ⟨28, _⟩ => ⟨S128x8x1, .f32⟩
  | .hbm, ⟨29, _⟩ => ⟨S128x8x1, .f32⟩
  | .hbm, ⟨30, _⟩ => ⟨S128x8x1, .f32⟩
  | .hbm, ⟨31, _⟩ => ⟨S128x8x1024, .f32⟩
  | .hbm, ⟨32, _⟩ => ⟨S128x8x1024, .f32⟩
  | .hbm, ⟨33, _⟩ => ⟨S1024, .f32⟩
  | .hbm, ⟨34, _⟩ => ⟨S1x1x1024, .f32⟩
  | .hbm, ⟨35, _⟩ => ⟨S128x8x1024, .f32⟩
  | .hbm, ⟨36, _⟩ => ⟨S128x8x1024, .f32⟩
  | .hbm, ⟨37, _⟩ => ⟨S8x1x1024, .f32⟩
  | .hbm, ⟨38, _⟩ => ⟨S8x1024, .f32⟩
  | .hbm, ⟨39, _⟩ => ⟨S128x1x1024, .f32⟩
  | .hbm, ⟨40, _⟩ => ⟨S128x1024, .f32⟩
  | .hbm, ⟨41, _⟩ => ⟨S136x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel4.lean ====
abbrev S16384x512 : Shape := ⟨2, ![16384, 512]⟩
abbrev S8x2048x1024 : Shape := ⟨3, ![8, 2048, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S_ : Shape := ⟨0, ![]⟩
abbrev S16384x1024 : Shape := ⟨2, ![16384, 1024]⟩
abbrev S1024x32 : Shape := ⟨2, ![1024, 32]⟩
abbrev S512x512 : Shape := ⟨2, ![512, 512]⟩
abbrev S131072x128 : Shape := ⟨2, ![131072, 128]⟩
abbrev S16384x4 : Shape := ⟨2, ![16384, 4]⟩
abbrev S512x1024 : Shape := ⟨2, ![512, 1024]⟩
abbrev S4096x128 : Shape := ⟨2, ![4096, 128]⟩
abbrev S512x4 : Shape := ⟨2, ![512, 4]⟩
abbrev S512 : Shape := ⟨1, ![512]⟩
abbrev S512x1 : Shape := ⟨2, ![512, 1]⟩
abbrev S512x128 : Shape := ⟨2, ![512, 128]⟩
abbrev S512x32 : Shape := ⟨2, ![512, 32]⟩
abbrev S32 : Shape := ⟨1, ![32]⟩

abbrev nBuf : Space → Nat
  | .hbm => 23
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S8x2048x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S1024x1024, .f32⟩
  | .hbm, ⟨8, _⟩ => ⟨S1024x1024, .bf16⟩
  | .hbm, ⟨9, _⟩ => ⟨S_, .i32⟩
  | .hbm, ⟨10, _⟩ => ⟨S1x32, .i32⟩
  | .hbm, ⟨11, _⟩ => ⟨S16384x1024, .f32⟩
  | .hbm, ⟨12, _⟩ => ⟨S1024x32, .f32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .bf16⟩
  | .hbm, ⟨17, _⟩ => ⟨S16384x1024, .f32⟩
  | .hbm, ⟨18, _⟩ => ⟨S131072x128, .f32⟩
  | .hbm, ⟨19, _⟩ => ⟨S16384x4, .i32⟩
  | .hbm, ⟨20, _⟩ => ⟨S16384x4, .f32⟩
  | .hbm, ⟨21, _⟩ => ⟨S16384x4, .i32⟩
  | .hbm, ⟨22, _⟩ => ⟨S1x32, .i32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x32, .f32⟩
  | .local _ .vmem, ⟨9, _⟩ => ⟨S1x32, .f32⟩
  | .local _ .vmem, ⟨10, _⟩ => ⟨S512x512, .bf16⟩
  | .local _ .vmem, ⟨11, _⟩ => ⟨S1x32, .i32⟩
  | .local _ .vmem, ⟨12, _⟩ => ⟨S512x1024, .f32⟩
  | .local _ .vmem, ⟨13, _⟩ => ⟨S512x1024, .f32⟩
  | .local _ .vmem, ⟨14, _⟩ => ⟨S4096x128, .f32⟩
  | .local _ .vmem, ⟨15, _⟩ => ⟨S4096x128, .f32⟩
  | .local _ .vmem, ⟨16, _⟩ => ⟨S512x4, .i32⟩
  | .local _ .vmem, ⟨17, _⟩ => ⟨S512x4, .i32⟩
  | .local _ .vmem, ⟨18, _⟩ => ⟨S512x4, .f32⟩
  | .local _ .vmem, ⟨19, _⟩ => ⟨S512x4, .f32⟩
  | .local _ .vmem, ⟨20, _⟩ => ⟨S512x4, .i32⟩
  | .local _ .vmem, ⟨21, _⟩ => ⟨S512x4, .i32⟩
  | .local _ .vmem, ⟨22, _⟩ => ⟨S1x32, .i32⟩
  | .local _ .vmem, ⟨23, _⟩ => ⟨S1x32, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x32 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S16384x512 : Shape := ⟨2, ![16384, 512]⟩
abbrev S8x2048x1024 : Shape := ⟨3, ![8, 2048, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S131072x128 : Shape := ⟨2, ![131072, 128]⟩

abbrev nBuf : Space → Nat
  | .hbm => 30
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S8x2048x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S131072x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel5.lean ====
abbrev S16384x512 : Shape := ⟨2, ![16384, 512]⟩
abbrev S8x2048x1024 : Shape := ⟨3, ![8, 2048, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S_ : Shape := ⟨0, ![]⟩
abbrev S16384x1024 : Shape := ⟨2, ![16384, 1024]⟩
abbrev S1024x32 : Shape := ⟨2, ![1024, 32]⟩
abbrev S512x512 : Shape := ⟨2, ![512, 512]⟩
abbrev S131072x128 : Shape := ⟨2, ![131072, 128]⟩
abbrev S16384x4 : Shape := ⟨2, ![16384, 4]⟩
abbrev S512x1024 : Shape := ⟨2, ![512, 1024]⟩
abbrev S4096x128 : Shape := ⟨2, ![4096, 128]⟩
abbrev S512x4 : Shape := ⟨2, ![512, 4]⟩
abbrev S512 : Shape := ⟨1, ![512]⟩
abbrev S512x1 : Shape := ⟨2, ![512, 1]⟩
abbrev S512x128 : Shape := ⟨2, ![512, 128]⟩
abbrev S512x32 : Shape := ⟨2, ![512, 32]⟩
abbrev S32 : Shape := ⟨1, ![32]⟩

abbrev nBuf : Space → Nat
  | .hbm => 23
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S8x2048x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S1024x1024, .f32⟩
  | .hbm, ⟨8, _⟩ => ⟨S1024x1024, .bf16⟩
  | .hbm, ⟨9, _⟩ => ⟨S_, .i32⟩
  | .hbm, ⟨10, _⟩ => ⟨S1x32, .i32⟩
  | .hbm, ⟨11, _⟩ => ⟨S16384x1024, .f32⟩
  | .hbm, ⟨12, _⟩ => ⟨S1024x32, .f32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .bf16⟩
  | .hbm, ⟨17, _⟩ => ⟨S16384x1024, .f32⟩
  | .hbm, ⟨18, _⟩ => ⟨S131072x128, .f32⟩
  | .hbm, ⟨19, _⟩ => ⟨S16384x4, .i32⟩
  | .hbm, ⟨20, _⟩ => ⟨S16384x4, .f32⟩
  | .hbm, ⟨21, _⟩ => ⟨S16384x4, .i32⟩
  | .hbm, ⟨22, _⟩ => ⟨S1x32, .i32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x32, .f32⟩
  | .local _ .vmem, ⟨9, _⟩ => ⟨S1x32, .f32⟩
  | .local _ .vmem, ⟨10, _⟩ => ⟨S512x512, .bf16⟩
  | .local _ .vmem, ⟨11, _⟩ => ⟨S1x32, .i32⟩
  | .local _ .vmem, ⟨12, _⟩ => ⟨S512x1024, .f32⟩
  | .local _ .vmem, ⟨13, _⟩ => ⟨S512x1024, .f32⟩
  | .local _ .vmem, ⟨14, _⟩ => ⟨S4096x128, .f32⟩
  | .local _ .vmem, ⟨15, _⟩ => ⟨S4096x128, .f32⟩
  | .local _ .vmem, ⟨16, _⟩ => ⟨S512x4, .i32⟩
  | .local _ .vmem, ⟨17, _⟩ => ⟨S512x4, .i32⟩
  | .local _ .vmem, ⟨18, _⟩ => ⟨S512x4, .f32⟩
  | .local _ .vmem, ⟨19, _⟩ => ⟨S512x4, .f32⟩
  | .local _ .vmem, ⟨20, _⟩ => ⟨S512x4, .i32⟩
  | .local _ .vmem, ⟨21, _⟩ => ⟨S512x4, .i32⟩
  | .local _ .vmem, ⟨22, _⟩ => ⟨S1x32, .i32⟩
  | .local _ .vmem, ⟨23, _⟩ => ⟨S1x32, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x32 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S16384x512 : Shape := ⟨2, ![16384, 512]⟩
abbrev S8x2048x1024 : Shape := ⟨3, ![8, 2048, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x32 : Shape := ⟨2, ![1024, 32]⟩
abbrev S16384x32 : Shape := ⟨2, ![16384, 32]⟩
abbrev S32 : Shape := ⟨1, ![32]⟩
abbrev S16384x4 : Shape := ⟨2, ![16384, 4]⟩

abbrev nBuf : Space → Nat
  | .hbm => 51
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S8x2048x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1024x32, .f32⟩
  | .hbm, ⟨30, _⟩ => ⟨S16384x32, .f32⟩
  | .hbm, ⟨31, _⟩ => ⟨S32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S16384x4, .f32⟩
  | .hbm, ⟨36, _⟩ => ⟨S16384x4, .i32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S16384x4, .f32⟩
  | .hbm, ⟨44, _⟩ => ⟨S16384x4, .f32⟩
  | .hbm, ⟨45, _⟩ => ⟨S16384x4, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S16384x4, .f32⟩
  | .hbm, ⟨50, _⟩ => ⟨S16384x4, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_values : Ref sig .tc := ⟨.hbm, 35, rfl⟩
abbrev main_indices : Ref sig .tc := ⟨.hbm, 36, rfl⟩
abbrev main_cst_2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel6.lean ====
abbrev S1024x2048 : Shape := ⟨2, ![1024, 2048]⟩
abbrev S2x512 : Shape := ⟨2, ![2, 512]⟩
abbrev S1x128 : Shape := ⟨2, ![1, 128]⟩
abbrev S1x128x4x128x128 : Shape := ⟨5, ![1, 128, 4, 128, 128]⟩
abbrev S128x4x128x128 : Shape := ⟨4, ![128, 4, 128, 128]⟩
abbrev S8x8 : Shape := ⟨2, ![8, 8]⟩
abbrev S1024x512 : Shape := ⟨2, ![1024, 512]⟩
abbrev S128x512 : Shape := ⟨2, ![128, 512]⟩
abbrev S16x4x128x128 : Shape := ⟨4, ![16, 4, 128, 128]⟩
abbrev S64x128x128 : Shape := ⟨3, ![64, 128, 128]⟩
abbrev S1x1x128x128 : Shape := ⟨4, ![1, 1, 128, 128]⟩
abbrev S128x128 : Shape := ⟨2, ![128, 128]⟩
abbrev S1x128x128 : Shape := ⟨3, ![1, 128, 128]⟩
abbrev S512 : Shape := ⟨1, ![512]⟩
abbrev S1x512 : Shape := ⟨2, ![1, 512]⟩
abbrev S8x128 : Shape := ⟨2, ![8, 128]⟩
abbrev S8 : Shape := ⟨1, ![8]⟩
abbrev S8x1 : Shape := ⟨2, ![8, 1]⟩

abbrev nBuf : Space → Nat
  | .hbm => 11
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S2x512, .f32⟩
  | .hbm, ⟨2, _⟩ => ⟨S1x128, .f32⟩
  | .hbm, ⟨3, _⟩ => ⟨S1x128x4x128x128, .f32⟩
  | .hbm, ⟨4, _⟩ => ⟨S128x4x128x128, .f32⟩
  | .hbm, ⟨5, _⟩ => ⟨S8x8, .i32⟩
  | .hbm, ⟨6, _⟩ => ⟨S8x8, .i32⟩
  | .hbm, ⟨7, _⟩ => ⟨S8x8, .i1⟩
  | .hbm, ⟨8, _⟩ => ⟨S8x8, .bf16⟩
  | .hbm, ⟨9, _⟩ => ⟨S1024x512, .f32⟩
  | .hbm, ⟨10, _⟩ => ⟨S128x4x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S2x512, .f32⟩
  | .local _ .vmem, ⟨9, _⟩ => ⟨S1x128, .f32⟩
  | .local _ .vmem, ⟨10, _⟩ => ⟨S8x8, .bf16⟩
  | .local _ .vmem, ⟨11, _⟩ => ⟨S16x4x128x128, .f32⟩
  | .local _ .vmem, ⟨12, _⟩ => ⟨S16x4x128x128, .f32⟩
  | .local _ .vmem, ⟨13, _⟩ => ⟨S128x512, .f32⟩
  | .local _ .vmem, ⟨14, _⟩ => ⟨S128x512, .f32⟩
  | .local _ .vmem, ⟨15, _⟩ => ⟨S16x4x128x128, .f32⟩
  | .local _ .vmem, ⟨16, _⟩ => ⟨S16x4x128x128, .f32⟩
  | .local _ .vmem, ⟨17, _⟩ => ⟨S64x128x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_7 : BitVec 32 := 0#32
  let c16_i32 : BitVec 32 := 16#32
  let v16 : BitVec 32 := Scalar.addi c0_i32_7 c16_i32
  let c1_i32 : BitVec 32 := 1#32
  ⟨c0_i32_7, v16, c1_i32⟩
def k0_mult1 (k0_t1 : Fin k0_t1_loop.trips) : BitVec 32 :=
  let c0_i32_7 : BitVec 32 := 0#32
  let c1_i32 : BitVec 32 := 1#32
  let arg13 : BitVec 32 := Scf.iv c0_i32_7 c1_i32 k0_t1
  let c8_i32 : BitVec 32 := 8#32
  let v37 : BitVec 32 := Scalar.muli arg13 c8_i32
  v37
def k0_off1 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c8_i32 : BitVec 32 := 8#32
  let v37 : BitVec 32 := Scalar.muli arg13 c8_i32
  let v38 : BitVec 32 := v37
  let v39 : Index := Scalar.indexCast v38
  let c0_18 : Index := 0#32
  ![v39.toNat, 0]
def k0_off2 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c8_i32 : BitVec 32 := 8#32
  let v37 : BitVec 32 := Scalar.muli arg13 c8_i32
  let v38 : BitVec 32 := v37
  let v41 : Index := Scalar.indexCast v38
  let c128 : Index := 128#32
  ![v41.toNat, 128]
def k0_off3 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c8_i32 : BitVec 32 := 8#32
  let v37 : BitVec 32 := Scalar.muli arg13 c8_i32
  let v38 : BitVec 32 := v37
  let v43 : Index := Scalar.indexCast v38
  let c256 : Index := 256#32
  ![v43.toNat, 256]
def k0_off4 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let c8_i32 : BitVec 32 := 8#32
  let v37 : BitVec 32 := Scalar.muli arg13 c8_i32
  let v38 : BitVec 32 := v37
  let v45 : Index := Scalar.indexCast v38
  let c384 : Index := 384#32
  ![v45.toNat, 384]
def k0_off5 (k0_t1 : Fin k0_t1_loop.trips) (c0_i32_27 : BitVec 32) : Fin 3 → Nat :=
  let c0_i32_7 : BitVec 32 := 0#32
  let c1_i32 : BitVec 32 := 1#32
  let arg13 : BitVec 32 := Scf.iv c0_i32_7 c1_i32 k0_t1
  let c0_i32_12 : BitVec 32 := 0#32
  let v21 : BitVec 1 := Scalar.cmpi .sgt arg13 c0_i32_12
  let v22 : BitVec 32 := Scalar.extui v21
  let c0_i32_13 : BitVec 32 := 0#32
  let v23 : BitVec 1 := Scalar.cmpi .slt arg13 c0_i32_13
  let v24 : BitVec 32 := Scalar.extui v23
  let v25 : BitVec 32 := Scalar.subi v22 v24
  let c1_i32_11 : BitVec 32 := 1#32
  let c0_i32_14 : BitVec 32 := 0#32
  let v26 : BitVec 1 := Scalar.cmpi .sgt c1_i32_11 c0_i32_14
  let v27 : BitVec 32 := Scalar.extui v26
  let c0_i32_15 : BitVec 32 := 0#32
  let v28 : BitVec 1 := Scalar.cmpi .slt c1_i32_11 c0_i32_15
  let v29 : BitVec 32 := Scalar.extui v28
  let v30 : BitVec 32 := Scalar.subi v27 v29
  let v31 : BitVec 1 := Scalar.cmpi .ne v25 v30
  let v32 : BitVec 32 := Scalar.remsi arg13 c1_i32_11
  let c0_i32_16 : BitVec 32 := 0#32
  let v33 : BitVec 1 := Scalar.cmpi .ne v32 c0_i32_16
  let v34 : BitVec 1 := Scalar.andi v31 v33
  let v20 : BitVec 32 := Scalar.divsi arg13 c1_i32_11
  let c1_i32_17 : BitVec 32 := 1#32
  let v35 : BitVec 32 := Scalar.subi v20 c1_i32_17
  let v36 : BitVec 32 := Scalar.select v34 v35 v20
  let c4_i32 : BitVec 32 := 4#32
  let v67 : BitVec 32 := Scalar.muli v36 c4_i32
  let v68 : BitVec 32 := Scalar.addi v67 c0_i32_27
  let v69 : Index := Scalar.indexCast v68
  let c0_28 : Index := 0#32
  let c0_29 : Index := 0#32
  ![v69.toNat, 0, 0]
def k0_cond2 (i : grid0.Coords) : BitVec 1 :=
  let arg1 : BitVec 32 := BitVec.ofNat 32 (i 1).val
  let c0_i32_9 : BitVec 32 := 0#32
  let v17 : BitVec 1 := Scalar.cmpi .eq arg1 c0_i32_9
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference6Ideal.lean ====
abbrev S1024x2048 : Shape := ⟨2, ![1024, 2048]⟩
abbrev S2x512 : Shape := ⟨2, ![2, 512]⟩
abbrev S1x128 : Shape := ⟨2, ![1, 128]⟩
abbrev S1x128x4x128x128 : Shape := ⟨5, ![1, 128, 4, 128, 128]⟩
abbrev S_ : Shape := ⟨0, ![]⟩
abbrev S512 : Shape := ⟨1, ![512]⟩
abbrev S1x512 : Shape := ⟨2, ![1, 512]⟩
abbrev S128x8x2048 : Shape := ⟨3, ![128, 8, 2048]⟩
abbrev S128x8x512 : Shape := ⟨3, ![128, 8, 512]⟩
abbrev S1x1x512 : Shape := ⟨3, ![1, 1, 512]⟩
abbrev S128x8x4x128 : Shape := ⟨4, ![128, 8, 4, 128]⟩
abbrev S128x4x8x128 : Shape := ⟨4, ![128, 4, 8, 128]⟩
abbrev S128x4x128x128 : Shape := ⟨4, ![128, 4, 128, 128]⟩
abbrev S128x4x1x128 : Shape := ⟨4, ![128, 4, 1, 128]⟩
abbrev S128x4x128 : Shape := ⟨3, ![128, 4, 128]⟩
abbrev S128x4x128x1 : Shape := ⟨4, ![128, 4, 128, 1]⟩

abbrev nBuf : Space → Nat
  | .hbm => 69
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2x512, .f32⟩
  | .hbm, ⟨2, _⟩ => ⟨S1x128, .f32⟩
  | .hbm, ⟨3, _⟩ => ⟨S1x128x4x128x128, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S128x8x2048, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S128x8x512, .f32⟩
  | .hbm, ⟨28, _⟩ => ⟨S128x8x512, .f32⟩
  | .hbm, ⟨29, _⟩ => ⟨S128x8x512, .f32⟩
  | .hbm, ⟨30, _⟩ => ⟨S_, .f32⟩
  | .hbm, ⟨31, _⟩ => ⟨S128x8x512, .f32⟩
  | .hbm, ⟨32, _⟩ => ⟨S128x8x512, .f32⟩
  | .hbm, ⟨33, _⟩ => ⟨S_, .f32⟩
  | .hbm, ⟨34, _⟩ => ⟨S128x8x512, .f32⟩
  | .hbm, ⟨35, _⟩ => ⟨S128x8x512, .f32⟩
  | .hbm, ⟨36, _⟩ => ⟨S1x1x512, .f32⟩
  | .hbm, ⟨37, _⟩ => ⟨S128x8x512, .f32⟩
  | .hbm, ⟨38, _⟩ => ⟨S128x8x512, .f32⟩
  | .hbm, ⟨39, _⟩ => ⟨S1x1x512, .f32⟩
  | .hbm, ⟨40, _⟩ => ⟨S128x8x512, .f32⟩
  | .hbm, ⟨41, _⟩ => ⟨S128x8x512, .f32⟩
  | .hbm, ⟨42, _⟩ => ⟨S_, .f32⟩
  | .hbm, ⟨43, _⟩ => ⟨S128x8x512, .f32⟩
  | .hbm, ⟨44, _⟩ => ⟨S128x8x512, .f32⟩
  | .hbm, ⟨45, _⟩ => ⟨S128x8x4x128, .f32⟩
  | .hbm, ⟨46, _⟩ => ⟨S128x4x8x128, .f32⟩
  | .hbm, ⟨47, _⟩ => ⟨S128x8x512, .f32⟩
  | .hbm, ⟨48, _⟩ => ⟨S128x8x4x128, .f32⟩
  | .hbm, ⟨49, _⟩ => ⟨S128x4x8x128, .f32⟩
  | .hbm, ⟨50, _⟩ => ⟨S128x4x128x128, .f32⟩
  | .hbm, ⟨51, _⟩ => ⟨S128x8x512, .f32⟩
  | .hbm, ⟨52, _⟩ => ⟨S128x8x4x128, .f32⟩
  | .hbm, ⟨53, _⟩ => ⟨S128x4x8x128, .f32⟩
  | .hbm, ⟨54, _⟩ => ⟨S_, .f32⟩
  | .hbm, ⟨55, _⟩ => ⟨S_, .f32⟩
  | .hbm, ⟨56, _⟩ => ⟨S128x4x8x128, .f32⟩
  | .hbm, ⟨57, _⟩ => ⟨S128x4x1x128, .f32⟩
  | .hbm, ⟨58, _⟩ => ⟨S128x4x128, .f32⟩
  | .hbm, ⟨59, _⟩ => ⟨S128x4x128, .f32⟩
  | .hbm, ⟨60, _⟩ => ⟨S128x4x128x1, .f32⟩
  | .hbm, ⟨61, _⟩ => ⟨S128x4x128x128, .f32⟩
  | .hbm, ⟨62, _⟩ => ⟨S128x4x128x128, .f32⟩
  | .hbm, ⟨63, _⟩ => ⟨S128x4x8x128, .f32⟩
  | .hbm, ⟨64, _⟩ => ⟨S128x4x8x128, .f32⟩
  | .hbm, ⟨65, _⟩ => ⟨S128x4x8x128, .f32⟩
  | .hbm, ⟨66, _⟩ => ⟨S128x4x8x128, .f32⟩
  | .hbm, ⟨67, _⟩ => ⟨S128x4x128x128, .f32⟩
  | .hbm, ⟨68, _⟩ => ⟨S128x4x128x128, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call1_call0_cst : Ref sig .tc := ⟨.hbm, 54, rfl⟩
abbrev main_call1_call0_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Proof.FfnIdeal.Body.lean ====
/- The expert block's kernel body, run once for each of its three ways through: a block in use whose expert's weights
   have just been fetched, a block in use whose expert is the one of the block before, a block not in use. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three tables and the two weight buffers, whole. -/
abbrev tabE : Memref sig .tc .smem S304 .i32 := Memref.whole main_arg0
abbrev tabN : Memref sig .tc .smem S1 .i32 := Memref.whole main_arg1
abbrev tabU : Memref sig .tc .smem S304 .i32 := Memref.whole main_arg2
abbrev bufG : Memref sig .tc .vmem S1024x2048 .bf16 := Memref.whole cc0_scratch0
abbrev bufD : Memref sig .tc .vmem S1024x1024 .bf16 := Memref.whole cc0_scratch1

/-- The word of the table of counts: how many blocks are in use. -/
abbrev wordN (T1 : S1.Idx → Elt F .i32) : Elt F .i32 :=
  View.readAt (Elt F) tabN.view (Rect.unit (s := S1) ![0] S1.size inb_S1_S1_0).toLoadRect T1 (Shape.Idx.first (numel1_S1.symm ▸ Nat.one_pos))
/-- The expert of the point's block, -/
abbrev wordE (i : grid0.Coords) (T0 : S304.Idx → Elt F .i32) : Elt F .i32 :=
  View.readAt (Elt F) tabE.view (Rect.unit (s := S304) (k0_off1 i) S1.size (k0_off1_inb i)).toLoadRect T0 (Shape.Idx.first (numel1_S1.symm ▸ Nat.one_pos))
/-- and of the block before it. -/
abbrev wordP (i : grid0.Coords) (T0 : S304.Idx → Elt F .i32) : Elt F .i32 :=
  View.readAt (Elt F) tabE.view (Rect.unit (s := S304) (k0_off2 i) S1.size (k0_off2_inb i)).toLoadRect T0 (Shape.Idx.first (numel1_S1.symm ▸ Nat.one_pos))

/-- The weights are cast anew at the point. -/
abbrev Fresh (i : grid0.Coords) (T0 : S304.Idx → Elt F .i32) (T1 : S1.Idx → Elt F .i32) : Prop :=
  Scalar.cmpi .ne (Scalar.extui (Scalar.andi (Scalar.cmpi .slt (BitVec.ofNat 32 (i 0).val) (wordN T1))
    (Scalar.ori (Scalar.cmpi .eq (BitVec.ofNat 32 (i 0).val) 0#32) (Scalar.cmpi .ne (wordE i T0) (wordP i T0))))) 0#32 = 1#1
/-- The point's block is in use, -/
abbrev Used (i : grid0.Coords) (T1 : S1.Idx → Elt F .i32) : Prop := k0_cond2 i (wordN T1) = 1#1
/-- or it is not. -/
abbrev Unused (i : grid0.Coords) (T1 : S1.Idx → Elt F .i32) : Prop := k0_cond3 i (wordN T1) = 1#1

/-- Row `k` of every tile of eight rows, as the body reads and writes it. -/
abbrev row0 : Rect S2048x128 := ⟨⟨![0, 0], S256x128.size, ![8, 1], inb_S2048x128_S256x128_0_0_s_8_1⟩, spos_8_1⟩
abbrev row1 : Rect S2048x128 := ⟨⟨![1, 0], S256x128.size, ![8, 1], inb_S2048x128_S256x128_1_0_s_8_1⟩, spos_8_1⟩
abbrev row2 : Rect S2048x128 := ⟨⟨![2, 0], S256x128.size, ![8, 1], inb_S2048x128_S256x128_2_0_s_8_1⟩, spos_8_1⟩
abbrev row3 : Rect S2048x128 := ⟨⟨![3, 0], S256x128.size, ![8, 1], inb_S2048x128_S256x128_3_0_s_8_1⟩, spos_8_1⟩
abbrev row4 : Rect S2048x128 := ⟨⟨![4, 0], S256x128.size, ![8, 1], inb_S2048x128_S256x128_4_0_s_8_1⟩, spos_8_1⟩
abbrev row5 : Rect S2048x128 := ⟨⟨![5, 0], S256x128.size, ![8, 1], inb_S2048x128_S256x128_5_0_s_8_1⟩, spos_8_1⟩
abbrev row6 : Rect S2048x128 := ⟨⟨![6, 0], S256x128.size, ![8, 1], inb_S2048x128_S256x128_6_0_s_8_1⟩, spos_8_1⟩
abbrev row7 : Rect S2048x128 := ⟨⟨![7, 0], S256x128.size, ![8, 1], inb_S2048x128_S256x128_7_0_s_8_1⟩, spos_8_1⟩
abbrev allG3 : Rect S1x1024x2048 := Rect.unit (s := S1x1024x2048) ![0, 0, 0] S1x1024x2048.size inb_S1x1024x2048_S1x1024x2048_0_0_0
abbrev allD3 : Rect S1x1024x1024 := Rect.unit (s := S1x1024x1024) ![0, 0, 0] S1x1024x1024.size inb_S1x1024x1024_S1x1024x1024_0_0_0
abbrev allG : Rect S1024x2048 := Rect.unit (s := S1024x2048) ![0, 0] S1024x2048.size inb_S1024x2048_S1024x2048_0_0
abbrev allD : Rect S1024x1024 := Rect.unit (s := S1024x1024) ![0, 0] S1024x1024.size inb_S1024x1024_S1024x1024_0_0
abbrev allBG : Rect S1x1x2048 := Rect.unit (s := S1x1x2048) ![0, 0, 0] S1x1x2048.size inb_S1x1x2048_S1x1x2048_0_0_0
abbrev allBD : Rect S1x1x1024 := Rect.unit (s := S1x1x1024) ![0, 0, 0] S1x1x1024.size inb_S1x1x1024_S1x1x1024_0_0_0
abbrev allY : Rect S2048x128 := Rect.unit (s := S2048x128) ![0, 0] S2048x128.size inb_S2048x128_S2048x128_0_0

/-- The gate's half of the first product, -/
abbrev gateOf (x : Vec F S2048x128 .f32) (g : Vec F S1024x2048 .bf16) (bg : Vec F S1x1x2048 .f32) : FVec F S256x1024 .f32 :=
  k0_pay5 (View.ld x row0) (View.ld x row1) (View.ld x row2) (View.ld x row3) (View.ld x row4) (View.ld x row5) (View.ld x row6) (View.ld x row7) (View.ld g allG) (View.ld bg allBG)
/-- the clipped half it multiplies, -/
abbrev upOf (x : Vec F S2048x128 .f32) (g : Vec F S1024x2048 .bf16) (bg : Vec F S1x1x2048 .f32) : FVec F S256x1024 .f32 :=
  k0_pay6 (View.ld x row0) (View.ld x row1) (View.ld x row2) (View.ld x row3) (View.ld x row4) (View.ld x row5) (View.ld x row6) (View.ld x row7) (View.ld g allG) (View.ld bg allBG)
/-- and one more than the exponential in the gate's sigmoid. -/
abbrev denOf (x : Vec F S2048x128 .f32) (g : Vec F S1024x2048 .bf16) (bg : Vec F S1x1x2048 .f32) : FVec F S256x1024 .f32 :=
  k0_pay7 (View.ld x row0) (View.ld x row1) (View.ld x row2) (View.ld x row3) (View.ld x row4) (View.ld x row5) (View.ld x row6) (View.ld x row7) (View.ld g allG) (View.ld bg allBG)

/-- What the body stores into the block of results: row `k` of every tile is the `k`-th group of 128 columns. -/
abbrev pieces (x : Vec F S2048x128 .f32) (g : Vec F S1024x2048 .bf16) (bg : Vec F S1x1x2048 .f32) (d : Vec F S1024x1024 .bf16) (bd : Vec F S1x1x1024 .f32) : List (View.Piece (Elt F) S2048x128 .f32) :=
  [⟨row7, k0_pay16 (gateOf x g bg) (upOf x g bg) (denOf x g bg) (Scalar.ofBits .f32 0x3F800000#32) (View.ld d allD) (View.ld bd allBD)⟩, ⟨row6, k0_pay15 (gateOf x g bg) (upOf x g bg) (denOf x g bg) (Scalar.ofBits .f32 0x3F800000#32) (View.ld d allD) (View.ld bd allBD)⟩, ⟨row5, k0_pay14 (gateOf x g bg) (upOf x g bg) (denOf x g bg) (Scalar.ofBits .f32 0x3F800000#32) (View.ld d allD) (View.ld bd allBD)⟩, ⟨row4, k0_pay13 (gateOf x g bg) (upOf x g bg) (denOf x g bg) (Scalar.ofBits .f32 0x3F800000#32) (View.ld d allD) (View.ld bd allBD)⟩, ⟨row3, k0_pay12 (gateOf x g bg) (upOf x g bg) (denOf x g bg) (Scalar.ofBits .f32 0x3F800000#32) (View.ld d allD) (View.ld bd allBD)⟩, ⟨row2, k0_pay11 (gateOf x g bg) (upOf x g bg) (denOf x g bg) (Scalar.ofBits .f32 0x3F800000#32) (View.ld d allD) (View.ld bd allBD)⟩, ⟨row1, k0_pay10 (gateOf x g bg) (upOf x g bg) (denOf x g bg) (Scalar.ofBits .f32 0x3F800000#32) (View.ld d allD) (View.ld bd allBD)⟩, ⟨row0, k0_pay9 (gateOf x g bg) (upOf x g bg) (denOf x g bg) (Scalar.ofBits .f32 0x3F800000#32) (View.ld d allD) (View.ld bd allBD)⟩]

/-- A row whose number ends in `k` modulo eight lies in the rectangle of rows `k`. -/
theorem mem_row (o : Fin 2 → ℕ) (h) (hp) (k : ℕ) (ho : o = ![k, 0]) (y : S2048x128.Idx) (hy : (y 0).val % 8 = k) :
    y ∈ (⟨⟨o, S256x128.size, ![8, 1], h⟩, hp⟩ : Rect S2048x128).set := by
  subst ho
  rw [LoadRect.mem_set]
  have h0 : (y 0).val < 2048 := (y 0).isLt
  intro a
  match a with
  | ⟨0, _⟩ => exact ⟨(y 0).val / 8, show (y 0).val / 8 < 256 by omega, show (y 0).val = k + 8 * ((y 0).val / 8) by omega⟩
  | ⟨1, _⟩ => exact ⟨(y 1).val, (y 1).isLt, show (y 1).val = 0 + 1 * (y 1).val by omega⟩

/-- The eight stores leave nothing of the block unwritten. -/
theorem cover (p0 p1 p2 p3 p4 p5 p6 p7 : Vec F S256x128 .f32) (y : S2048x128.Idx) :
    ∃ pc ∈ ([⟨row7, p7⟩, ⟨row6, p6⟩, ⟨row5, p5⟩, ⟨row4, p4⟩, ⟨row3, p3⟩, ⟨row2, p2⟩, ⟨row1, p1⟩, ⟨row0, p0⟩] : List (View.Piece (Elt F) S2048x128 .f32)), y ∈ pc.1.set := by
  have h : (y 0).val % 8 < 8 := Nat.mod_lt _ (by decide)
  rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h0 | h1 | h2 | h3 | h4 | h5 | h6 | h7
  · exact ⟨⟨row0, p0⟩, by simp, mem_row _ _ _ 0 rfl y h0⟩
  · exact ⟨⟨row1, p1⟩, by simp, mem_row _ _ _ 1 rfl y h1⟩
  · exact ⟨⟨row2, p2⟩, by simp, mem_row _ _ _ 2 rfl y h2⟩
  · exact ⟨⟨row3, p3⟩, by simp, mem_row _ _ _ 3 rfl y h3⟩
  · exact ⟨⟨row4, p4⟩, by simp, mem_row _ _ _ 4 rfl y h4⟩
  · exact ⟨⟨row5, p5⟩, by simp, mem_row _ _ _ 5 rfl y h5⟩
  · exact ⟨⟨row6, p6⟩, by simp, mem_row _ _ _ 6 rfl y h6⟩
  · exact ⟨⟨row7, p7⟩, by simp, mem_row _ _ _ 7 rfl y h7⟩

/-- The block of results of a block in use, from its rows, its expert's cast weights and its biases. -/
def blockOut (x : Vec F S2048x128 .f32) (g : Vec F S1024x2048 .bf16) (bg : Vec F S1x1x2048 .f32) (d : Vec F S1024x1024 .bf16) (bd : Vec F S1x1x1024 .f32) : Vec F S2048x128 .f32 :=
  View.canon (pieces x g bg d bd)

/-- The first product's weights as the body keeps them, cast, -/
abbrev castG (wg : Vec F S1x1024x2048 .f32) : Vec F S1024x2048 .bf16 := View.canon [⟨allG, k0_pay1 (View.ld wg allG3)⟩]
/-- and the second's. -/
abbrev castD (wd : Vec F S1x1024x1024 .f32) : Vec F S1024x1024 .bf16 := View.canon [⟨allD, k0_pay2 (View.ld wd allD3)⟩]
/-- The block of results of a block not in use. -/
abbrev blockZero : Vec F S2048x128 .f32 := View.canon [⟨allY, k0_pay3⟩]

set_option maxHeartbeats 4000000 in
/-- A block in use, its expert not the one of the block before: the body casts the weights into its two buffers, then
    uses them. -/
theorem run_fresh (c : Dev nD) (i : grid0.Coords) (arg4 : Memref sig .tc .vmem S2048x128 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S2048x128 .f32) (harg9 : arg9.IsWhole)
    (T0 : S304.Idx → Elt F .i32) (T1 : S1.Idx → Elt F .i32) (T2 : S304.Idx → Elt F .i32)
    (x : Vec F S2048x128 .f32) (wg : Vec F S1x1024x2048 .f32) (bg : Vec F S1x1x2048 .f32) (wd : Vec F S1x1024x1024 .f32) (bd : Vec F S1x1x1024 .f32)
    (hc : Fresh i T0 T1) (hu : Used i T1) (hn : ¬ Unused i T1) (K : PUnit → sProp 𝕄) :
    iprop(owns (c : Thread nD τ) arg4 fullShare x ∗ owns (c : Thread nD τ) arg5 fullShare wg ∗ owns (c : Thread nD τ) arg6 fullShare bg ∗ owns (c : Thread nD τ) arg7 fullShare wd ∗ owns (c : Thread nD τ) arg8 fullShare bd
        ∗ (tabE.view.loc (c : Thread nD τ) ↦{fullShare.right} T0) ∗ (tabN.view.loc (c : Thread nD τ) ↦{fullShare.right} T1) ∗ (tabU.view.loc (c : Thread nD τ) ↦{fullShare.right} T2)
        ∗ (∃ d, owns (c : Thread nD τ) arg9 fullShare d) ∗ (∃ d, owns (c : Thread nD τ) bufG fullShare d) ∗ (∃ d, owns (c : Thread nD τ) bufD fullShare d)
        ∗ (iprop(owns (c : Thread nD τ) arg4 fullShare x ∗ owns (c : Thread nD τ) arg5 fullShare wg ∗ owns (c : Thread nD τ) arg6 fullShare bg ∗ owns (c : Thread nD τ) arg7 fullShare wd ∗ owns (c : Thread nD τ) arg8 fullShare bd
            ∗ (tabE.view.loc (c : Thread nD τ) ↦{fullShare.right} T0) ∗ (tabN.view.loc (c : Thread nD τ) ↦{fullShare.right} T1) ∗ (tabU.view.loc (c : Thread nD τ) ↦{fullShare.right} T2)
            ∗ owns (c : Thread nD τ) arg9 fullShare (blockOut x (castG wg) bg (castD wd) bd) ∗ owns (c : Thread nD τ) bufG fullShare (castG wg) ∗ owns (c : Thread nD τ) bufD fullShare (castD wd)) -∗ K ⟨⟩))
      ⊢ wp frame (wpE (defs₀ (F := F)) Variants.none c none) Set.univ (cc0_moe_ffn i tabE (Memref.isWhole_whole _) tabN (Memref.isWhole_whole _) tabU (Memref.isWhole_whole _) arg4 harg4 arg5 harg5 arg6 harg6 arg7 harg7 arg8 harg8 arg9 harg9 bufG (Memref.isWhole_whole _) bufD (Memref.isWhole_whole _)) K := by
  rw [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, HT0, HT1, HT2, ⟨%d5, %f5, -, H5⟩, ⟨%dG, %fG, -, HG⟩, ⟨%dD, %fD, -, HD⟩, Hk⟩
  have hG : bufG.IsWhole := Memref.isWhole_whole _
  have hD : bufD.IsWhole := Memref.isWhole_whole _
  have hE : tabE.IsWhole := Memref.isWhole_whole _
  have hN : tabN.IsWhole := Memref.isWhole_whole _
  have hU : tabU.IsWhole := Memref.isWhole_whole _
  sl_exec! (disch := first | (guard_target = Scalar.cmpi = _; exact hc) | (guard_target = k0_cond2 _ _ = _; exact hu) | (guard_target = ¬(k0_cond3 _ _ = _); exact hn))
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [HT0]; · iexact HT0
  isplitl [HT1]; · iexact HT1
  isplitl [HT2]; · iexact HT2
  isplitl [H5]
  · iexists _; isplitr
    swap; · iexact H5
    ipureintro
    refine (View.read_writes_eq_canon _ _ _ (cover _ _ _ _ _ _ _ _)).trans ?_
    have eG : bufG.view.readCov [⟨allG, k0_pay1 (View.readAt (Elt F) arg5.view allG3.toLoadRect f1)⟩] allG.toLoadRect
        = View.ld (castG (View.read (Elt F) arg5.view f1)) allG :=
      View.readCov_eq_canon_ld _ _ _ (View.cover_of_tiled [⟨allG, _⟩] S1024x2048.size (by rfl))
    have eD : bufD.view.readCov [⟨allD, k0_pay2 (View.readAt (Elt F) arg7.view allD3.toLoadRect f3)⟩] allD.toLoadRect
        = View.ld (castD (View.read (Elt F) arg7.view f3)) allD :=
      View.readCov_eq_canon_ld _ _ _ (View.cover_of_tiled [⟨allD, _⟩] S1024x1024.size (by rfl))
    subst hf0 hf1 hf2 hf3 hf4
    unfold blockOut pieces gateOf upOf denOf
    rw [← eG, ← eD]
    rfl
  isplitl [HG]
  · iexists _; isplitr
    swap; · iexact HG
    ipureintro; subst hf1; exact View.read_writes_eq_canon _ _ _ (View.cover_of_tiled [⟨allG, _⟩] S1024x2048.size (by rfl))
  iexists _; isplitr
  swap; · iexact HD
  ipureintro; subst hf3; exact View.read_writes_eq_canon _ _ _ (View.cover_of_tiled [⟨allD, _⟩] S1024x1024.size (by rfl))

set_option maxHeartbeats 4000000 in
/-- A block in use, its expert the one of the block before: the weights are already in the buffers. -/
theorem run_reuse (c : Dev nD) (i : grid0.Coords) (arg4 : Memref sig .tc .vmem S2048x128 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S2048x128 .f32) (harg9 : arg9.IsWhole)
    (T0 : S304.Idx → Elt F .i32) (T1 : S1.Idx → Elt F .i32) (T2 : S304.Idx → Elt F .i32)
    (x : Vec F S2048x128 .f32) (wg : Vec F S1x1024x2048 .f32) (bg : Vec F S1x1x2048 .f32) (wd : Vec F S1x1024x1024 .f32) (bd : Vec F S1x1x1024 .f32) (g : Vec F S1024x2048 .bf16) (d : Vec F S1024x1024 .bf16)
    (hc : ¬ Fresh i T0 T1) (hu : Used i T1) (hn : ¬ Unused i T1) (K : PUnit → sProp 𝕄) :
    iprop(owns (c : Thread nD τ) arg4 fullShare x ∗ owns (c : Thread nD τ) arg5 fullShare wg ∗ owns (c : Thread nD τ) arg6 fullShare bg ∗ owns (c : Thread nD τ) arg7 fullShare wd ∗ owns (c : Thread nD τ) arg8 fullShare bd
        ∗ (tabE.view.loc (c : Thread nD τ) ↦{fullShare.right} T0) ∗ (tabN.view.loc (c : Thread nD τ) ↦{fullShare.right} T1) ∗ (tabU.view.loc (c : Thread nD τ) ↦{fullShare.right} T2)
        ∗ (∃ d, owns (c : Thread nD τ) arg9 fullShare d) ∗ owns (c : Thread nD τ) bufG fullShare g ∗ owns (c : Thread nD τ) bufD fullShare d
        ∗ (iprop(owns (c : Thread nD τ) arg4 fullShare x ∗ owns (c : Thread nD τ) arg5 fullShare wg ∗ owns (c : Thread nD τ) arg6 fullShare bg ∗ owns (c : Thread nD τ) arg7 fullShare wd ∗ owns (c : Thread nD τ) arg8 fullShare bd
            ∗ (tabE.view.loc (c : Thread nD τ) ↦{fullShare.right} T0) ∗ (tabN.view.loc (c : Thread nD τ) ↦{fullShare.right} T1) ∗ (tabU.view.loc (c : Thread nD τ) ↦{fullShare.right} T2)
            ∗ owns (c : Thread nD τ) arg9 fullShare (blockOut x g bg d bd) ∗ owns (c : Thread nD τ) bufG fullShare g ∗ owns (c : Thread nD τ) bufD fullShare d) -∗ K ⟨⟩))
      ⊢ wp frame (wpE (defs₀ (F := F)) Variants.none c none) Set.univ (cc0_moe_ffn i tabE (Memref.isWhole_whole _) tabN (Memref.isWhole_whole _) tabU (Memref.isWhole_whole _) arg4 harg4 arg5 harg5 arg6 harg6 arg7 harg7 arg8 harg8 arg9 harg9 bufG (Memref.isWhole_whole _) bufD (Memref.isWhole_whole _)) K := by
  rw [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, HT0, HT1, HT2, ⟨%d5, %f5, -, H5⟩, ⟨%fG, %hfG, HG⟩, ⟨%fD, %hfD, HD⟩, Hk⟩
  have hG : bufG.IsWhole := Memref.isWhole_whole _
  have hD : bufD.IsWhole := Memref.isWhole_whole _
  have hE : tabE.IsWhole := Memref.isWhole_whole _
  have hN : tabN.IsWhole := Memref.isWhole_whole _
  have hU : tabU.IsWhole := Memref.isWhole_whole _
  sl_exec! (disch := first | (guard_target = ¬ (Scalar.cmpi = _); exact hc) | (guard_target = k0_cond2 _ _ = _; exact hu) | (guard_target = ¬(k0_cond3 _ _ = _); exact hn))
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [HT0]; · iexact HT0
  isplitl [HT1]; · iexact HT1
  isplitl [HT2]; · iexact HT2
  isplitl [H5]
  · iexists _; isplitr
    swap; · iexact H5
    ipureintro
    subst hf0 hf2 hf4 hfG hfD
    exact View.read_writes_eq_canon _ _ _ (cover _ _ _ _ _ _ _ _)
  isplitl [HG]
  · iexists _; isplitr
    swap; · iexact HG
    ipureintro; exact hfG
  iexists _; isplitr
  swap; · iexact HD
  ipureintro; exact hfD

set_option maxHeartbeats 4000000 in
/-- A block not in use: the body stores zeros. -/
theorem run_unused (c : Dev nD) (i : grid0.Coords) (arg4 : Memref sig .tc .vmem S2048x128 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S2048x128 .f32) (harg9 : arg9.IsWhole)
    (T0 : S304.Idx → Elt F .i32) (T1 : S1.Idx → Elt F .i32) (T2 : S304.Idx → Elt F .i32)
    (x : Vec F S2048x128 .f32) (wg : Vec F S1x1024x2048 .f32) (bg : Vec F S1x1x2048 .f32) (wd : Vec F S1x1024x1024 .f32) (bd : Vec F S1x1x1024 .f32)
    (hc : ¬ Fresh i T0 T1) (hu : ¬ Used i T1) (hn : Unused i T1) (K : PUnit → sProp 𝕄) :
    iprop(owns (c : Thread nD τ) arg4 fullShare x ∗ owns (c : Thread nD τ) arg5 fullShare wg ∗ owns (c : Thread nD τ) arg6 fullShare bg ∗ owns (c : Thread nD τ) arg7 fullShare wd ∗ owns (c : Thread nD τ) arg8 fullShare bd
        ∗ (tabE.view.loc (c : Thread nD τ) ↦{fullShare.right} T0) ∗ (tabN.view.loc (c : Thread nD τ) ↦{fullShare.right} T1) ∗ (tabU.view.loc (c : Thread nD τ) ↦{fullShare.right} T2)
        ∗ (∃ d, owns (c : Thread nD τ) arg9 fullShare d) ∗ (∃ d, owns (c : Thread nD τ) bufG fullShare d) ∗ (∃ d, owns (c : Thread nD τ) bufD fullShare d)
        ∗ (iprop(owns (c : Thread nD τ) arg4 fullShare x ∗ owns (c : Thread nD τ) arg5 fullShare wg ∗ owns (c : Thread nD τ) arg6 fullShare bg ∗ owns (c : Thread nD τ) arg7 fullShare wd ∗ owns (c : Thread nD τ) arg8 fullShare bd
            ∗ (tabE.view.loc (c : Thread nD τ) ↦{fullShare.right} T0) ∗ (tabN.view.loc (c : Thread nD τ) ↦{fullShare.right} T1) ∗ (tabU.view.loc (c : Thread nD τ) ↦{fullShare.right} T2)
            ∗ owns (c : Thread nD τ) arg9 fullShare blockZero ∗ (∃ d, owns (c : Thread nD τ) bufG fullShare d) ∗ (∃ d, owns (c : Thread nD τ) bufD fullShare d)) -∗ K ⟨⟩))
      ⊢ wp frame (wpE (defs₀ (F := F)) Variants.none c none) Set.univ (cc0_moe_ffn i tabE (Memref.isWhole_whole _) tabN (Memref.isWhole_whole _) tabU (Memref.isWhole_whole _) arg4 harg4 arg5 harg5 arg6 harg6 arg7 harg7 arg8 harg8 arg9 harg9 bufG (Memref.isWhole_whole _) bufD (Memref.isWhole_whole _)) K := by
  rw [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, HT0, HT1, HT2, ⟨%d5, %f5, -, H5⟩, ⟨%dG, %fG, %hfG, HG⟩, ⟨%dD, %fD, %hfD, HD⟩, Hk⟩
  have hG : bufG.IsWhole := Memref.isWhole_whole _
  have hD : bufD.IsWhole := Memref.isWhole_whole _
  have hE : tabE.IsWhole := Memref.isWhole_whole _
  have hN : tabN.IsWhole := Memref.isWhole_whole _
  have hU : tabU.IsWhole := Memref.isWhole_whole _
  sl_exec! (disch := first | (guard_target = ¬ (Scalar.cmpi = _); exact hc) | (guard_target = ¬ (k0_cond2 _ _ = _); exact hu) | (guard_target = k0_cond3 _ _ = _; exact hn))
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [HT0]; · iexact HT0
  isplitl [HT1]; · iexact HT1
  isplitl [HT2]; · iexact HT2
  isplitl [H5]
  · iexists _; isplitr
    swap; · iexact H5
    ipureintro
    exact View.read_writes_eq_canon _ _ _ (View.cover_of_tiled [⟨allY, _⟩] S2048x128.size (by rfl))
  isplitl [HG]
  · iexists dG, fG; isplitr
    swap; · iexact HG
    ipureintro; exact hfG
  iexists dD, fD; isplitr
  swap; · iexact HD
  ipureintro; exact hfD

end Cert.KernelIdeal.Ffn
-- ==== Proof.FfnIdeal.Words.lean ====
/-
  The control of the expert layer's kernel, read off its three tables: which blocks are in use, at which the weights
  are cast anew, and that every block the kernel's windows name lies inside its array.
-/
module

public import proofs.«01_k».proof.Proof.FfnIdeal.Body
public import Idealize.ShloMosaic.Lib.WordCmp

@[expose] public section

set_option maxRecDepth 16384

noncomputable section

namespace Cert.KernelIdeal.Ffn

open Cert.KernelIdeal Cert.KernelIdeal.Gen
open Idealize.ShloMosaic Idealize.ShloMosaic.TcCoe

variable {F : FTy → Type} [FloatOps F]

/-- The one index of the table of counts, and the index of a block in a table of blocks. -/
abbrev ixN : S1.Idx := fun a => match a with | ⟨0, _⟩ => (⟨0, Nat.one_pos⟩ : Fin 1)
abbrev ixB (b : Fin 304) : S304.Idx := fun a => match a with | ⟨0, _⟩ => b

theorem ix304_ext (x y : S304.Idx) (h : (x 0).val = (y 0).val) : x = y := by
  funext a
  match a with
  | ⟨0, _⟩ => exact Fin.ext h

theorem ix1_ext (x y : S1.Idx) : x = y := by
  funext a
  match a with
  | ⟨0, _⟩ => exact Subsingleton.elim (α := Fin 1) _ _

/-- The word of the table of counts is its one element. -/
theorem wordN_eq (T1 : S1.Idx → Elt F .i32) : wordN T1 = T1 ixN := congrArg T1 (ix1_ext _ _)

theorem off1_val (i : grid0.Coords) : k0_off1 i 0 = (i 0).val := by
  have h : (i 0).val < 304 := (i 0).isLt
  show (BitVec.ofNat 32 (i 0).val).toNat = _
  rw [BitVec.toNat_ofNat, Nat.mod_eq_of_lt (by omega)]

/-- The word of a table of blocks at the point is the table's element at the point's coordinate. -/
theorem wordE_eq (i : grid0.Coords) (T0 : S304.Idx → Elt F .i32) : wordE i T0 = T0 (ixB (i 0)) :=
  congrArg T0 (ix304_ext _ _ (by
    show k0_off1 i 0 + 1 * 0 = (i 0).val
    rw [off1_val]; omega))

theorem off2_val (i : grid0.Coords) (h : (i 0).val ≠ 0) : k0_off2 i 0 = (i 0).val - 1 := by
  have hl : (i 0).val < 304 := (i 0).isLt
  have key : ∀ n : Fin 304, n.val ≠ 0 → (Scalar.indexCast (Scalar.subi (Scalar.maxsi (BitVec.ofNat 32 n.val) 1#32) 1#32)).toNat = n.val - 1 := by
    decide +kernel
  exact key (i 0) h

/-- The word of the block before is the table's element at the coordinate before. -/
theorem wordP_eq (i j : grid0.Coords) (T0 : S304.Idx → Elt F .i32) (h : (i 0).val = (j 0).val + 1) : wordP i T0 = T0 (ixB (j 0)) :=
  congrArg T0 (ix304_ext _ _ (by
    show k0_off2 i 0 + 1 * 0 = (j 0).val
    rw [off2_val i (by omega)]; omega))

theorem toInt_coord (i : grid0.Coords) : (BitVec.ofNat 32 (i 0).val).toInt = ((i 0).val : Int) := by
  have h : (i 0).val < 304 := (i 0).isLt
  exact Idealize.ShloMosaic.WordCmp.toInt_ofNat_of_lt (by omega)

theorem bit_used (a n : BitVec 32) : (Scalar.cmpi .ne (Scalar.extui (Scalar.cmpi .slt a n)) 0#32 = 1#1) ↔ a.toInt < n.toInt := by
  have e : ∀ b : Bool, (Scalar.cmpi .ne (Scalar.extui (BitVec.ofBool b)) 0#32 = 1#1) ↔ b = true := by decide
  exact (e _).trans (by rw [BitVec.slt, decide_eq_true_iff])

theorem bit_unused (a n : BitVec 32) : (Scalar.cmpi .ne (Scalar.extui (Scalar.xori (Scalar.cmpi .slt a n) 1#1)) 0#32 = 1#1) ↔ ¬ a.toInt < n.toInt := by
  have e : ∀ b : Bool, (Scalar.cmpi .ne (Scalar.extui (Scalar.xori (BitVec.ofBool b) 1#1)) 0#32 = 1#1) ↔ ¬ b = true := by decide
  exact (e _).trans (by rw [BitVec.slt, decide_eq_true_iff])

theorem bit_fresh (a n e p : BitVec 32) : (Scalar.cmpi .ne (Scalar.extui (Scalar.andi (Scalar.cmpi .slt a n)
    (Scalar.ori (Scalar.cmpi .eq a 0#32) (Scalar.cmpi .ne e p)))) 0#32 = 1#1) ↔ a.toInt < n.toInt ∧ (a = 0#32 ∨ e ≠ p) := by
  have k : ∀ b c d : Bool, (Scalar.cmpi .ne (Scalar.extui (Scalar.andi (BitVec.ofBool b) (Scalar.ori (BitVec.ofBool c) (BitVec.ofBool d)))) 0#32 = 1#1)
      ↔ b = true ∧ (c = true ∨ d = true) := by decide
  refine (k _ _ _).trans ?_
  rw [BitVec.slt, decide_eq_true_iff, beq_iff_eq, bne_iff_ne]

/-- A block is in use when its number is below the count. -/
theorem used_iff (i : grid0.Coords) (T1 : S1.Idx → Elt F .i32) : Used i T1 ↔ ((i 0).val : Int) < BitVec.toInt (T1 ixN) := by
  have h := bit_used (BitVec.ofNat 32 (i 0).val) (wordN T1)
  rw [toInt_coord, wordN_eq] at h
  unfold Used k0_cond2; rw [wordN_eq]; exact h

theorem unused_iff (i : grid0.Coords) (T1 : S1.Idx → Elt F .i32) : Unused i T1 ↔ ¬ ((i 0).val : Int) < BitVec.toInt (T1 ixN) := by
  have h := bit_unused (BitVec.ofNat 32 (i 0).val) (wordN T1)
  rw [toInt_coord, wordN_eq] at h
  unfold Unused k0_cond3; rw [wordN_eq]; exact h

theorem not_unused {i : grid0.Coords} {T1 : S1.Idx → Elt F .i32} (h : Used i T1) : ¬ Unused i T1 :=
  fun hn => (unused_iff i T1).1 hn ((used_iff i T1).1 h)
theorem unused_of_not {i : grid0.Coords} {T1 : S1.Idx → Elt F .i32} (h : ¬ Used i T1) : Unused i T1 :=
  (unused_iff i T1).2 fun hn => h ((used_iff i T1).2 hn)

theorem fresh_iff (i : grid0.Coords) (T0 : S304.Idx → Elt F .i32) (T1 : S1.Idx → Elt F .i32) :
    Fresh i T0 T1 ↔ Used i T1 ∧ (BitVec.ofNat 32 (i 0).val = 0#32 ∨ wordE i T0 ≠ wordP i T0) := by
  have h := bit_fresh (BitVec.ofNat 32 (i 0).val) (wordN T1) (wordE i T0) (wordP i T0)
  rw [toInt_coord] at h
  have e : Used i T1 ↔ ((i 0).val : Int) < BitVec.toInt (wordN T1) := by rw [wordN_eq]; exact used_iff i T1
  exact h.trans (and_congr_left' e.symm)

/-- Where a block in use casts no weights anew, it follows a block in use of the same expert. -/
theorem reuse {i : grid0.Coords} {T0 : S304.Idx → Elt F .i32} {T1 : S1.Idx → Elt F .i32} (hu : Used i T1) (hc : ¬ Fresh i T0 T1) :
    (i 0).val ≠ 0 ∧ ∀ j : grid0.Coords, (i 0).val = (j 0).val + 1 → Used j T1 ∧ T0 (ixB (i 0)) = T0 (ixB (j 0)) := by
  rw [fresh_iff] at hc
  have hc' : ¬ (BitVec.ofNat 32 (i 0).val = 0#32 ∨ wordE i T0 ≠ wordP i T0) := fun h => hc ⟨hu, h⟩
  rw [not_or, not_not] at hc'
  refine ⟨fun h0 => hc'.1 (by rw [h0]), fun j hj => ⟨?_, ?_⟩⟩
  · rw [used_iff] at hu ⊢; omega
  · exact (wordE_eq i T0).symm.trans (hc'.2.trans (wordP_eq i j T0 hj))

/-! ## What is asked of the tables -/

/-- What the kernel asks of its tables: every expert named is one of the 32, and on the blocks in use the table of
    the blocks fetched names the block's own expert. -/
structure Good (T0 : S304.Idx → Elt F .i32) (T1 : S1.Idx → Elt F .i32) (T2 : S304.Idx → Elt F .i32) : Prop where
  lt : ∀ b : Fin 304, BitVec.toNat (T2 (ixB b)) < 32
  eq : ∀ b : Fin 304, (b.val : Int) < BitVec.toInt (T1 ixN) → T2 (ixB b) = T0 (ixB b)

/-- The block of rows fetched is one of the 304, whatever the count. -/
theorem rows_lt (b : Fin 304) (n : BitVec 32) :
    (Scalar.minsi (BitVec.ofNat 32 b.val) (Scalar.subi (Scalar.maxsi n 1#32) 1#32)).toNat < 304 := by
  have hb : (BitVec.ofNat 32 b.val).toInt = (b.val : Int) := Idealize.ShloMosaic.WordCmp.toInt_ofNat_of_lt (by have := b.isLt; omega)
  have hbn : (BitVec.ofNat 32 b.val).toNat = b.val := Idealize.ShloMosaic.WordCmp.toNat_ofNat_of_lt (by have := b.isLt; omega)
  have hbl := b.isLt
  show (if (BitVec.ofNat 32 b.val).slt _ then _ else _ : BitVec 32).toNat < 304
  split
  · omega
  · rename_i h
    have h' : ¬ (BitVec.ofNat 32 b.val).toInt < (Scalar.subi (Scalar.maxsi n 1#32) 1#32).toInt := by
      rw [BitVec.slt, decide_eq_true_iff] at h; exact h
    rw [hb] at h'
    have hp : 0 ≤ (Scalar.subi (Scalar.maxsi n 1#32) 1#32).toInt := by
      show 0 ≤ ((if (1#32).slt n then n else 1#32) - 1#32 : BitVec 32).toInt
      split
      · rename_i hn
        rw [BitVec.slt, decide_eq_true_iff] at hn
        have h1 : (1#32).toInt = 1 := by decide
        rw [h1] at hn
        have hn2 : n.toNat < 2 ^ 31 := by
          rw [BitVec.toInt_eq_toNat_cond] at hn; split at hn <;> omega
        have e : (n - 1#32).toNat = n.toNat - 1 := by
          rw [BitVec.toNat_sub]; rw [BitVec.toInt_eq_toNat_cond] at hn
          have : (1#32).toNat = 1 := by decide
          rw [this]; split at hn <;> omega
        rw [BitVec.toInt_eq_toNat_cond, e]; split <;> omega
      · decide
    rw [BitVec.toInt_eq_toNat_cond] at h' hp
    split at h' <;> omega

end Cert.KernelIdeal.Ffn

end
-- ==== Proof.FfnIdeal.Tables.lean ====
/-
  The expert layer's pipeline at whatever tables its memory holds, provided they are good ones (`Good`): the pipeline is
  admissible there, and each window's block at a point is the part of its array that the tables name.
-/
module

public import proofs.«01_k».proof.Proof.FfnIdeal.Words
public import Idealize.ShloMosaic.Lib.Pointwise.Index

@[expose] public section

set_option maxRecDepth 16384

noncomputable section

namespace Cert.KernelIdeal.Ffn

open Cert.KernelIdeal Cert.KernelIdeal.Gen
open Idealize.ShloMosaic Idealize.ShloMosaic.TcCoe
open Idealize.ShloMosaic.Pipeline (Dat Cfg Window cellOf)

variable {F : FTy → Type} [FloatOps F]

variable (m : (ℓ : Loc nD τ sig) → Buf (Elt F) ℓ)

/-- The three tables as the memory holds them. -/
abbrev tE : S304.Idx → Elt F .i32 := m (((0 : Dev nD) : Thread nD τ).loc main_arg0)
abbrev tN : S1.Idx → Elt F .i32 := m (((0 : Dev nD) : Thread nD τ).loc main_arg1)
abbrev tU : S304.Idx → Elt F .i32 := m (((0 : Dev nD) : Thread nD τ).loc main_arg2)
abbrev tabs : pre0.Contents (Elt F) := fun j => m (((0 : Dev nD) : Thread nD τ).loc (pre0.ref j))
/-- The memory's tables are good ones. -/
abbrev GoodMem : Prop := Good (tE m) (tN m) (tU m)

theorem off1_lt (i : grid0.Coords) : (i 0).val < 304 := (i 0).isLt

/-- The table word that an index map of a weight window reads. -/
theorem tabU_at (i : grid0.Coords) :
    (tabs m).at 2 (Rect.unit (s := S304) (k0_off1 i) S1.size (k0_off1_inb i)) numel1_S1 = tU m (ixB (i 0)) :=
  congrArg (tU m) (ix304_ext _ _ (by
    show k0_off1 i 0 + 1 * 0 = (i 0).val
    rw [off1_val]; omega))

theorem tabN_at (inb : ∀ a, (![0] : Fin 1 → Nat) a + S1.size a ≤ S1.size a) : (tabs m).at 1 (Rect.unit (s := S1) ![0] S1.size inb) numel1_S1 = tN m ixN := congrArg (tN m) (ix1_ext _ _)

/-- The expert whose weights the point's block is given. -/
abbrev expertN (i : grid0.Coords) : ℕ := BitVec.toNat (tU m (ixB (i 0)))
/-- The block of rows the point is given. -/
abbrev rowsN (i : grid0.Coords) : ℕ := (Scalar.minsi (BitVec.ofNat 32 (i 0).val) (Scalar.subi (Scalar.maxsi (tN m ixN : BitVec 32) 1#32) 1#32)).toNat

theorem tr0_eq (i : grid0.Coords) : cc0_transform_0 inb_S1_S1_0 numel1_S1 (tabs m) i = ![rowsN m i, 0] := by
  unfold cc0_transform_0 rowsN; rw [← tabN_at m inb_S1_S1_0]; rfl
theorem tr1_eq (i : grid0.Coords) : cc0_transform_1 k0_off1_inb numel1_S1 (tabs m) i = ![expertN m i, 0, 0] := by
  unfold expertN; rw [← tabU_at]; rfl
theorem tr2_eq (i : grid0.Coords) : cc0_transform_2 k0_off1_inb numel1_S1 (tabs m) i = ![expertN m i, 0, 0] := by
  unfold expertN; rw [← tabU_at]; rfl
theorem tr3_eq (i : grid0.Coords) : cc0_transform_3 k0_off1_inb numel1_S1 (tabs m) i = ![expertN m i, 0, 0] := by
  unfold expertN; rw [← tabU_at]; rfl
theorem tr4_eq (i : grid0.Coords) : cc0_transform_4 k0_off1_inb numel1_S1 (tabs m) i = ![expertN m i, 0, 0] := by
  unfold expertN; rw [← tabU_at]; rfl

variable {m}

/-- Every block that the windows name at good tables lies inside its array. -/
theorem ok_tabs (hg : GoodMem m) : ok0 (F := F) (tabs m) := by
  have hE : ∀ i : grid0.Coords, expertN m i < 32 := fun i => hg.lt (i 0)
  refine ⟨fun i => ⟨?_, .inl rfl⟩, fun i => ⟨?_, .inl rfl⟩, fun i => ⟨?_, .inl rfl⟩, fun i => ⟨?_, .inl rfl⟩, fun i => ⟨?_, .inl rfl⟩⟩
  · have h : rowsN m i < 304 := rows_lt (i 0) _
    rw [tr0_eq]; intro a; fin_cases a
    · show (rowsN m i + 1) * 2048 ≤ 622592; omega
    · show (0 + 1) * 128 ≤ 128; omega
  all_goals (have h := hE i; first | rw [tr1_eq] | rw [tr2_eq] | rw [tr3_eq] | rw [tr4_eq])
  · intro a; fin_cases a
    · show (expertN m i + 1) * 1 ≤ 32; omega
    · show (0 + 1) * 1024 ≤ 1024; omega
    · show (0 + 1) * 2048 ≤ 2048; omega
  · intro a; fin_cases a
    · show (expertN m i + 1) * 1 ≤ 32; omega
    · show (0 + 1) * 1 ≤ 1; omega
    · show (0 + 1) * 2048 ≤ 2048; omega
  · intro a; fin_cases a
    · show (expertN m i + 1) * 1 ≤ 32; omega
    · show (0 + 1) * 1024 ≤ 1024; omega
    · show (0 + 1) * 1024 ≤ 1024; omega
  · intro a; fin_cases a
    · show (expertN m i + 1) * 1 ≤ 32; omega
    · show (0 + 1) * 1 ≤ 1; omega
    · show (0 + 1) * 1024 ≤ 1024; omega

/-- The tables as admissible contents, and the pipeline at them. -/
def adm (hg : GoodMem m) : (pcfg0 (F := F)).Adm := ⟨tabs m, ok_tabs hg⟩
abbrev cfgA (hg : GoodMem m) : Pipeline.Cfg sig Λ₀ := cfg0 (F := F) (adm hg)
abbrev pcs (hg : GoodMem m) : Fin 1 → Pipeline.Cfg sig Λ₀ := Pipeline.pin (pcfgs (F := F)) fun _ => adm hg

/-- Point `t`'s coordinates. -/
abbrev crd (hg : GoodMem m) (t : Fin (cfgA hg).N) : grid0.Coords := (cfgA hg).grid.coords t

theorem coords_val : ∀ t : Fin grid0.N, (grid0.coords t 0).val = t.val := by decide +kernel
theorem crd_val (hg : GoodMem m) (t : Fin (cfgA hg).N) : (crd hg t 0).val = t.val := coords_val t

/-- Window `w`'s block at point `t`, read off its array at launch. -/
def iblk (hg : GoodMem m) (c : Dev nD) (w : Fin (cfgA hg).W) (t : Fin (cfgA hg).N) : (((cfgA hg).win w).xblock (crd hg t)).Idx → Elt F ((cfgA hg).win w).elt :=
  (((cfgA hg).win w).blk t).view.read (Elt F) (m (((cfgA hg).win w).arr.view.loc (c : Thread nD τ)))

/-- The expert of a point, and its block of rows, as numbers of the arrays. -/
abbrev expertOf (hg : GoodMem m) (i : grid0.Coords) : Fin 32 := ⟨expertN m i, hg.lt (i 0)⟩
abbrev rowsOf (m : (ℓ : Loc nD τ sig) → Buf (Elt F) ℓ) (i : grid0.Coords) : Fin 304 := ⟨rowsN m i, rows_lt (i 0) _⟩

/-- The weight windows' blocks at a point: the slices of the point's expert. -/
theorem iblk1_eq (hg : GoodMem m) (c : Dev nD) (t : Fin (cfgA hg).N) (y : S1x1024x2048.Idx) :
    iblk hg c (1 : Fin 6) t y = m ((c : Thread nD τ).loc main_arg4) (ix3 (expertOf hg (crd hg t)) (y 1) (y 2)) := by
  refine congrArg (m ((c : Thread nD τ).loc main_arg4)) (funext fun a => Fin.ext ?_)
  have h := congrFun (tr1_eq m (crd hg t)) a
  have h0 : (y 0).val = 0 := by have := (y 0).isLt; change (y 0).val < 1 at this; omega
  change cc0_transform_1 k0_off1_inb numel1_S1 (tabs m) (crd hg t) a * S1x1024x2048.size a + 1 * (y a).val = _
  rw [h]
  match a with
  | ⟨0, _⟩ => show expertN m (crd hg t) * 1 + 1 * (y 0).val = expertN m (crd hg t); omega
  | ⟨1, _⟩ => show 0 * 1024 + 1 * (y 1).val = (y 1).val; omega
  | ⟨2, _⟩ => show 0 * 2048 + 1 * (y 2).val = (y 2).val; omega

theorem iblk2_eq (hg : GoodMem m) (c : Dev nD) (t : Fin (cfgA hg).N) (y : S1x1x2048.Idx) :
    iblk hg c (2 : Fin 6) t y = m ((c : Thread nD τ).loc main_arg5) (ix3 (expertOf hg (crd hg t)) (y 1) (y 2)) := by
  refine congrArg (m ((c : Thread nD τ).loc main_arg5)) (funext fun a => Fin.ext ?_)
  have h := congrFun (tr2_eq m (crd hg t)) a
  have h0 : (y 0).val = 0 := by have := (y 0).isLt; change (y 0).val < 1 at this; omega
  change cc0_transform_2 k0_off1_inb numel1_S1 (tabs m) (crd hg t) a * S1x1x2048.size a + 1 * (y a).val = _
  rw [h]
  match a with
  | ⟨0, _⟩ => show expertN m (crd hg t) * 1 + 1 * (y 0).val = expertN m (crd hg t); omega
  | ⟨1, _⟩ => show 0 * 1 + 1 * (y 1).val = (y 1).val; omega
  | ⟨2, _⟩ => show 0 * 2048 + 1 * (y 2).val = (y 2).val; omega

theorem iblk3_eq (hg : GoodMem m) (c : Dev nD) (t : Fin (cfgA hg).N) (y : S1x1024x1024.Idx) :
    iblk hg c (3 : Fin 6) t y = m ((c : Thread nD τ).loc main_arg6) (ix3 (expertOf hg (crd hg t)) (y 1) (y 2)) := by
  refine congrArg (m ((c : Thread nD τ).loc main_arg6)) (funext fun a => Fin.ext ?_)
  have h := congrFun (tr3_eq m (crd hg t)) a
  have h0 : (y 0).val = 0 := by have := (y 0).isLt; change (y 0).val < 1 at this; omega
  change cc0_transform_3 k0_off1_inb numel1_S1 (tabs m) (crd hg t) a * S1x1024x1024.size a + 1 * (y a).val = _
  rw [h]
  match a with
  | ⟨0, _⟩ => show expertN m (crd hg t) * 1 + 1 * (y 0).val = expertN m (crd hg t); omega
  | ⟨1, _⟩ => show 0 * 1024 + 1 * (y 1).val = (y 1).val; omega
  | ⟨2, _⟩ => show 0 * 1024 + 1 * (y 2).val = (y 2).val; omega

theorem iblk4_eq (hg : GoodMem m) (c : Dev nD) (t : Fin (cfgA hg).N) (y : S1x1x1024.Idx) :
    iblk hg c (4 : Fin 6) t y = m ((c : Thread nD τ).loc main_arg7) (ix3 (expertOf hg (crd hg t)) (y 1) (y 2)) := by
  refine congrArg (m ((c : Thread nD τ).loc main_arg7)) (funext fun a => Fin.ext ?_)
  have h := congrFun (tr4_eq m (crd hg t)) a
  have h0 : (y 0).val = 0 := by have := (y 0).isLt; change (y 0).val < 1 at this; omega
  change cc0_transform_4 k0_off1_inb numel1_S1 (tabs m) (crd hg t) a * S1x1x1024.size a + 1 * (y a).val = _
  rw [h]
  match a with
  | ⟨0, _⟩ => show expertN m (crd hg t) * 1 + 1 * (y 0).val = expertN m (crd hg t); omega
  | ⟨1, _⟩ => show 0 * 1 + 1 * (y 1).val = (y 1).val; omega
  | ⟨2, _⟩ => show 0 * 1024 + 1 * (y 2).val = (y 2).val; omega

/-- The rows' window's block: row `2048 b + y` of the array, `b` the block of rows the point is given. -/
theorem iblk0_eq (hg : GoodMem m) (c : Dev nD) (t : Fin (cfgA hg).N) (y : S2048x128.Idx) :
    iblk hg c (0 : Fin 6) t y = m ((c : Thread nD τ).loc main_arg3) (ix2 (⟨(rowsOf m (crd hg t)).val * 2048 + (y 0).val, by
      have h := (rowsOf m (crd hg t)).isLt; have h2 : (y 0).val < 2048 := (y 0).isLt; omega⟩ : Fin 622592) (y 1)) := by
  refine congrArg (m ((c : Thread nD τ).loc main_arg3)) (funext fun a => Fin.ext ?_)
  have h := congrFun (tr0_eq m (crd hg t)) a
  change cc0_transform_0 inb_S1_S1_0 numel1_S1 (tabs m) (crd hg t) a * S2048x128.size a + 1 * (y a).val = _
  rw [h]
  match a with
  | ⟨0, _⟩ => show rowsN m (crd hg t) * 2048 + 1 * (y 0).val = rowsN m (crd hg t) * 2048 + (y 0).val; omega
  | ⟨1, _⟩ => show 0 * 128 + 1 * (y 1).val = (y 1).val; omega

/-- Two points in use of one expert are given the same weights. -/
theorem iblk1_congr (hg : GoodMem m) (c : Dev nD) (t s : Fin (cfgA hg).N) (h : tU m (ixB (crd hg t 0)) = tU m (ixB (crd hg s 0))) :
    (iblk hg c (1 : Fin 6) t : S1x1024x2048.Idx → Elt F .f32) = iblk hg c (1 : Fin 6) s := by
  funext y
  rw [iblk1_eq, iblk1_eq, show expertOf hg (crd hg t) = expertOf hg (crd hg s) from Fin.ext (congrArg BitVec.toNat h)]
theorem iblk3_congr (hg : GoodMem m) (c : Dev nD) (t s : Fin (cfgA hg).N) (h : tU m (ixB (crd hg t 0)) = tU m (ixB (crd hg s 0))) :
    (iblk hg c (3 : Fin 6) t : S1x1024x1024.Idx → Elt F .f32) = iblk hg c (3 : Fin 6) s := by
  funext y
  rw [iblk3_eq, iblk3_eq, show expertOf hg (crd hg t) = expertOf hg (crd hg s) from Fin.ext (congrArg BitVec.toNat h)]

end Cert.KernelIdeal.Ffn

end
-- ==== Proof.FfnIdeal.Run.lean ====
/-
  The run of the expert layer's kernel from a memory with good tables: what every grid point leaves in its output
  block, what the two scratch buffers hold between the points, the pipeline's obligation at every point, and the
  launch: every execution terminates, with each array at the contents the pipeline computes.
-/
module

public import proofs.«01_k».proof.Proof.FfnIdeal.Tables
public import Idealize.ShloMosaic.Lib.Pipeline.Quiescent
public import Idealize.ShloMosaic.Lib.Claim
public import Idealize.ShloMosaic.Lib.Affine
public import Idealize.ShloMosaic.Adequacy
public import Idealize.ShloMosaic.Init

@[expose] public section

set_option maxRecDepth 16384
set_option Elab.async false

noncomputable section

namespace Cert.KernelIdeal.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, embedded whole. -/
abbrev EP : Emb (UR sig nD τ) 𝕄 := emb₁

variable {m : (ℓ : Loc nD τ sig) → Buf (Elt F) ℓ} (hg : GoodMem m)

/-- What point `t` leaves in its output block: the expert's network on the point's rows, or zero on an unused block. -/
def outAt (c : Dev nD) (t : Fin (cfgA hg).N) : S2048x128.Idx → Elt F .f32 :=
  open Classical in
  if Used (crd hg t) (tN m) then
    blockOut (iblk hg c (0 : Fin 6) t) (castG (iblk hg c (1 : Fin 6) t)) (iblk hg c (2 : Fin 6) t) (castD (iblk hg c (3 : Fin 6) t)) (iblk hg c (4 : Fin 6) t)
  else blockZero

theorem outAt_used (c : Dev nD) (t : Fin (cfgA hg).N) (h : Used (crd hg t) (tN m)) : outAt hg c t =
    blockOut (iblk hg c (0 : Fin 6) t) (castG (iblk hg c (1 : Fin 6) t)) (iblk hg c (2 : Fin 6) t) (castD (iblk hg c (3 : Fin 6) t)) (iblk hg c (4 : Fin 6) t) := if_pos h
theorem outAt_unused (c : Dev nD) (t : Fin (cfgA hg).N) (h : ¬ Used (crd hg t) (tN m)) : outAt hg c t = blockZero := if_neg h

/-- Between the points: after a point in use, the two scratch buffers hold the point's weights, cast. -/
def heldG (c : Dev nD) (n : ℕ) (g : S1024x2048.Idx → Elt F .bf16) : Prop :=
  ∀ t : Fin (cfgA hg).N, n = t.val + 1 → Used (crd hg t) (tN m) → g = castG (iblk hg c (1 : Fin 6) t)
def heldD (c : Dev nD) (n : ℕ) (d : S1024x1024.Idx → Elt F .bf16) : Prop :=
  ∀ t : Fin (cfgA hg).N, n = t.val + 1 → Used (crd hg t) (tN m) → d = castD (iblk hg c (3 : Fin 6) t)

/-- The invariant: the scratch buffers as said, and half of each table. -/
def Phi (c : Dev nD) (t : Fin ((cfgA hg).N + 1)) : sProp 𝕄 :=
  iprop((∃ g, ⌜heldG hg c t.val g⌝ ∗ owns (c : Thread nD τ) bufG fullShare g) ∗ (∃ d, ⌜heldD hg c t.val d⌝ ∗ owns (c : Thread nD τ) bufD fullShare d)
    ∗ (tabE.view.loc (c : Thread nD τ) ↦{fullShare.right} tE m) ∗ (tabN.view.loc (c : Thread nD τ) ↦{fullShare.right} tN m) ∗ (tabU.view.loc (c : Thread nD τ) ↦{fullShare.right} tU m))

/-- The proof data of the one pipeline on core `c`. -/
def dats (_ : Fin 1) (c : Dev nD) : Dat τ (Elt F) Unit ℕ (UR sig nD τ) ℕ (cfgA hg) c where
  A w := m (((cfgA hg).win w).arr.view.loc (c : Thread nD τ))
  after w t := match w with
    | ⟨0, _⟩ => iblk hg c (0 : Fin 6) t
    | ⟨1, _⟩ => iblk hg c (1 : Fin 6) t
    | ⟨2, _⟩ => iblk hg c (2 : Fin 6) t
    | ⟨3, _⟩ => iblk hg c (3 : Fin 6) t
    | ⟨4, _⟩ => iblk hg c (4 : Fin 6) t
    | ⟨5, _⟩ => outAt hg c t
  Φ t := Phi hg c t
  q _ := fullShare
  owed _ := 0

theorem after0 (c : Dev nD) (t : Fin (cfgA hg).N) : (dats hg 0 c).after (0 : Fin 6) t = iblk hg c (0 : Fin 6) t := rfl
theorem after1 (c : Dev nD) (t : Fin (cfgA hg).N) : (dats hg 0 c).after (1 : Fin 6) t = iblk hg c (1 : Fin 6) t := rfl
theorem after2 (c : Dev nD) (t : Fin (cfgA hg).N) : (dats hg 0 c).after (2 : Fin 6) t = iblk hg c (2 : Fin 6) t := rfl
theorem after3 (c : Dev nD) (t : Fin (cfgA hg).N) : (dats hg 0 c).after (3 : Fin 6) t = iblk hg c (3 : Fin 6) t := rfl
theorem after4 (c : Dev nD) (t : Fin (cfgA hg).N) : (dats hg 0 c).after (4 : Fin 6) t = iblk hg c (4 : Fin 6) t := rfl
theorem after5 (c : Dev nD) (t : Fin (cfgA hg).N) : (dats hg 0 c).after (5 : Fin 6) t = outAt hg c t := rfl

/-- An input window's buffer holds its block when the body runs. -/
theorem before0 (c : Dev nD) (t : Fin (cfgA hg).N) (d) : (dats hg 0 c).before (0 : Fin 6) t d = iblk hg c (0 : Fin 6) t :=
  ((dats hg 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA hg).N) (d) : (dats hg 0 c).before (1 : Fin 6) t d = iblk hg c (1 : Fin 6) t :=
  ((dats hg 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA hg).N) (d) : (dats hg 0 c).before (2 : Fin 6) t d = iblk hg c (2 : Fin 6) t :=
  ((dats hg 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA hg).N) (d) : (dats hg 0 c).before (3 : Fin 6) t d = iblk hg c (3 : Fin 6) t :=
  ((dats hg 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA hg).N) (d) : (dats hg 0 c).before (4 : Fin 6) t d = iblk hg c (4 : Fin 6) t :=
  ((dats hg 0 c).before_in_eq_fetched (4 : Fin 6) rfl (fun _ => rfl) (fun _ _ _ => rfl) (fun t => by rw [after4]; unfold Dat.blockOf iblk; rfl) t d).trans
    (by unfold Dat.fetched Dat.blockOf iblk; rfl)

/-- Every point stores its output block. -/
theorem idle5 (t : Fin (cfgA hg).N) : (cfgA hg).idle (5 : Fin 6) ((cfgA hg).grid.coords t) = false := by
  have key : (!(k0_cond2 (crd hg t) (tN m ixN) == 1#1) && !(k0_cond3 (crd hg t) (tN m ixN) == 1#1)) = false := by
    by_cases h : Used (crd hg t) (tN m)
    · have h' := h; unfold Used at h'; rw [wordN_eq] at h'; rw [h']; rfl
    · have h' := unused_of_not h; unfold Unused at h'; rw [wordN_eq] at h'; rw [h', Bool.and_comm]; rfl
  have e : (tabs m).atD 1 ![0] = tN m ixN := congrArg (tN m) (ix1_ext _ _)
  exact (congrArg (fun v => (!(k0_cond2 (crd hg t) v == 1#1) && !(k0_cond3 (crd hg t) v == 1#1))) e).trans key

/-- Each window's current staging memref at point `t`, and its wholeness. -/
abbrev ms0 (t : Fin (cfgA hg).N) : Memref sig .tc .vmem S2048x128 .f32 := spec0_0.stage ((cfgA hg).slots t (0 : Fin 6))
abbrev hs0 (t : Fin (cfgA hg).N) : (ms0 hg t).IsWhole := hstage0_0 (((cfgA hg).slots t (0 : Fin 6)).cast nbuf0_0)
abbrev ms1 (t : Fin (cfgA hg).N) : Memref sig .tc .vmem S1x1024x2048 .f32 := spec0_1.stage ((cfgA hg).slots t (1 : Fin 6))
abbrev hs1 (t : Fin (cfgA hg).N) : (ms1 hg t).IsWhole := hstage0_1 (((cfgA hg).slots t (1 : Fin 6)).cast nbuf0_1)
abbrev ms2 (t : Fin (cfgA hg).N) : Memref sig .tc .vmem S1x1x2048 .f32 := spec0_2.stage ((cfgA hg).slots t (2 : Fin 6))
abbrev hs2 (t : Fin (cfgA hg).N) : (ms2 hg t).IsWhole := hstage0_2 (((cfgA hg).slots t (2 : Fin 6)).cast nbuf0_2)
abbrev ms3 (t : Fin (cfgA hg).N) : Memref sig .tc .vmem S1x1024x1024 .f32 := spec0_3.stage ((cfgA hg).slots t (3 : Fin 6))
abbrev hs3 (t : Fin (cfgA hg).N) : (ms3 hg t).IsWhole := hstage0_3 (((cfgA hg).slots t (3 : Fin 6)).cast nbuf0_3)
abbrev ms4 (t : Fin (cfgA hg).N) : Memref sig .tc .vmem S1x1x1024 .f32 := spec0_4.stage ((cfgA hg).slots t (4 : Fin 6))
abbrev hs4 (t : Fin (cfgA hg).N) : (ms4 hg t).IsWhole := hstage0_4 (((cfgA hg).slots t (4 : Fin 6)).cast nbuf0_4)
abbrev ms5 (t : Fin (cfgA hg).N) : Memref sig .tc .vmem S2048x128 .f32 := spec0_5.stage ((cfgA hg).slots t (5 : Fin 6))
abbrev hs5 (t : Fin (cfgA hg).N) : (ms5 hg t).IsWhole := hstage0_5 (((cfgA hg).slots t (5 : Fin 6)).cast nbuf0_5)

/-- The body at point `t` on its staging memrefs, as the pipeline calls it. -/
abbrev bodyAt (t : Fin (cfgA hg).N) : Prog (TpuEff nD τ sig (Elt F) Λ₀ .tc) PUnit :=
  cc0_moe_ffn (crd hg t) tabE (Memref.isWhole_whole _) tabN (Memref.isWhole_whole _) tabU (Memref.isWhole_whole _)
    (ms0 hg t) (hs0 hg t) (ms1 hg t) (hs1 hg t) (ms2 hg t) (hs2 hg t) (ms3 hg t) (hs3 hg t) (ms4 hg t) (hs4 hg t) (ms5 hg t) (hs5 hg t)
    (Memref.whole cc0_scratch0) (Memref.isWhole_whole _) (Memref.whole cc0_scratch1) (Memref.isWhole_whole _)

/-- After a point in use, a buffer with the point's cast weights is as the invariant says. -/
theorem heldG_succ (c : Dev nD) (t : Fin (cfgA hg).N) : heldG hg c (t.val + 1) (castG (iblk hg c (1 : Fin 6) t)) := by
  intro s hs _; rw [show s = t from Fin.ext (by omega)]
theorem heldD_succ (c : Dev nD) (t : Fin (cfgA hg).N) : heldD hg c (t.val + 1) (castD (iblk hg c (3 : Fin 6) t)) := by
  intro s hs _; rw [show s = t from Fin.ext (by omega)]
/-- After an unused point nothing is said of it. -/
theorem heldG_unused (c : Dev nD) (t : Fin (cfgA hg).N) (h : ¬ Used (crd hg t) (tN m)) (g) : heldG hg c (t.val + 1) g := by
  intro s hs hu; rw [show s = t from Fin.ext (by omega)] at hu; exact absurd hu h
theorem heldD_unused (c : Dev nD) (t : Fin (cfgA hg).N) (h : ¬ Used (crd hg t) (tN m)) (d) : heldD hg c (t.val + 1) d := by
  intro s hs hu; rw [show s = t from Fin.ext (by omega)] at hu; exact absurd hu h

/-- A point in use that casts nothing finds its expert's weights, cast by the point before. -/
theorem held_reuse (c : Dev nD) (t : Fin (cfgA hg).N) (hu : Used (crd hg t) (tN m)) (hc : ¬ Fresh (crd hg t) (tE m) (tN m)) (g d)
    (hG : heldG hg c t.val g) (hD : heldD hg c t.val d) : g = castG (iblk hg c (1 : Fin 6) t) ∧ d = castD (iblk hg c (3 : Fin 6) t) := by
  obtain ⟨h0, hp⟩ := reuse hu hc
  have hv := crd_val hg t
  have ht : t.val ≠ 0 := by rw [← hv]; exact h0
  let s : Fin (cfgA hg).N := ⟨t.val - 1, lt_of_le_of_lt (Nat.sub_le _ _) t.isLt⟩
  have hs : t.val = s.val + 1 := by show t.val = t.val - 1 + 1; omega
  obtain ⟨hus, he⟩ := hp (crd hg s) (by rw [hv, crd_val hg s]; exact hs)
  have e : tU m (ixB (crd hg t 0)) = tU m (ixB (crd hg s 0)) := by
    rw [hg.eq (crd hg t 0) ((used_iff _ _).1 hu), hg.eq (crd hg s 0) ((used_iff _ _).1 hus)]; exact he
  exact ⟨(hG s hs hus).trans (congrArg castG (iblk1_congr hg c s t e.symm)), (hD s hs hus).trans (congrArg castD (iblk3_congr hg c s t e.symm))⟩

set_option maxHeartbeats 4000000 in
/-- The body's obligation at point `t`: it runs from the invariant and the windows' blocks, restores the invariant
    and leaves the output block as `outAt` says. -/
theorem sound_body (c : Dev nD) (t : Fin (cfgA hg).N) :
    iprop((dats hg 0 c).Φ t.castSucc ∗ (dats hg 0 c).owesAt () t.castSucc
        ∗ (∃ d, owns (c : Thread nD τ) (ms0 hg t) fullShare ((dats hg 0 c).before (0 : Fin 6) t d))
        ∗ (∃ d, owns (c : Thread nD τ) (ms1 hg t) fullShare ((dats hg 0 c).before (1 : Fin 6) t d))
        ∗ (∃ d, owns (c : Thread nD τ) (ms2 hg t) fullShare ((dats hg 0 c).before (2 : Fin 6) t d))
        ∗ (∃ d, owns (c : Thread nD τ) (ms3 hg t) fullShare ((dats hg 0 c).before (3 : Fin 6) t d))
        ∗ (∃ d, owns (c : Thread nD τ) (ms4 hg t) fullShare ((dats hg 0 c).before (4 : Fin 6) t d))
        ∗ (∃ d, owns (c : Thread nD τ) (ms5 hg t) fullShare ((dats hg 0 c).before (5 : Fin 6) t d)))
      ⊢ wp frame (wpE (defs₀ (F := F)) Variants.none c none) Set.univ (bodyAt hg t) fun _ =>
          iprop((dats hg 0 c).Φ t.succ ∗ (dats hg 0 c).owesAt () t.succ
            ∗ bigSep Finset.univ fun w : Fin (cfgA hg).W =>
                match (cfgA hg).idle w ((cfgA hg).grid.coords t) with
                | true =>
                  match ((cfgA hg).win w).flush t with
                  | false => iprop(∃ d, owns (c : Thread nD τ) (((cfgA hg).win w).stage ((cfgA hg).slots t w)) fullShare ((dats hg 0 c).before w t d))
                  | true => owns (c : Thread nD τ) (((cfgA hg).win w).stage ((cfgA hg).slots t w)) fullShare ((dats hg 0 c).after w t)
                | false => owns (c : Thread nD τ) (((cfgA hg).win w).stage ((cfgA hg).slots t w)) fullShare ((dats hg 0 c).after w t)) := by
  rw [bigSep_W0, idle5 hg t]
  simp only [before0, before1, before2, before3, before4, after0, after1, after2, after3, after4, after5]
  rewrite [show (dats hg 0 c).Φ t.succ = Phi hg c t.succ from rfl, show (dats hg 0 c).Φ t.castSucc = Phi hg c t.castSucc from rfl,
    show (dats hg 0 c).owesAt () t.succ = (dats hg 0 c).owesAt () t.castSucc from rfl]
  unfold Phi; simp only [Fin.val_castSucc, Fin.val_succ]
  iintro ⟨⟨⟨%g, %hG, HG⟩, ⟨%dd, %hD, HD⟩, HT0, HT1, HT2⟩, Ho, ⟨%d0, H0⟩, ⟨%d1, H1⟩, ⟨%d2, H2⟩, ⟨%d3, H3⟩, ⟨%d4, H4⟩, ⟨%d5, H5⟩⟩
  by_cases hu : Used (crd hg t) (tN m)
  · rw [outAt_used hg c t hu]
    by_cases hc : Fresh (crd hg t) (tE m) (tN m)
    · iapply (run_fresh c (crd hg t) (ms0 hg t) (hs0 hg t) (ms1 hg t) (hs1 hg t) (ms2 hg t) (hs2 hg t) (ms3 hg t) (hs3 hg t) (ms4 hg t) (hs4 hg t) (ms5 hg t) (hs5 hg t)
        (tE m) (tN m) (tU m) (iblk hg c (0 : Fin 6) t) (iblk hg c (1 : Fin 6) t) (iblk hg c (2 : Fin 6) t) (iblk hg c (3 : Fin 6) t) (iblk hg c (4 : Fin 6) t) hc hu (not_unused hu) _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      isplitl [H5]; · iexists _; iexact H5
      isplitl [HG]; · iexists _; iexact HG
      isplitl [HD]; · iexists _; iexact HD
      iintro ⟨H0, H1, H2, H3, H4, HT0, HT1, HT2, H5, HG, HD⟩
      isplitl [HG HD HT0 HT1 HT2]
      · isplitl [HG]
        · iexists _; isplitr; swap
          · iexact HG
          · ipureintro; exact heldG_succ hg c t
        isplitl [HD]
        · iexists _; isplitr; swap
          · iexact HD
          · ipureintro; exact heldD_succ hg c t
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      iexact H5
    · obtain ⟨eG, eD⟩ := held_reuse hg c t hu hc g dd hG hD
      subst eG; subst eD
      iapply (run_reuse c (crd hg t) (ms0 hg t) (hs0 hg t) (ms1 hg t) (hs1 hg t) (ms2 hg t) (hs2 hg t) (ms3 hg t) (hs3 hg t) (ms4 hg t) (hs4 hg t) (ms5 hg t) (hs5 hg t)
        (tE m) (tN m) (tU m) (iblk hg c (0 : Fin 6) t) (iblk hg c (1 : Fin 6) t) (iblk hg c (2 : Fin 6) t) (iblk hg c (3 : Fin 6) t) (iblk hg c (4 : Fin 6) t) _ _ hc hu (not_unused hu) _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      isplitl [H5]; · iexists _; iexact H5
      isplitl [HG]; · iexact HG
      isplitl [HD]; · iexact HD
      iintro ⟨H0, H1, H2, H3, H4, HT0, HT1, HT2, H5, HG, HD⟩
      isplitl [HG HD HT0 HT1 HT2]
      · isplitl [HG]
        · iexists _; isplitr; swap
          · iexact HG
          · ipureintro; exact heldG_succ hg c t
        isplitl [HD]
        · iexists _; isplitr; swap
          · iexact HD
          · ipureintro; exact heldD_succ hg c t
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      iexact H5
  · rw [outAt_unused hg c t hu]
    have hc : ¬ Fresh (crd hg t) (tE m) (tN m) := fun h => hu ((fresh_iff _ _ _).1 h).1
    iapply (run_unused c (crd hg t) (ms0 hg t) (hs0 hg t) (ms1 hg t) (hs1 hg t) (ms2 hg t) (hs2 hg t) (ms3 hg t) (hs3 hg t) (ms4 hg t) (hs4 hg t) (ms5 hg t) (hs5 hg t)
        (tE m) (tN m) (tU m) (iblk hg c (0 : Fin 6) t) (iblk hg c (1 : Fin 6) t) (iblk hg c (2 : Fin 6) t) (iblk hg c (3 : Fin 6) t) (iblk hg c (4 : Fin 6) t) hc hu (unused_of_not hu) _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [H5]; · iexists _; iexact H5
    isplitl [HG]; · iexists _; iexact HG
    isplitl [HD]; · iexists _; iexact HD
    iintro ⟨H0, H1, H2, H3, H4, HT0, HT1, HT2, H5, ⟨%g', HG⟩, ⟨%d', HD⟩⟩
    isplitl [HG HD HT0 HT1 HT2]
    · isplitl [HG]
      · iexists _; isplitr; swap
        · iexact HG
        · ipureintro; exact heldG_unused hg c t hu _
      isplitl [HD]
      · iexists _; isplitr; swap
        · iexact HD
        · ipureintro; exact heldD_unused hg c t hu _
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats hg 0 c) (defs₀ (F := F)) Variants.none () Set.univ := fun t => by
  rw [bigSep_W0]
  exact sound_body hg c t

/-! ## The launch -/

/-- The rounds library's launch element. -/
def u₀ : UR sig nD τ :=
  initOf (Pipeline.cells (pcs hg) ((launch0 (F := F)).cellOf_inj fun _ => adm hg))
    (Pipeline.launchToks (pcs hg) ((launch0 (F := F)).cellOf_inj fun _ => adm hg))

theorem share_eq (c : Dev nD) (w : Fin (cfgA hg).W) : (dats hg 0 c).share w = fullShare := by unfold Dat.share; split <;> rfl

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point, from the tables and the scratch buffers; -/
theorem phi0_intro (c : Dev nD) :
    iprop(BI.emp ∗ Pipeline.prefHeld pre0 c (fun _ => fullShare.right) (adm hg).1 ∗ Pipeline.scopedRest spec0 c) ⊢ (dats hg 0 c).Φ 0 := by
  rw [prefHeld_eq, scopedRest0_eq, show (dats hg 0 c).Φ 0 = Phi hg c 0 from rfl]
  have hc : c = 0 := Subsingleton.elim _ _
  subst hc
  unfold Phi
  iintro ⟨-, ⟨HT0, HT1, HT2⟩, ⟨%a0, HS0⟩, ⟨%a1, HS1⟩⟩
  isplitl [HS0]
  · iexists a0; isplitr; swap
    · rw [owns_whole]; iexact HS0
    · ipureintro; intro t ht; exact absurd ht (by show ¬ 0 = t.val + 1; omega)
  isplitl [HS1]
  · iexists a1; isplitr; swap
    · rw [owns_whole]; iexact HS1
    · ipureintro; intro t ht; exact absurd ht (by show ¬ 0 = t.val + 1; omega)
  isplitl [HT0]; · iexact HT0
  isplitl [HT1]; · iexact HT1
  iexact HT2

/-- at the last point it gives the scratch buffers back, the tables let go. -/
theorem phiN_exit (c : Dev nD) : (dats hg 0 c).Φ (Fin.last (cfgA hg).N) ⊢ iprop(BI.emp ∗ Pipeline.scopedRest spec0 c) := by
  rw [scopedRest0_eq, show (dats hg 0 c).Φ (Fin.last (cfgA hg).N) = Phi hg c (Fin.last _) from rfl]
  unfold Phi; simp only [owns_whole]
  iintro ⟨⟨%a0, -, HS0⟩, ⟨%a1, -, HS1⟩, -, -, -⟩
  isplitr; · iempintro
  isplitl [HS0]
  · iexists a0; iexact HS0
  iexists a1; iexact HS1

/-- The physical post: every array at what the pipeline computes, every table as it was. -/
def QC : PUnit × MemSt nD τ sig (Elt F) → Prop := fun r =>
  ∀ c : Dev nD, (∀ w : Fin (cfgA hg).W, r.2.mem (((cfgA hg).win w).arr.view.loc (c : Thread nD τ)) = (dats hg 0 c).arrAt w (cfgA hg).N)
    ∧ ∀ j, r.2.mem ((c : Thread nD τ).loc (pre0.ref j)) = (adm hg).1 j

theorem V_pre (c : Dev nD) (j : Fin 3) : m ((c : Thread nD τ).loc (pre0.ref j)) = (adm hg).1 j := by
  have hc : c = 0 := Subsingleton.elim _ _
  subst hc; rfl

variable (ρ : Dev nD → PrngReg)

set_option backward.isDefEq.respectTransparency.types false in
set_option maxHeartbeats 4000000 in
/-- From any memory with good tables and zero counters, every weakly fair execution of @main terminates, and every final
    state has each array at the computed contents, each table as it was, and every semaphore counter at zero. -/
theorem run_main : θ_run (defs (F := F)) (onTc (τ := τ) (main (F := F))) (s₀ m ρ) (fun r => QC hg r ∧ r.2.sem = fun _ => 0) :=
  Pipeline.θ_run_region_noSem_pf_quiescent pcfgs (fun _ => adm hg) (dats hg) () ((launch0 (F := F)).cellOf_inj fun _ => adm hg) (0 : Fin 1)
    (launch0 (F := F)).win.to₀ (launch0 (F := F)).pre EP defs₀ Variants.none m ρ main
    (hbody := fun c => (body_obligation hg c).loose) (hne := (launch0 (F := F)).block_pos)
    (harr := (launch0 (F := F)).arr_whole) (hstage := (launch0 (F := F)).stage_whole) (howed := fun _ _ => rfl)
    (u₀ := u₀ hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hg) (dats hg) 0 (launch0 (F := F)).win.arr_inj c (launch0 (F := F)).arr_whole
      (share_eq hg c) _ _ fun _ => rfl)
    (hpf := V_pre hg)
    (X := fun _ => iprop(emp)) (Y := fun _ => iprop(emp)) (Z := fun _ => iprop(emp))
    (hX := fun c => by rw [unscopedRestP0_eq]; iintro -; isplitr <;> iempintro)
    (hin := phi0_intro hg)
    (hout := phiN_exit hg)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run with its result: every weakly fair execution from good tables terminates with the result array at what the
    pipeline computes, every argument as it was and every semaphore counter at zero. -/
theorem run_result :
    θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem (((cfgA hg).win (5 : Fin 6)).arr.view.loc (c : Thread nD τ)) = (dats hg 0 c).arrAt (5 : Fin 6) (cfgA hg).N)
      ∧ r.2.sem = fun _ => 0) :=
  (θ_run defs _ _).mono (fun r h => ⟨fun c => ⟨⟨((h.1 c).2 0).trans (V_pre hg c 0).symm, ((h.1 c).2 1).trans (V_pre hg c 1).symm, ((h.1 c).2 2).trans (V_pre hg c 2).symm,
      ((h.1 c).1 (0 : Fin 6)).trans ((dats hg 0 c).arrAt_in (0 : Fin 6) rfl _), ((h.1 c).1 (1 : Fin 6)).trans ((dats hg 0 c).arrAt_in (1 : Fin 6) rfl _),
      ((h.1 c).1 (2 : Fin 6)).trans ((dats hg 0 c).arrAt_in (2 : Fin 6) rfl _), ((h.1 c).1 (3 : Fin 6)).trans ((dats hg 0 c).arrAt_in (3 : Fin 6) rfl _),
      ((h.1 c).1 (4 : Fin 6)).trans ((dats hg 0 c).arrAt_in (4 : Fin 6) rfl _)⟩, (h.1 c).1 (5 : Fin 6)⟩, h.2⟩) (run_main hg ρ)

end Cert.KernelIdeal.Ffn

end
-- ==== Proof.FfnVal.Pre.lean ====
/-
  What the precondition says of the three tables, block by block: both tables of experts hold numbers below 32, and they
  agree on the blocks in use.
-/
module

public import proofs.«01_k».proof.Proof.Gen.Pre_experts
public import Idealize.ShloMosaic.Lib.Pointwise
public import Idealize.ShloMosaic.Lib.ReduceAll
public import Idealize.ShloMosaic.Lib.WordArith
public import Idealize.ShloMosaic.Lib.WordCmp

@[expose] public section

set_option maxRecDepth 16384

noncomputable section

namespace Cert.Pre_experts

open Idealize.ShloMosaic

theorem and_one : ∀ a b : BitVec 1, IntOp.andi a b = 1#1 → a = 1#1 ∧ b = 1#1 := by decide
theorem or_one : ∀ a b : BitVec 1, IntOp.ori a b = 1#1 → a = 1#1 ∨ b = 1#1 := by decide
theorem not_one : ∀ a : BitVec 1, ~~~a = 1#1 → a = 0#1 := by decide
theorem bool_one : ∀ b : Bool, BitVec.ofBool b = 1#1 → b = true := by decide
theorem bool_zero : ∀ b : Bool, BitVec.ofBool b = 0#1 → b = false := by decide
theorem sge_one (x y : BitVec 32) (h : IntOp.cmpi .sge x y = 1#1) : y.toInt ≤ x.toInt := of_decide_eq_true (bool_one _ h)
theorem slt_one (x y : BitVec 32) (h : IntOp.cmpi .slt x y = 1#1) : x.toInt < y.toInt := of_decide_eq_true (bool_one _ h)
theorem slt_zero (x y : BitVec 32) (h : IntOp.cmpi .slt x y = 0#1) : ¬ x.toInt < y.toInt := of_decide_eq_false (bool_zero _ h)
theorem eq_one (x y : BitVec 32) (h : IntOp.cmpi .eq x y = 1#1) : x = y := eq_of_beq (bool_one _ h)

instance : Subsingleton S_.Idx := ⟨fun a b => funext fun k => k.elim0⟩

/-- The precondition at block `b`. -/
theorem at_block {F : FTy → Type} [FloatOps F] (be : IVec S304 32) (nb : IVec S1 32) (bu : IVec S304 32) (xs : FVec F S622592x128 .f32) (wg : FVec F S32x1024x2048 .f32) (bg : FVec F S32x1x2048 .f32)
    (wd : FVec F S32x1024x1024 .f32) (bd : FVec F S32x1x1024 .f32) (h : fn (F := F) be nb bu xs wg bg wd bd = fun _ => 1#1) (b : Fin 304) :
    (0 ≤ (be (ix1 b)).toInt ∧ (be (ix1 b)).toInt < 32) ∧ (0 ≤ (bu (ix1 b)).toInt ∧ (bu (ix1 b)).toInt < 32)
      ∧ ((b.val : Int) < (nb (ix1 0)).toInt → bu (ix1 b) = be (ix1 b)) := by
  have h0 := congrFun h (fun k => k.elim0)
  dsimp only [fn, fn_part1] at h0
  have h1 := Host.reduce_andi_all _ _ _ _ _ h0 (ix1 b)
  pointwise at h1
  obtain ⟨h1, hp⟩ := and_one _ _ h1
  obtain ⟨h1, hd⟩ := and_one _ _ h1
  obtain ⟨h1, hc⟩ := and_one _ _ h1
  obtain ⟨ha, hb⟩ := and_one _ _ h1
  refine ⟨⟨sge_one _ _ ha, slt_one _ _ hb⟩, ⟨sge_one _ _ hc, slt_one _ _ hd⟩, fun hlt => ?_⟩
  rcases or_one _ _ hp with hq | hq
  · exact eq_one _ _ hq
  · refine absurd ?_ (slt_zero _ _ (not_one _ hq))
    rw [WordCmp.toInt_ofNat_of_lt (by have := b.isLt; omega)]
    exact hlt

end Cert.Pre_experts
-- ==== Proof.FfnVal.Good.lean ====
/-
  The precondition gives tables the kernel's windows can be laid from, and the experts they name.
-/
module

public import proofs.«01_k».proof.Defs
public import proofs.«01_k».proof.Proof.Ffn.Run
public import proofs.«01_k».proof.Proof.FfnIdeal.Run
public import proofs.«01_k».proof.Proof.FfnVal.Pre

@[expose] public section

set_option maxRecDepth 16384

noncomputable section

namespace Cert.FfnVal

open Idealize.ShloMosaic

/-- A word between 0 and 31 as an integer is below 32 as a natural number. -/
theorem toNat_lt (x : BitVec 32) (h0 : 0 ≤ x.toInt) (h1 : x.toInt < 32) : x.toNat < 32 := by
  rw [BitVec.toInt_eq_toNat_cond] at h0 h1
  have := x.isLt
  split at h1 <;> omega

/-- The precondition's tables are good tables, for the kernel as written -/
theorem good {m : (ℓ : Loc Cert.Kernel.nD Cert.Kernel.τ Cert.Kernel.sig) → Buf (Elt Bits) ℓ} (h : Cert.Pre_Kernel m) : Cert.Kernel.Ffn.GoodMem m where
  lt b := by
    have h := (Cert.Pre_experts.at_block _ _ _ _ _ _ _ _ (h 0) b).2.1
    rw [Cert.Kernel.Ffn.ix304_ext (Cert.Kernel.Ffn.ixB b) (ix1 b) rfl]
    exact toNat_lt _ h.1 h.2
  eq b hb := by
    have h := (Cert.Pre_experts.at_block _ _ _ _ _ _ _ _ (h 0) b).2.2
    rw [Cert.Kernel.Ffn.ix304_ext (Cert.Kernel.Ffn.ixB b) (ix1 b) rfl]
    rw [Cert.Kernel.Ffn.ix1_ext Cert.Kernel.Ffn.ixN (ix1 0)] at hb
    exact h hb
/-- and for the kernel over the extended reals. -/
theorem goodIdeal {m : (ℓ : Loc Cert.KernelIdeal.nD Cert.KernelIdeal.τ Cert.KernelIdeal.sig) → Buf (Elt Ideal) ℓ} (h : Cert.Pre_KernelIdeal m) : Cert.KernelIdeal.Ffn.GoodMem m where
  lt b := by
    have h := (Cert.Pre_experts.at_block _ _ _ _ _ _ _ _ (h 0) b).2.1
    rw [Cert.KernelIdeal.Ffn.ix304_ext (Cert.KernelIdeal.Ffn.ixB b) (ix1 b) rfl]
    exact toNat_lt _ h.1 h.2
  eq b hb := by
    have h := (Cert.Pre_experts.at_block _ _ _ _ _ _ _ _ (h 0) b).2.2
    rw [Cert.KernelIdeal.Ffn.ix304_ext (Cert.KernelIdeal.Ffn.ixB b) (ix1 b) rfl]
    rw [Cert.KernelIdeal.Ffn.ix1_ext Cert.KernelIdeal.Ffn.ixN (ix1 0)] at hb
    exact h hb

/-- The experts the first table names. -/
theorem experts {m : (ℓ : Loc Cert.KernelIdeal.nD Cert.KernelIdeal.τ Cert.KernelIdeal.sig) → Buf (Elt Ideal) ℓ} (h : Cert.Pre_KernelIdeal m) :
    ∃ e : Fin 304 → Fin 32, ∀ b, BitVec.toInt ((m (((0 : Dev Cert.KernelIdeal.nD).tc : Thread Cert.KernelIdeal.nD Cert.KernelIdeal.τ).loc Cert.KernelIdeal.main_arg0) : IVec Cert.KernelIdeal.S304 32) (ix1 b)) = (e b).val := by
  refine Classical.axiomOfChoice (r := fun b (e : Fin 32) => BitVec.toInt ((m (((0 : Dev Cert.KernelIdeal.nD).tc : Thread Cert.KernelIdeal.nD Cert.KernelIdeal.τ).loc Cert.KernelIdeal.main_arg0) : IVec Cert.KernelIdeal.S304 32) (ix1 b)) = (e.val : Int)) fun b => ?_
  obtain ⟨h0, h1⟩ := (Cert.Pre_experts.at_block _ _ _ _ _ _ _ _ (h 0) b).1
  exact ⟨⟨BitVec.toInt ((m (((0 : Dev Cert.KernelIdeal.nD).tc : Thread Cert.KernelIdeal.nD Cert.KernelIdeal.τ).loc Cert.KernelIdeal.main_arg0) : IVec Cert.KernelIdeal.S304 32) (ix1 b)) |>.toNat, (Int.toNat_lt h0).2 h1⟩, (Int.toNat_of_nonneg h0).symm⟩

end Cert.FfnVal
-- ==== Proof.FfnVal.Spec.lean ====
/-
  The expert layer on one row of activations, in plain arithmetic: a first product against the expert's 1024 x 2048
  weights, whose first 1024 columns are the gate and whose last 1024 are the linear half, the clipped gated activation,
  and a second product against the expert's 1024 x 1024 weights, each product with its bias.
-/
module

public import Idealize.ShloMosaic.Lib.Pointwise

@[expose] public section

noncomputable section

namespace Cert.FfnSpec

open Idealize.ShloMosaic

/-- The gated activation of a gate `g` and a linear term `u`: `g` is cut at 7 from above, `u` at -7 and 7, and the result
    is `(u + 1) * g * sigmoid(1.702 * g)`. -/
def act (g u : EReal) : EReal :=
  (min (Ideal.ofBits .f32 0x40E00000#32) (max (Ideal.ofBits .f32 0xC0E00000#32) u) + 1)
    * (min g (Ideal.ofBits .f32 0x40E00000#32)
      * Ideal.div 1 (1 + Ideal.exp (-(Ideal.ofBits .f32 0x3FD9DB23#32 * min g (Ideal.ofBits .f32 0x40E00000#32)))))

/-- Column `f` of the first product of a row, with its bias. -/
def hid (x : Fin 1024 → EReal) (wg : Fin 1024 → Fin 2048 → EReal) (bg : Fin 2048 → EReal) (f : Fin 2048) : EReal :=
  ∑ d : Fin 1024, x d * wg d f + bg f

/-- Column `k` of the layer's output on a row. -/
def out (x : Fin 1024 → EReal) (wg : Fin 1024 → Fin 2048 → EReal) (bg : Fin 2048 → EReal)
    (wd : Fin 1024 → Fin 1024 → EReal) (bd : Fin 1024 → EReal) (k : Fin 1024) : EReal :=
  ∑ f : Fin 1024, act (hid x wg bg ⟨f.val, by omega⟩) (hid x wg bg ⟨1024 + f.val, by omega⟩) * wd f k + bd k

/-- The layer over 304 blocks of 256 rows, a row of 1024 lying in its array as eight rows of 128: block `b` goes through
    expert `e b`, and a block past the `n` blocks in use holds zeros. -/
def layer (n : Int) (e : Fin 304 → Fin 32) (xs : (⟨2, ![622592, 128]⟩ : Shape).Idx → EReal)
    (wg : (⟨3, ![32, 1024, 2048]⟩ : Shape).Idx → EReal) (bg : (⟨3, ![32, 1, 2048]⟩ : Shape).Idx → EReal)
    (wd : (⟨3, ![32, 1024, 1024]⟩ : Shape).Idx → EReal) (bd : (⟨3, ![32, 1, 1024]⟩ : Shape).Idx → EReal)
    (y : Fin 622592) (l : Fin 128) : EReal :=
  have b : Fin 304 := ⟨y.val / 2048, by omega⟩
  if ((y.val / 2048 : ℕ) : Int) < n then
    out (fun d => xs (ix2 ⟨y.val / 2048 * 2048 + y.val / 8 % 256 * 8 + d.val / 128, by omega⟩ ⟨d.val % 128, by omega⟩))
      (fun d f => wg (ix3 (e b) d f)) (fun f => bg (ix3 (e b) 0 f)) (fun f k => wd (ix3 (e b) f k)) (fun k => bd (ix3 (e b) 0 k))
      ⟨y.val % 8 * 128 + l.val, by omega⟩
  else 0

end Cert.FfnSpec
-- ==== Proof.FfnVal.Gather.lean ====
/-
  Rows of a table of matrices picked by a column of numbers, read at an index.
-/
module

public import Idealize.ShloMosaic.Lib.Pointwise

@[expose] public section

namespace Cert.FfnSpec

open Idealize.ShloMosaic

/-- Picking whole matrices out of a table of `N`: the dimension numbers of `table[idx]`. -/
abbrev pick (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Entry `(p, q)` of the matrix picked for `b` is entry `(p, q)` of matrix `e`, where `e` is the number at `b`. -/
theorem pick_at {α : Type} {N A B n : ℕ} (wf) (x : (⟨3, ![N, A, B]⟩ : Shape).Idx → α) (idx : IVec ⟨2, ![n, 1]⟩ 32)
    (b : Fin n) (p : Fin A) (q : Fin B) (e : Fin N) (he : (idx (ix2 b 0)).toInt = e.val) :
    Host.gather (pick N A B n wf) x idx (ix3 b p q) = x (ix3 e p q) := by
  unfold Host.gather
  refine congrArg x (funext fun a => Fin.ext ?_)
  show (pick N A B n wf).start (ix3 b p q) idx a + (pick N A B n wf).batchCoord (ix3 b p q) a + (pick N A B n wf).offCoord (ix3 b p q) a = _
  rw [GatherDims.batchCoord_eq_zero _ _ _ List.not_mem_nil, Nat.add_zero]
  have hsi : ∀ k, (pick N A B n wf).siIdx (ix3 b p q) k = ix2 b 0 := by
    intro k
    funext b'; refine Fin.ext ?_
    match b' with
    | ⟨0, _⟩ => rfl
    | ⟨1, _⟩ => have := k.isLt; show k.val = 0; change k.val < 1 at this; omega
  have h0 : (pick N A B n wf).start (ix3 b p q) idx (0 : Fin 3) + (pick N A B n wf).offCoord (ix3 b p q) (0 : Fin 3) = e.val := by
    rw [GatherDims.offCoord_eq_zero _ _ _ (fun h => ((GatherDims.mem_sKept _ _).mp h).1 (List.mem_singleton.mpr rfl)), Nat.add_zero]
    unfold GatherDims.start
    rw [dif_pos (show (0 : Fin 3) ∈ (pick N A B n wf).startIndexMap from List.mem_singleton.mpr rfl), hsi, he]
    show min ((e.val : Int)).toNat (N - 1) = e.val
    have := e.isLt
    omega
  have h1 : (pick N A B n wf).start (ix3 b p q) idx (1 : Fin 3) + (pick N A B n wf).offCoord (ix3 b p q) (1 : Fin 3) = p.val := by
    unfold GatherDims.start
    rw [dif_neg (show ¬ (1 : Fin 3) ∈ (pick N A B n wf).startIndexMap from (by decide : ¬ (1 : Fin 3) ∈ ([0] : List (Fin 3)))), Nat.zero_add]
    rfl
  have h2 : (pick N A B n wf).start (ix3 b p q) idx (2 : Fin 3) + (pick N A B n wf).offCoord (ix3 b p q) (2 : Fin 3) = q.val := by
    unfold GatherDims.start
    rw [dif_neg (show ¬ (2 : Fin 3) ∈ (pick N A B n wf).startIndexMap from (by decide : ¬ (2 : Fin 3) ∈ ([0] : List (Fin 3)))), Nat.zero_add]
    rfl
  match a with
  | ⟨0, _⟩ => exact h0
  | ⟨1, _⟩ => exact h1
  | ⟨2, _⟩ => exact h2

end Cert.FfnSpec
-- ==== Proof.FfnVal.Ref.lean ====
/-
  The reference's result, read at an index.
-/
module

public import proofs.«01_k».proof.Proof.FfnVal.Spec
public import proofs.«01_k».proof.Proof.FfnVal.Gather
public import proofs.«01_k».proof.Proof.Gen.ReferenceIdeal.Run
public import Idealize.ShloMosaic.Lib.Tactic.CleanTypes
public import Idealize.ShloMosaic.Lib.WordCmp

@[expose] public section

set_option maxRecDepth 16384

noncomputable section

namespace Cert.ReferenceIdeal.FfnVal

open Cert.ReferenceIdeal Cert.ReferenceIdeal.Gen Cert.ReferenceIdeal.Value
open Idealize.ShloMosaic Idealize.ShloMosaic.TcCoe

/-- The column of numbers by which the reference picks the experts' matrices: a negative number would count from the end. -/
abbrev numbers (be : IVec S304 32) : IVec S304x1 32 :=
  broadcastInDim S304x1 ![0] bcast_S304_S304x1_0
    (select (cmpi CmpIPredicate.slt be (broadcastInDim S304 ![] bcast_S_S304 (constantI S_ 32 0#32)))
      (addi be (broadcastInDim S304 ![] bcast_S_S304 (constantI S_ 32 32#32))) be)

/-- Where the table holds a number below 32, so does the column. -/
theorem numbers_at (be : IVec S304 32) (b : Fin 304) (e : Fin 32) (h : (be (ix1 b)).toInt = e.val) :
    (numbers be (ix2 b 0)).toInt = e.val := by
  pointwise [numbers]
  have h0 : IntOp.cmpi .slt (be (ix1 b)) 0#32 = 0#1 := by
    show BitVec.ofBool (decide ((be (ix1 b)).toInt < 0)) = 0#1
    rw [decide_eq_false (by omega)]; rfl
  rw [h0]
  exact h

/-- The reference's result, at an index, is the layer's. -/
theorem res_at (m : (ℓ : Loc nD τ sig) → Buf (Elt Ideal) ℓ) (c : Dev nD) (e : Fin 304 → Fin 32)
    (he : ∀ b, BitVec.toInt ((m ((c.tc : Thread nD τ).loc main_arg0) : IVec S304 32) (ix1 b)) = (e b).val) (y : Fin 622592) (l : Fin 128) :
    res_main_v58 m c (ix2 y l)
      = FfnSpec.layer (BitVec.toInt ((m ((c.tc : Thread nD τ).loc main_arg1) : IVec S1 32) (ix1 0))) e (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) y l := by
  have hT := fun b => numbers_at (m ((c.tc : Thread nD τ).loc main_arg0)) b (e b) (he b)
  have g4 := fun b p q => FfnSpec.pick_at (gather_S32x1024x2048_S304x1_S304x1024x2048_12_0_n_n_0_1_110242048_wf) (m ((c.tc : Thread nD τ).loc main_arg4)) (numbers (m ((c.tc : Thread nD τ).loc main_arg0))) b p q (e b) (hT b)
  have g5 := fun b p q => FfnSpec.pick_at (gather_S32x1x2048_S304x1_S304x1x2048_12_0_n_n_0_1_112048_wf) (m ((c.tc : Thread nD τ).loc main_arg5)) (numbers (m ((c.tc : Thread nD τ).loc main_arg0))) b p q (e b) (hT b)
  have g6 := fun b p q => FfnSpec.pick_at (gather_S32x1024x1024_S304x1_S304x1024x1024_12_0_n_n_0_1_110241024_wf) (m ((c.tc : Thread nD τ).loc main_arg6)) (numbers (m ((c.tc : Thread nD τ).loc main_arg0))) b p q (e b) (hT b)
  have g7 := fun b p q => FfnSpec.pick_at (gather_S32x1x1024_S304x1_S304x1x1024_12_0_n_n_0_1_111024_wf) (m ((c.tc : Thread nD τ).loc main_arg7)) (numbers (m ((c.tc : Thread nD τ).loc main_arg0))) b p q (e b) (hT b)
  unfold res_main_v58
  clean_types
  pointwise [FfnSpec.layer, FfnSpec.out, FfnSpec.hid, FfnSpec.act]
  have h4 : ∀ b p q, Host.gather gather_S32x1024x2048_S304x1_S304x1024x2048_12_0_n_n_0_1_110242048 (m ((c.tc : Thread nD τ).loc main_arg4)) (numbers (m ((c.tc : Thread nD τ).loc main_arg0))) (ix3 b p q) = m ((c.tc : Thread nD τ).loc main_arg4) (ix3 (e b) p q) := g4
  have h5 : ∀ b p q, Host.gather gather_S32x1x2048_S304x1_S304x1x2048_12_0_n_n_0_1_112048 (m ((c.tc : Thread nD τ).loc main_arg5)) (numbers (m ((c.tc : Thread nD τ).loc main_arg0))) (ix3 b p q) = m ((c.tc : Thread nD τ).loc main_arg5) (ix3 (e b) p q) := g5
  have h6 : ∀ b p q, Host.gather gather_S32x1024x1024_S304x1_S304x1024x1024_12_0_n_n_0_1_110241024 (m ((c.tc : Thread nD τ).loc main_arg6)) (numbers (m ((c.tc : Thread nD τ).loc main_arg0))) (ix3 b p q) = m ((c.tc : Thread nD τ).loc main_arg6) (ix3 (e b) p q) := g6
  have h7 : ∀ b p q, Host.gather gather_S32x1x1024_S304x1_S304x1x1024_12_0_n_n_0_1_111024 (m ((c.tc : Thread nD τ).loc main_arg7)) (numbers (m ((c.tc : Thread nD τ).loc main_arg0))) (ix3 b p q) = m ((c.tc : Thread nD τ).loc main_arg7) (ix3 (e b) p q) := g7
  simp only [h4, h5, h6, h7]
  have hb : BitVec.toInt (BitVec.ofNat 32 (y.val / 2048)) = ((y.val / 2048 : ℕ) : Int) := WordCmp.toInt_ofNat_of_lt (by omega)
  by_cases h : ((y.val / 2048 : ℕ) : Int) < BitVec.toInt ((m ((c.tc : Thread nD τ).loc main_arg1) : IVec S1 32) (ix1 0))
  · have hs : IntOp.cmpi .slt (BitVec.ofNat 32 (y.val / 2048)) ((m ((c.tc : Thread nD τ).loc main_arg1) : IVec S1 32) (ix1 0)) = 1#1 := by
      show BitVec.ofBool (decide (BitVec.toInt _ < BitVec.toInt _)) = 1#1
      rw [decide_eq_true (by rw [hb]; exact h)]; rfl
    rw [if_pos h, hs]
    rfl
  · have hs : IntOp.cmpi .slt (BitVec.ofNat 32 (y.val / 2048)) ((m ((c.tc : Thread nD τ).loc main_arg1) : IVec S1 32) (ix1 0)) = 0#1 := by
      show BitVec.ofBool (decide (BitVec.toInt _ < BitVec.toInt _)) = 0#1
      rw [decide_eq_false (by rw [hb]; exact h)]; rfl
    rw [if_neg h, hs]
    show Ideal.ofBits .f32 0#32 = 0
    simp

end Cert.ReferenceIdeal.FfnVal
-- ==== Proof.FfnVal.Pure.lean ====
/-
  The kernel's stored vectors, read at an index: the layer's plain arithmetic on the row.
-/
module

public import proofs.«01_k».proof.Proof.FfnVal.Spec
public import proofs.«01_k».proof.Proof.FfnIdeal.Run

@[expose] public section

set_option maxRecDepth 16384

noncomputable section

namespace Cert.KernelIdeal.FfnVal

open Cert.KernelIdeal Cert.KernelIdeal.Gen Cert.KernelIdeal.Ffn
open Idealize.ShloMosaic Idealize.ShloMosaic.TcCoe

/-- The second product's column at a row, from the activations. -/
theorem pay8_at (g u e : FVec Ideal S256x1024 .f32) (d : Vec Ideal S1024x1024 .bf16) (bd : Vec Ideal S1x1x1024 .f32) (r : Fin 256) (k : Fin 1024) :
    k0_pay8 g u e (Scalar.ofBits .f32 0x3F800000#32) d bd (ix2 r k)
      = ∑ f : Fin 1024, (u (ix2 r f) + 1) * (g (ix2 r f) * Ideal.div 1 (e (ix2 r f))) * d (ix2 f k) + bd (ix3 0 0 k) := by
  pointwise [k0_pay8]

/-- The first product's column at a row, from the row of 1024 that the eight pieces of 128 make. -/
theorem pay4_at (x0 x1 x2 x3 x4 x5 x6 x7 : Vec Ideal S256x128 .f32) (w : Vec Ideal S1024x2048 .bf16) (b : Vec Ideal S1x1x2048 .f32)
    (X : Fin 256 → Fin 1024 → EReal)
    (hX : concatenate S256x1024 1 [⟨S256x128, x0⟩, ⟨S256x128, x1⟩, ⟨S256x128, x2⟩, ⟨S256x128, x3⟩, ⟨S256x128, x4⟩, ⟨S256x128, x5⟩, ⟨S256x128, x6⟩, ⟨S256x128, x7⟩] concatenates_S256x128_S256x128_S256x128_S256x128_S256x128_S256x128_S256x128_S256x128_S256x1024_d1 = fun j => X (j 0) (j 1))
    (r : Fin 256) (f : Fin 2048) :
    k0_pay4 x0 x1 x2 x3 x4 x5 x6 x7 w b (ix2 r f) = ∑ d : Fin 1024, X r d * w (ix2 d f) + b (ix3 0 0 f) := by
  rw [k0_pay4, hX]
  pointwise

/-- Entry `d` of row `r` of a block of activations: a row of 1024 lies in the block as eight rows of 128. -/
def rowAt (x : Vec Ideal S2048x128 .f32) (r : Fin 256) (d : Fin 1024) : EReal :=
  x (ix2 ⟨8 * r.val + d.val / 128, by omega⟩ ⟨d.val % 128, by omega⟩)

/-- The eight strided reads of a block, set side by side, are its rows of 1024. -/
theorem cat_rows (x : Vec Ideal S2048x128 .f32) (j : S256x1024.Idx) (x0 x1 x2 x3 x4 x5 x6 x7 : Vec Ideal S256x128 .f32)
    (h0 : ∀ y : S256x128.Idx, x0 y = x (row0.idx y)) (h1 : ∀ y : S256x128.Idx, x1 y = x (row1.idx y))
    (h2 : ∀ y : S256x128.Idx, x2 y = x (row2.idx y)) (h3 : ∀ y : S256x128.Idx, x3 y = x (row3.idx y))
    (h4 : ∀ y : S256x128.Idx, x4 y = x (row4.idx y)) (h5 : ∀ y : S256x128.Idx, x5 y = x (row5.idx y))
    (h6 : ∀ y : S256x128.Idx, x6 y = x (row6.idx y)) (h7 : ∀ y : S256x128.Idx, x7 y = x (row7.idx y)) :
    concatenate S256x1024 1 [⟨S256x128, x0⟩, ⟨S256x128, x1⟩, ⟨S256x128, x2⟩, ⟨S256x128, x3⟩, ⟨S256x128, x4⟩, ⟨S256x128, x5⟩, ⟨S256x128, x6⟩, ⟨S256x128, x7⟩] concatenates_S256x128_S256x128_S256x128_S256x128_S256x128_S256x128_S256x128_S256x128_S256x1024_d1 j = rowAt x (j 0) (j 1) := by
  idx_vars j
  pointwise [rowAt]
  have hj : j1.val < 1024 := j1.isLt
  have key : ∀ (s : ℕ) (hs : j1.val / 128 = s) (o : Fin 2 → ℕ) (h) (hp) (ho : o = ![s, 0]) (l : Fin 128) (hl : l.val = j1.val - 128 * s),
      x ((⟨⟨o, S256x128.size, ![8, 1], h⟩, hp⟩ : Rect S2048x128).idx (ix2 j0 l)) = x (ix2 ⟨8 * j0.val + j1.val / 128, by omega⟩ ⟨j1.val % 128, by omega⟩) := by
    intro s hs o h hp ho l hl
    subst ho
    refine congrArg x (funext fun a => Fin.ext ?_)
    match a with
    | ⟨0, _⟩ => show s + 8 * j0.val = 8 * j0.val + j1.val / 128; omega
    | ⟨1, _⟩ => show 0 + 1 * l.val = j1.val % 128; omega
  split
  · rw [h0]; exact key 0 (by omega) ![0, 0] inb_S2048x128_S256x128_0_0_s_8_1 spos_8_1 rfl _ (show j1.val = j1.val - 128 * 0 by omega)
  split
  · rw [h1]; exact key 1 (by omega) ![1, 0] inb_S2048x128_S256x128_1_0_s_8_1 spos_8_1 rfl _ (show j1.val - 128 = j1.val - 128 * 1 by omega)
  split
  · rw [h2]; exact key 2 (by omega) ![2, 0] inb_S2048x128_S256x128_2_0_s_8_1 spos_8_1 rfl _ (show j1.val - 128 - 128 = j1.val - 128 * 2 by omega)
  split
  · rw [h3]; exact key 3 (by omega) ![3, 0] inb_S2048x128_S256x128_3_0_s_8_1 spos_8_1 rfl _ (show j1.val - 128 - 128 - 128 = j1.val - 128 * 3 by omega)
  split
  · rw [h4]; exact key 4 (by omega) ![4, 0] inb_S2048x128_S256x128_4_0_s_8_1 spos_8_1 rfl _ (show j1.val - 128 - 128 - 128 - 128 = j1.val - 128 * 4 by omega)
  split
  · rw [h5]; exact key 5 (by omega) ![5, 0] inb_S2048x128_S256x128_5_0_s_8_1 spos_8_1 rfl _ (show j1.val - 128 - 128 - 128 - 128 - 128 = j1.val - 128 * 5 by omega)
  split
  · rw [h6]; exact key 6 (by omega) ![6, 0] inb_S2048x128_S256x128_6_0_s_8_1 spos_8_1 rfl _ (show j1.val - 128 - 128 - 128 - 128 - 128 - 128 = j1.val - 128 * 6 by omega)
  rw [h7]; exact key 7 (by omega) ![7, 0] inb_S2048x128_S256x128_7_0_s_8_1 spos_8_1 rfl _ (show j1.val - 128 - 128 - 128 - 128 - 128 - 128 - 128 = j1.val - 128 * 7 by omega)

/-- The first product of row `r` at column `f`, with its bias. -/
theorem first_at (x : Vec Ideal S2048x128 .f32) (g : Vec Ideal S1024x2048 .bf16) (bg : Vec Ideal S1x1x2048 .f32) (r : Fin 256) (f : Fin 2048) :
    k0_pay4 (F := Ideal) (View.ld x row0) (View.ld x row1) (View.ld x row2) (View.ld x row3) (View.ld x row4) (View.ld x row5) (View.ld x row6) (View.ld x row7) (View.ld g allG) (View.ld bg allBG) (ix2 r f)
      = FfnSpec.hid (rowAt x r) (fun d f => g (ix2 d f)) (fun f => bg (ix3 0 0 f)) f := by
  have h := pay4_at _ _ _ _ _ _ _ _ (View.ld g allG) (View.ld bg allBG) (rowAt x)
    (funext fun j => cat_rows x j (View.ld x row0) (View.ld x row1) (View.ld x row2) (View.ld x row3) (View.ld x row4) (View.ld x row5) (View.ld x row6) (View.ld x row7)
      (fun _ => rfl) (fun _ => rfl) (fun _ => rfl) (fun _ => rfl) (fun _ => rfl) (fun _ => rfl) (fun _ => rfl) (fun _ => rfl)) r f
  pointwise at h
  exact h

/-- The gate of row `r` at column `f`, -/
theorem gate_at (x : Vec Ideal S2048x128 .f32) (g : Vec Ideal S1024x2048 .bf16) (bg : Vec Ideal S1x1x2048 .f32) (r : Fin 256) (f : Fin 1024) :
    gateOf x g bg (ix2 r f) = min (FfnSpec.hid (rowAt x r) (fun d f => g (ix2 d f)) (fun f => bg (ix3 0 0 f)) ⟨f.val, by omega⟩) (Ideal.ofBits .f32 0x40E00000#32) := by
  have h := first_at x g bg r ⟨f.val, by omega⟩
  pointwise [gateOf, k0_pay5]
  exact congrArg (fun z => min z (Ideal.ofBits .f32 0x40E00000#32)) h

/-- the clipped linear term, -/
theorem up_at (x : Vec Ideal S2048x128 .f32) (g : Vec Ideal S1024x2048 .bf16) (bg : Vec Ideal S1x1x2048 .f32) (r : Fin 256) (f : Fin 1024) :
    upOf x g bg (ix2 r f) = min (Ideal.ofBits .f32 0x40E00000#32) (max (Ideal.ofBits .f32 0xC0E00000#32) (FfnSpec.hid (rowAt x r) (fun d f => g (ix2 d f)) (fun f => bg (ix3 0 0 f)) ⟨1024 + f.val, by omega⟩)) := by
  have h := first_at x g bg r ⟨1024 + f.val, by omega⟩
  pointwise [upOf, k0_pay6]
  exact congrArg (fun z => min (Ideal.ofBits .f32 0x40E00000#32) (max (Ideal.ofBits .f32 0xC0E00000#32) z)) h

/-- and the sigmoid's denominator. -/
theorem den_at (x : Vec Ideal S2048x128 .f32) (g : Vec Ideal S1024x2048 .bf16) (bg : Vec Ideal S1x1x2048 .f32) (r : Fin 256) (f : Fin 1024) :
    denOf x g bg (ix2 r f) = 1 + Ideal.exp (-(Ideal.ofBits .f32 0x3FD9DB23#32 * gateOf x g bg (ix2 r f))) := by
  pointwise [denOf, k0_pay7]
  rw [zero_sub]

/-- What the kernel computes on a row of a block in use is the layer's output on the row. -/
theorem row_at (x : Vec Ideal S2048x128 .f32) (g : Vec Ideal S1024x2048 .bf16) (bg : Vec Ideal S1x1x2048 .f32)
    (d : Vec Ideal S1024x1024 .bf16) (bd : Vec Ideal S1x1x1024 .f32) (r : Fin 256) (k : Fin 1024) :
    k0_pay8 (F := Ideal) (gateOf x g bg) (upOf x g bg) (denOf x g bg) (Scalar.ofBits .f32 0x3F800000#32) (View.ld d allD) (View.ld bd allBD) (ix2 r k)
      = FfnSpec.out (rowAt x r) (fun d f => g (ix2 d f)) (fun f => bg (ix3 0 0 f)) (fun f k => d (ix2 f k)) (fun k => bd (ix3 0 0 k)) k := by
  rw [pay8_at]
  simp only [den_at, gate_at, up_at]
  pointwise
  rfl

/-- The stored block at its row `8 r + s` and lane `l`: column `128 s + l` of the layer's output on row `r`. -/
theorem block_at (x : Vec Ideal S2048x128 .f32) (g : Vec Ideal S1024x2048 .bf16) (bg : Vec Ideal S1x1x2048 .f32)
    (d : Vec Ideal S1024x1024 .bf16) (bd : Vec Ideal S1x1x1024 .f32) (y : S2048x128.Idx) (r : Fin 256) (k : Fin 1024)
    (hr : (y 0).val / 8 = r.val) (hk : 128 * ((y 0).val % 8) + (y 1).val = k.val) :
    blockOut x g bg d bd y
      = FfnSpec.out (rowAt x r) (fun d f => g (ix2 d f)) (fun f => bg (ix3 0 0 f)) (fun f k => d (ix2 f k)) (fun k => bd (ix3 0 0 k)) k := by
  unfold blockOut
  rw [← row_at]
  refine View.canon_eq_of_allAt _ _ _ (cover _ _ _ _ _ _ _ _ y) ?_
  have h : ∀ (s : ℕ) (o : Fin 2 → ℕ) (h) (hp) (ho : o = ![s, 0]) (z : S256x128.Idx) (hs : s < 8)
      (hz : (⟨⟨o, S256x128.size, ![8, 1], h⟩, hp⟩ : Rect S2048x128).emb z = y) (W : FVec Ideal S256x1024 .f32),
      W (ix2 ⟨(z 0).val, (z 0).isLt⟩ ⟨128 * s + (z 1).val, by have : (z 1).val < 128 := (z 1).isLt; omega⟩) = W (ix2 r k) := by
    intro s o h hp ho z hs hz W
    subst ho
    have e0 : s + 8 * (z 0).val = (y 0).val := congrArg (fun q => (q 0).val) hz
    have e1 : 0 + 1 * (z 1).val = (y 1).val := congrArg (fun q => (q 1).val) hz
    have l0 : (z 0).val < 256 := (z 0).isLt
    have l1 : (z 1).val < 128 := (z 1).isLt
    refine congrArg W ((ix2_inj ..).2 ⟨Fin.ext ?_, Fin.ext ?_⟩)
    · show (z 0).val = r.val; omega
    · show 128 * s + (z 1).val = k.val; omega
  intro p hp z hz
  simp only [List.mem_cons, List.not_mem_nil, or_false] at hp
  rcases hp with rfl | rfl | rfl | rfl | rfl | rfl | rfl | rfl
  · have e := h 7 ![7, 0] inb_S2048x128_S256x128_7_0_s_8_1 spos_8_1 rfl z (by omega) hz (k0_pay8 (gateOf x g bg) (upOf x g bg) (denOf x g bg) (Scalar.ofBits .f32 0x3F800000#32) (View.ld d allD) (View.ld bd allBD))
    rw [← e]; idx_vars z; pointwise [k0_pay16]
  · have e := h 6 ![6, 0] inb_S2048x128_S256x128_6_0_s_8_1 spos_8_1 rfl z (by omega) hz (k0_pay8 (gateOf x g bg) (upOf x g bg) (denOf x g bg) (Scalar.ofBits .f32 0x3F800000#32) (View.ld d allD) (View.ld bd allBD))
    rw [← e]; idx_vars z; pointwise [k0_pay15]
  · have e := h 5 ![5, 0] inb_S2048x128_S256x128_5_0_s_8_1 spos_8_1 rfl z (by omega) hz (k0_pay8 (gateOf x g bg) (upOf x g bg) (denOf x g bg) (Scalar.ofBits .f32 0x3F800000#32) (View.ld d allD) (View.ld bd allBD))
    rw [← e]; idx_vars z; pointwise [k0_pay14]
  · have e := h 4 ![4, 0] inb_S2048x128_S256x128_4_0_s_8_1 spos_8_1 rfl z (by omega) hz (k0_pay8 (gateOf x g bg) (upOf x g bg) (denOf x g bg) (Scalar.ofBits .f32 0x3F800000#32) (View.ld d allD) (View.ld bd allBD))
    rw [← e]; idx_vars z; pointwise [k0_pay13]
  · have e := h 3 ![3, 0] inb_S2048x128_S256x128_3_0_s_8_1 spos_8_1 rfl z (by omega) hz (k0_pay8 (gateOf x g bg) (upOf x g bg) (denOf x g bg) (Scalar.ofBits .f32 0x3F800000#32) (View.ld d allD) (View.ld bd allBD))
    rw [← e]; idx_vars z; pointwise [k0_pay12]
  · have e := h 2 ![2, 0] inb_S2048x128_S256x128_2_0_s_8_1 spos_8_1 rfl z (by omega) hz (k0_pay8 (gateOf x g bg) (upOf x g bg) (denOf x g bg) (Scalar.ofBits .f32 0x3F800000#32) (View.ld d allD) (View.ld bd allBD))
    rw [← e]; idx_vars z; pointwise [k0_pay11]
  · have e := h 1 ![1, 0] inb_S2048x128_S256x128_1_0_s_8_1 spos_8_1 rfl z (by omega) hz (k0_pay8 (gateOf x g bg) (upOf x g bg) (denOf x g bg) (Scalar.ofBits .f32 0x3F800000#32) (View.ld d allD) (View.ld bd allBD))
    rw [← e]; idx_vars z; pointwise [k0_pay10]
  · have e := h 0 ![0, 0] inb_S2048x128_S256x128_0_0_s_8_1 spos_8_1 rfl z (by omega) hz (k0_pay8 (gateOf x g bg) (upOf x g bg) (denOf x g bg) (Scalar.ofBits .f32 0x3F800000#32) (View.ld d allD) (View.ld bd allBD))
    rw [← e]; idx_vars z; pointwise [k0_pay9]
end Cert.KernelIdeal.FfnVal
-- ==== Proof.FfnVal.Array.lean ====
/-
  The expert layer's result array after the kernel's run: the layer's formula at every index.
-/
module

public import proofs.«01_k».proof.Proof.FfnVal.Pure
public import proofs.«01_k».proof.Proof.FfnIdeal.Run
public import Idealize.ShloMosaic.Lib.Pipeline.ValueKit
public import Idealize.ShloMosaic.Lib.Pointwise

@[expose] public section

set_option maxRecDepth 16384

noncomputable section

namespace Cert.KernelIdeal.FfnVal

open Cert.KernelIdeal Cert.KernelIdeal.Gen Cert.KernelIdeal.Ffn
open Idealize.ShloMosaic Idealize.ShloMosaic.TcCoe
open Idealize.ShloMosaic.Pipeline (Dat Cfg Window)

/-- The cast of an expert's first matrix keeps every entry, -/
theorem castG_at (wg : Vec Ideal S1x1024x2048 .f32) (d : Fin 1024) (f : Fin 2048) : castG wg (ix2 d f) = wg (ix3 0 d f) := by
  have h : castG wg = k0_pay1 (View.ld wg allG3) := View.canon_cons_unit_zero (S := S1024x2048) (funext fun a => by match a with | ⟨0, _⟩ => rfl | ⟨1, _⟩ => rfl) _ _ []
  have h2 : View.ld wg allG3 = wg := View.ld_unit_zero (S := S1x1024x2048) (funext fun a => by match a with | ⟨0, _⟩ => rfl | ⟨1, _⟩ => rfl | ⟨2, _⟩ => rfl) _ wg
  rw [h, h2]
  pointwise [k0_pay1]

/-- and so does the cast of its second. -/
theorem castD_at (wd : Vec Ideal S1x1024x1024 .f32) (f : Fin 1024) (k : Fin 1024) : castD wd (ix2 f k) = wd (ix3 0 f k) := by
  have h : castD wd = k0_pay2 (View.ld wd allD3) := View.canon_cons_unit_zero (S := S1024x1024) (funext fun a => by match a with | ⟨0, _⟩ => rfl | ⟨1, _⟩ => rfl) _ _ []
  have h2 : View.ld wd allD3 = wd := View.ld_unit_zero (S := S1x1024x1024) (funext fun a => by match a with | ⟨0, _⟩ => rfl | ⟨1, _⟩ => rfl | ⟨2, _⟩ => rfl) _ wd
  rw [h, h2]
  pointwise [k0_pay2]

/-- A block that is not in use is zero. -/
theorem blockZero_at (y : S2048x128.Idx) : blockZero (F := Ideal) y = 0 := by
  have h : blockZero (F := Ideal) = (k0_pay3 (F := Ideal) : S2048x128.Idx → Elt Ideal .f32) := View.canon_cons_unit_zero (S := S2048x128) (funext fun a => by match a with | ⟨0, _⟩ => rfl | ⟨1, _⟩ => rfl) _ _ []
  rw [h]
  idx_vars y
  pointwise [k0_pay3]

/-- A block in use is given its own block of rows. -/
theorem rows_eq (b : Fin 304) (n : BitVec 32) (h : (b.val : Int) < n.toInt) :
    (Scalar.minsi (BitVec.ofNat 32 b.val) (Scalar.subi (Scalar.maxsi n 1#32) 1#32)).toNat = b.val := by
  have hb : (BitVec.ofNat 32 b.val).toInt = (b.val : Int) := WordCmp.toInt_ofNat_of_lt (by have := b.isLt; omega)
  have hbn : (BitVec.ofNat 32 b.val).toNat = b.val := WordCmp.toNat_ofNat_of_lt (by have := b.isLt; omega)
  have h1 : (1#32).toInt = 1 := by decide
  have hm : Scalar.maxsi n 1#32 = n := by
    show (if (1#32).slt n then n else 1#32 : BitVec 32) = n
    split
    · rfl
    · rename_i hn
      rw [BitVec.slt, decide_eq_true_iff, h1] at hn
      exact BitVec.eq_of_toInt_eq (by rw [h1]; omega)
  rw [hm]
  have hn2 : n.toNat < 2 ^ 31 ∧ n.toInt = n.toNat := by
    rw [BitVec.toInt_eq_toNat_cond] at h ⊢; split at h <;> split <;> omega
  have e : (n - 1#32).toNat = n.toNat - 1 := by
    rw [BitVec.toNat_sub]
    have : (1#32).toNat = 1 := by decide
    rw [this]; omega
  show (if (BitVec.ofNat 32 b.val).slt (n - 1#32) then BitVec.ofNat 32 b.val else n - 1#32 : BitVec 32).toNat = b.val
  split
  · exact hbn
  · rename_i hn
    rw [BitVec.slt, decide_eq_true_iff, hb, BitVec.toInt_eq_toNat_cond, e] at hn
    rw [e]
    split at hn <;> omega

theorem out_congr {x x' : Fin 1024 → EReal} {wg wg' : Fin 1024 → Fin 2048 → EReal} {bg bg' : Fin 2048 → EReal} {wd wd' : Fin 1024 → Fin 1024 → EReal}
    {bd bd' : Fin 1024 → EReal} {k k' : Fin 1024} (h1 : x = x') (h2 : wg = wg') (h3 : bg = bg') (h4 : wd = wd') (h5 : bd = bd') (h6 : k = k') :
    FfnSpec.out x wg bg wd bd k = FfnSpec.out x' wg' bg' wd' bd' k' := by
  subst h1; subst h2; subst h3; subst h4; subst h5; subst h6; rfl

/-- Which points store, and where: every one, at its own block. -/
theorem stores : ∀ t : Fin grid0.N, (true && (decide (t.val + 1 = grid0.N)
    || decide (∃ h : t.val + 1 < grid0.N, cc0_transform_5 (grid0.coords ⟨t.val + 1, h⟩) ≠ cc0_transform_5 (grid0.coords t)))) = true := by decide +kernel

variable {m : (ℓ : Loc nD τ sig) → Buf (Elt Ideal) ℓ} (hg : GoodMem m)

/-- Every point writes its output block back. -/
theorem flush5 (t : Fin (cfgA hg).N) : ((cfgA hg).win (5 : Fin 6)).flush t = true := stores t

theorem index5 (t : Fin (cfgA hg).N) : ((cfgA hg).win (5 : Fin 6)).index t = ![t.val, 0] := by
  have key : ∀ t : Fin grid0.N, cc0_transform_5 (grid0.coords t) = ![t.val, 0] := by decide +kernel
  exact key t

theorem covers5 : ((cfgA hg).win (5 : Fin 6)).Covers := by
  refine ⟨fun a => ?_, fun β => ⟨⟨(β (0 : Fin 2)).val, ?_⟩, flush5 hg _, fun a => ⟨?_, .inl rfl⟩⟩⟩
  · match a with
    | ⟨0, _⟩ => exact (by decide : 0 < 2048)
    | ⟨1, _⟩ => exact (by decide : 0 < 128)
  · have h : (β (0 : Fin 2)).val < (622592 + 2048 - 1) / 2048 := (β (0 : Fin 2)).isLt
    show (β (0 : Fin 2)).val < 304
    omega
  · rw [index5]
    match a with
    | ⟨0, _⟩ => rfl
    | ⟨1, _⟩ =>
      have h : (β (1 : Fin 2)).val < (128 + 128 - 1) / 128 := (β (1 : Fin 2)).isLt
      show 0 = (β (1 : Fin 2)).val
      omega

include hg in
/-- The expert of a block in use is the one its table names. -/
theorem expert_eq (e : Fin 304 → Fin 32) (he : ∀ b, BitVec.toInt ((m (((0 : Dev nD).tc : Thread nD τ).loc main_arg0) : IVec S304 32) (ix1 b)) = (e b).val)
    (i : grid0.Coords) (hu : ((i 0).val : Int) < BitVec.toInt (tN m ixN)) : expertN m i = (e (i 0)).val := by
  have h := hg.eq (i 0) hu
  have h2 : BitVec.toInt (tE m (ixB (i 0))) = ((e (i 0)).val : Int) := by
    rw [← he (i 0)]
    exact congrArg (fun j => BitVec.toInt (tE m j)) (ix304_ext _ _ rfl)
  have h3 := (e (i 0)).isLt
  show BitVec.toNat (tU m (ixB (i 0))) = _
  rw [h]
  rw [BitVec.toInt_eq_toNat_cond] at h2
  split at h2 <;> omega

/-- What a point in use leaves in its output block. -/
theorem at_used (e : Fin 304 → Fin 32) (he : ∀ b, BitVec.toInt ((m (((0 : Dev nD).tc : Thread nD τ).loc main_arg0) : IVec S304 32) (ix1 b)) = (e b).val)
    (t : Fin (cfgA hg).N) (hu : Used (crd hg t) (tN m)) (y : S2048x128.Idx) (i0 : Fin 622592) (i1 : Fin 128)
    (h0 : i0.val = t.val * 2048 + (y 0).val) (h1 : i1.val = (y 1).val) :
    outAt hg 0 t y = FfnSpec.layer (BitVec.toInt (tN m ixN)) e (m (((0 : Dev nD).tc : Thread nD τ).loc main_arg3)) (m (((0 : Dev nD).tc : Thread nD τ).loc main_arg4))
          (m (((0 : Dev nD).tc : Thread nD τ).loc main_arg5)) (m (((0 : Dev nD).tc : Thread nD τ).loc main_arg6)) (m (((0 : Dev nD).tc : Thread nD τ).loc main_arg7)) i0 i1 := by
  have y0 : (y 0).val < 2048 := (y 0).isLt
  have y1 : (y 1).val < 128 := (y 1).isLt
  have ht : t.val < 304 := t.isLt
  have hv := crd_val hg t
  have hb : i0.val / 2048 = t.val := by omega
  have hn := (used_iff (crd hg t) (tN m)).mp hu
  have hl : ((i0.val / 2048 : ℕ) : Int) < BitVec.toInt (tN m ixN) := by rw [hb, ← hv]; exact hn
  have hr : rowsN m (crd hg t) = t.val := (rows_eq (crd hg t 0) (tN m ixN) hn).trans hv
  have hx : expertOf hg (crd hg t) = e ⟨i0.val / 2048, by omega⟩ := by
    refine Fin.ext ((expert_eq hg e he (crd hg t) hn).trans ?_)
    rw [show crd hg t 0 = (⟨i0.val / 2048, by omega⟩ : Fin 304) from Fin.ext (hv.trans hb.symm)]
  rw [outAt_used hg 0 t hu, block_at _ _ _ _ _ y ⟨(y 0).val / 8, by omega⟩ ⟨128 * ((y 0).val % 8) + (y 1).val, by omega⟩ rfl rfl]
  unfold FfnSpec.layer
  rw [if_pos hl]
  refine out_congr (funext fun d => ?_) (funext fun d => funext fun f => ?_) (funext fun f => ?_) (funext fun f => funext fun k => ?_) (funext fun k => ?_) (Fin.ext ?_)
  · unfold rowAt
    rw [iblk0_eq]
    refine congrArg (m (((0 : Dev nD).tc : Thread nD τ).loc main_arg3)) (congrArg₂ ix2 (Fin.ext ?_) rfl)
    show rowsN m (crd hg t) * 2048 + (8 * ((y 0).val / 8) + d.val / 128) = i0.val / 2048 * 2048 + i0.val / 8 % 256 * 8 + d.val / 128
    omega
  · rw [castG_at, iblk1_eq, hx]; rfl
  · rw [iblk2_eq, hx]; rfl
  · rw [castD_at, iblk3_eq, hx]; rfl
  · rw [iblk4_eq, hx]; rfl
  · show 128 * _ + _ = _ * 128 + _
    omega

/-- What a point past the blocks in use leaves there. -/
theorem at_unused (e : Fin 304 → Fin 32) (t : Fin (cfgA hg).N) (hu : ¬ Used (crd hg t) (tN m)) (y : S2048x128.Idx) (i0 : Fin 622592) (i1 : Fin 128)
    (h0 : i0.val = t.val * 2048 + (y 0).val) :
    outAt hg 0 t y = FfnSpec.layer (BitVec.toInt (tN m ixN)) e (m (((0 : Dev nD).tc : Thread nD τ).loc main_arg3)) (m (((0 : Dev nD).tc : Thread nD τ).loc main_arg4))
          (m (((0 : Dev nD).tc : Thread nD τ).loc main_arg5)) (m (((0 : Dev nD).tc : Thread nD τ).loc main_arg6)) (m (((0 : Dev nD).tc : Thread nD τ).loc main_arg7)) i0 i1 := by
  have y0 : (y 0).val < 2048 := (y 0).isLt
  have hv := crd_val hg t
  have hl : ¬ ((i0.val / 2048 : ℕ) : Int) < BitVec.toInt (tN m ixN) := by
    rw [show i0.val / 2048 = t.val by omega, ← hv]
    exact fun h => hu ((used_iff (crd hg t) (tN m)).mpr h)
  rw [outAt_unused hg 0 t hu, blockZero_at]
  unfold FfnSpec.layer
  exact (if_neg hl).symm

/-- The result array after the run is the layer's, index by index. -/
theorem array (e : Fin 304 → Fin 32) (he : ∀ b, BitVec.toInt ((m (((0 : Dev nD).tc : Thread nD τ).loc main_arg0) : IVec S304 32) (ix1 b)) = (e b).val) :
    (dats hg 0 0).arrAt (5 : Fin 6) (cfgA hg).N
      = fun i : S622592x128.Idx => FfnSpec.layer (BitVec.toInt (tN m ixN)) e (m (((0 : Dev nD).tc : Thread nD τ).loc main_arg3)) (m (((0 : Dev nD).tc : Thread nD τ).loc main_arg4))
          (m (((0 : Dev nD).tc : Thread nD τ).loc main_arg5)) (m (((0 : Dev nD).tc : Thread nD τ).loc main_arg6)) (m (((0 : Dev nD).tc : Thread nD τ).loc main_arg7)) (i 0) (i 1) := by
  refine (dats hg 0 _).arrAt_eq_of_covers (5 : Fin 6) _ (covers5 hg) fun t hf y => ?_
  have i5 := index5 hg t
  have e0 : ((((cfgA hg).win (5 : Fin 6)).blk t).view.emb y (0 : Fin 2)).val = t.val * 2048 + (y (0 : Fin 2)).val := by
    change ((cfgA hg).win (5 : Fin 6)).index t (0 : Fin 2) * 2048 + 1 * (y (0 : Fin 2)).val = _
    rw [i5]; show t.val * 2048 + 1 * _ = _; omega
  have e1 : ((((cfgA hg).win (5 : Fin 6)).blk t).view.emb y (1 : Fin 2)).val = (y (1 : Fin 2)).val := by
    change ((cfgA hg).win (5 : Fin 6)).index t (1 : Fin 2) * 128 + 1 * (y (1 : Fin 2)).val = _
    rw [i5]; show 0 * 128 + 1 * _ = _; omega
  show outAt hg 0 t y = _
  by_cases hu : Used (crd hg t) (tN m)
  · exact at_used hg e he t hu y _ _ e0 e1
  · exact at_unused hg e t hu y _ _ e0

end Cert.KernelIdeal.FfnVal
-- ==== Proof.FfnVal.Claim.lean ====
/-
  The experts' layer: what the kernel's run leaves in its result is what the reference's run leaves in its own.
-/
module

public import proofs.«01_k».proof.Proof.FfnVal.Good
public import proofs.«01_k».proof.Proof.FfnVal.Ref
public import proofs.«01_k».proof.Proof.FfnVal.Array

@[expose] public section

set_option maxRecDepth 16384

noncomputable section

namespace Cert.FfnVal

open Idealize.ShloMosaic Idealize.SL.Sem

/-- The reference's result is the layer's array, of the reference's arguments. -/
theorem ref_array (m : (ℓ : Loc Cert.ReferenceIdeal.nD Cert.ReferenceIdeal.τ Cert.ReferenceIdeal.sig) → Buf (Elt Ideal) ℓ) (c : Dev Cert.ReferenceIdeal.nD) (e : Fin 304 → Fin 32)
    (a0 : IVec Cert.KernelIdeal.S304 32) (a1 : IVec Cert.KernelIdeal.S1 32) (a3 : Vec Ideal Cert.KernelIdeal.S622592x128 .f32) (a4 : Vec Ideal Cert.KernelIdeal.S32x1024x2048 .f32)
    (a5 : Vec Ideal Cert.KernelIdeal.S32x1x2048 .f32) (a6 : Vec Ideal Cert.KernelIdeal.S32x1024x1024 .f32) (a7 : Vec Ideal Cert.KernelIdeal.S32x1x1024 .f32)
    (he : ∀ b, BitVec.toInt (a0 (ix1 b)) = (e b).val)
    (h0 : m ((c.tc : Thread Cert.ReferenceIdeal.nD Cert.ReferenceIdeal.τ).loc Cert.ReferenceIdeal.main_arg0) = a0)
    (h1 : m ((c.tc : Thread Cert.ReferenceIdeal.nD Cert.ReferenceIdeal.τ).loc Cert.ReferenceIdeal.main_arg1) = a1)
    (h3 : m ((c.tc : Thread Cert.ReferenceIdeal.nD Cert.ReferenceIdeal.τ).loc Cert.ReferenceIdeal.main_arg3) = a3)
    (h4 : m ((c.tc : Thread Cert.ReferenceIdeal.nD Cert.ReferenceIdeal.τ).loc Cert.ReferenceIdeal.main_arg4) = a4)
    (h5 : m ((c.tc : Thread Cert.ReferenceIdeal.nD Cert.ReferenceIdeal.τ).loc Cert.ReferenceIdeal.main_arg5) = a5)
    (h6 : m ((c.tc : Thread Cert.ReferenceIdeal.nD Cert.ReferenceIdeal.τ).loc Cert.ReferenceIdeal.main_arg6) = a6)
    (h7 : m ((c.tc : Thread Cert.ReferenceIdeal.nD Cert.ReferenceIdeal.τ).loc Cert.ReferenceIdeal.main_arg7) = a7) :
    Cert.ReferenceIdeal.Value.res_main_v58 m c
      = fun i : Cert.KernelIdeal.S622592x128.Idx => FfnSpec.layer (BitVec.toInt (a1 (ix1 0))) e a3 a4 a5 a6 a7 (i 0) (i 1) := by
  subst h0 h1 h3 h4 h5 h6 h7
  funext i
  have hi : i = ix2 (i (0 : Fin 2)) (i (1 : Fin 2)) := by
    funext a; match a with | ⟨0, _⟩ => rfl | ⟨1, _⟩ => rfl
  exact (congrArg _ hi).trans (Cert.ReferenceIdeal.FfnVal.res_at m c e he _ _)

/-- The two programs, from arguments the precondition holds of and that agree, end with the same result. -/
theorem algebraic : Cert.algebraic_KernelIdeal_ReferenceIdeal := by
  intro m g m' g' hpre hag
  have hg := goodIdeal hpre
  obtain ⟨e, he⟩ := experts hpre
  refine ⟨fun c => (Cert.KernelIdeal.Ffn.dats hg 0 c).arrAt (5 : Fin 6) (Cert.KernelIdeal.Ffn.cfgA hg).N, ?_, ?_⟩
  · exact (θ_run Cert.KernelIdeal.defs _ _).mono (fun r h c => ⟨(h.1 c).2, (h.1 c).1⟩) (Cert.KernelIdeal.Ffn.run_result hg g)
  · refine (θ_run Cert.ReferenceIdeal.defs _ _).mono (fun r h c => ⟨(h c).1.trans ?_, (h c).2⟩) (Cert.ReferenceIdeal.Value.run m' g')
    obtain ⟨h0, h1, h2, h3, h4, h5, h6, h7⟩ := hag c
    obtain rfl : c = (0 : Dev Cert.KernelIdeal.nD) := Subsingleton.elim _ _
    refine (ref_array m' _ e _ _ _ _ _ _ _ he h0 h1 h3 h4 h5 h6 h7).trans ?_
    refine Eq.trans ?_ (Cert.KernelIdeal.FfnVal.array hg e he).symm
    funext i
    rw [show (Cert.KernelIdeal.Ffn.ixN) = (ix1 0 : Cert.KernelIdeal.S1.Idx) from Cert.KernelIdeal.Ffn.ix1_ext _ _]

end Cert.FfnVal
-- ==== Proof.Proj.Value.lean ====
/-
  The projection's two result arrays after the kernel's run, and the reference's, read at an index.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.IdealHost
public import Idealize.ShloMosaic.Lib.Tactic.CleanTypes

@[expose] public section

set_option maxRecDepth 16384

noncomputable section

/-- The projection's entry at token `n` and column `j`: the token's row scaled to unit mean square and by the gains, times
    the column of the matrix. -/
def Cert.ProjSpec.entry (x : (⟨3, ![8, 2048, 1024]⟩ : Idealize.ShloMosaic.Shape).Idx → EReal) (g : (⟨2, ![1, 1024]⟩ : Idealize.ShloMosaic.Shape).Idx → EReal)
    (w : (⟨3, ![1, 1024, 3840]⟩ : Idealize.ShloMosaic.Shape).Idx → EReal) (n : Fin 16384) (j : Fin 3840) : EReal :=
  have X : Fin 1024 → EReal := fun k => x (Idealize.ShloMosaic.ix3 ⟨n.val / 2048, by omega⟩ ⟨n.val % 2048, by omega⟩ k)
  ∑ k : Fin 1024, X k * Idealize.ShloMosaic.Ideal.rsqrt (Idealize.ShloMosaic.Ideal.div (∑ k : Fin 1024, X k * X k) (Idealize.ShloMosaic.Ideal.ofBits .f32 0x44800000#32)
    + Idealize.ShloMosaic.Ideal.ofBits .f32 0x358637BD#32) * g (Idealize.ShloMosaic.ix2 0 k) * w (Idealize.ShloMosaic.ix3 0 k j)

namespace Cert.Kernel2Ideal.ProjVal

open Cert.Kernel2Ideal Cert.Kernel2Ideal.Gen
open Idealize.ShloMosaic Idealize.ShloMosaic.TcCoe
open Idealize.ShloMosaic.Pipeline (Dat Cfg Window)

/-- The row of a block scaled to unit mean square and by the gains, -/
theorem pay1_at (x : Vec Ideal S512x1024 .f32) (g : Vec Ideal S1x1024 .f32) (r : Fin 512) (k : Fin 1024) :
    k0_pay1 x g (ix2 r k) = x (ix2 r k) * Ideal.rsqrt (Ideal.div (∑ k : Fin 1024, x (ix2 r k) * x (ix2 r k)) (Ideal.ofBits .f32 0x44800000#32)
      + Ideal.ofBits .f32 0x358637BD#32) * g (ix2 0 k) := by
  pointwise [k0_pay1]

/-- and its product with the first columns of the matrix, and with the others. -/
theorem pay2_at (x : Vec Ideal S512x1024 .f32) (g : Vec Ideal S1x1024 .f32) (w : Vec Ideal S1024x2048 .bf16) (r : Fin 512) (j : Fin 2048) :
    k0_pay2 x g w (ix2 r j) = ∑ k, k0_pay1 x g (ix2 r k) * w (ix2 k j) := by
  pointwise [k0_pay2]
theorem pay3_at (x : Vec Ideal S512x1024 .f32) (g : Vec Ideal S1x1024 .f32) (w : Vec Ideal S1024x1792 .bf16) (r : Fin 512) (j : Fin 1792) :
    k0_pay3 x g w (ix2 r j) = ∑ k, k0_pay1 x g (ix2 r k) * w (ix2 k j) := by
  pointwise [k0_pay3]

/-- What the body leaves in its two output blocks, from its input blocks. -/
theorem out3_at (x : Vec Ideal S512x1024 .f32) (g : Vec Ideal S1x1024 .f32) (w : Vec Ideal S1024x3840 .bf16) (r : Fin 512) (j : Fin 2048) :
    out0_3 x g w (ix2 r j) = ∑ k, k0_pay1 x g (ix2 r k) * w (ix2 k ⟨j.val, by omega⟩) := by
  have h : out0_3 x g w = k0_pay2 (View.ld x r0_0) (View.ld g r0_1) (View.ld w r0_2) :=
    View.canon_cons_unit_zero (S := S512x2048) (funext fun a => by match a with | ⟨0, _⟩ => rfl | ⟨1, _⟩ => rfl) _ _ []
  have h0 : View.ld x r0_0 = x := View.ld_unit_zero (S := S512x1024) (funext fun a => by match a with | ⟨0, _⟩ => rfl | ⟨1, _⟩ => rfl) _ x
  have h1 : View.ld g r0_1 = g := View.ld_unit_zero (S := S1x1024) (funext fun a => by match a with | ⟨0, _⟩ => rfl | ⟨1, _⟩ => rfl) _ g
  rw [h, h0, h1, pay2_at]
  refine Finset.sum_congr rfl fun k _ => congrArg (_ * ·) (congrArg w (funext fun a => Fin.ext ?_))
  match a with
  | ⟨0, _⟩ => show 0 + 1 * k.val = k.val; omega
  | ⟨1, _⟩ => show 0 + 1 * j.val = j.val; omega
theorem out4_at (x : Vec Ideal S512x1024 .f32) (g : Vec Ideal S1x1024 .f32) (w : Vec Ideal S1024x3840 .bf16) (r : Fin 512) (j : Fin 1792) :
    out0_4 x g w (ix2 r j) = ∑ k, k0_pay1 x g (ix2 r k) * w (ix2 k ⟨2048 + j.val, by omega⟩) := by
  have h : out0_4 x g w = k0_pay3 (View.ld x r0_0) (View.ld g r0_1) (View.ld w r0_4) :=
    View.canon_cons_unit_zero (S := S512x1792) (funext fun a => by match a with | ⟨0, _⟩ => rfl | ⟨1, _⟩ => rfl) _ _ []
  have h0 : View.ld x r0_0 = x := View.ld_unit_zero (S := S512x1024) (funext fun a => by match a with | ⟨0, _⟩ => rfl | ⟨1, _⟩ => rfl) _ x
  have h1 : View.ld g r0_1 = g := View.ld_unit_zero (S := S1x1024) (funext fun a => by match a with | ⟨0, _⟩ => rfl | ⟨1, _⟩ => rfl) _ g
  rw [h, h0, h1, pay3_at]
  refine Finset.sum_congr rfl fun k _ => congrArg (_ * ·) (congrArg w (funext fun a => Fin.ext ?_))
  match a with
  | ⟨0, _⟩ => show 0 + 1 * k.val = k.val; omega
  | ⟨1, _⟩ => show 2048 + 1 * j.val = 2048 + j.val; omega

variable (m : (ℓ : Loc nD τ sig) → Buf (Elt Ideal) ℓ)

/-- The two arrays that the region finds computed from the arguments. -/
theorem V_main_v0 (c : Dev nD) : V m c main_v0 = shapeCast _ (m ((c : Thread nD τ).loc main_arg0)) shapeCasts_S8x2048x1024_S16384x1024 := by
  unfold V; after_results <;> rfl
theorem V_main_v2 (c : Dev nD) : V m c main_v2 = truncf (F := Ideal) (s := S1024x3840) (φ := .f32) .bf16 (shapeCast _ (m ((c : Thread nD τ).loc main_arg2)) shapeCasts_S1x1024x3840_S1024x3840) bitsLt_bf16_f32 := by
  unfold V; after_results <;> rfl

theorem N_eq : cfg0.N = 32 := (by decide +kernel : grid0.N = 32)
theorem lt32 (t : Fin cfg0.N) : t.val < 32 := lt_of_lt_of_eq t.isLt N_eq

theorem row_lt {n r : ℕ} (hn : n < 32) (hr : r < 512) : n * 512 + r < 16384 := by omega
theorem div_lt {n r : ℕ} (hn : n < 32) (hr : r < 512) : (n * 512 + r) / 2048 < 8 := by omega
theorem mod_lt (n : ℕ) : n % 2048 < 2048 := by omega
theorem row_eq (n r : ℕ) : n * 512 + 1 * r = n * 512 + r := by omega

theorem col_eq (n r : ℕ) : 0 * n + 1 * r = r := by omega

/-- The rows of the prompt laid one after the other, and the rounded matrix, at an index. -/
theorem rows_at (x : FVec Ideal S8x2048x1024 .f32) (n : Fin 16384) (k : Fin 1024) (h0 : n.val / 2048 < 8) (h1 : n.val % 2048 < 2048) :
    shapeCast S16384x1024 x shapeCasts_S8x2048x1024_S16384x1024 (ix2 n k) = x (ix3 ⟨n.val / 2048, h0⟩ ⟨n.val % 2048, h1⟩ k) := by
  pointwise
theorem matrix_at (w : FVec Ideal S1x1024x3840 .f32) (k : Fin 1024) (j : Fin 3840) :
    truncf (F := Ideal) (s := S1024x3840) (φ := .f32) .bf16 (shapeCast _ w shapeCasts_S1x1024x3840_S1024x3840) bitsLt_bf16_f32 (ix2 k j) = w (ix3 0 k j) := by
  pointwise

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])

/-- The input windows' blocks at a point, read off the arguments. -/
theorem iblk0_at (c : Dev nD) (t : Fin cfg0.N) (r : Fin 512) (k : Fin 1024) : iblk m c 0 t (ix2 r k : S512x1024.Idx)
    = m ((c : Thread nD τ).loc main_arg0) (ix3 ⟨(t.val * 512 + r.val) / 2048, div_lt (lt32 t) r.isLt⟩ ⟨(t.val * 512 + r.val) % 2048, mod_lt _⟩ k) := by
  have ht : t.val < 32 := lt32 t
  have h : iblk m c 0 t (ix2 r k : S512x1024.Idx) = V m c main_v0 (ix2 (⟨t.val * 512 + r.val, row_lt ht r.isLt⟩ : Fin 16384) k : S16384x1024.Idx) := by
    refine congrArg (V m c main_v0) (funext fun a => Fin.ext ?_)
    have h := congrFun (index0 t) a
    change win0_0.index t a * S512x1024.size a + 1 * (ix2 r k a).val = _
    rw [h]
    match a with
    | ⟨0, _⟩ => exact row_eq t.val r.val
    | ⟨1, _⟩ => exact col_eq _ k.val
  rw [h, V_main_v0]
  exact rows_at _ _ k _ _

theorem iblk1_at (c : Dev nD) (t : Fin cfg0.N) (k : Fin 1024) : iblk m c 1 t (ix2 0 k : S1x1024.Idx)
    = m ((c : Thread nD τ).loc main_arg1) (ix2 0 k) := by
  rw [← V_main_arg1 m c]
  refine congrArg (V m c main_arg1) (funext fun a => Fin.ext ?_)
  have h := congrFun (index1 t) a
  change win0_1.index t a * S1x1024.size a + 1 * ((ix2 0 k : S1x1024.Idx) a).val = _
  rw [h]
  match a with
  | ⟨0, _⟩ => rfl
  | ⟨1, _⟩ => exact col_eq _ k.val

theorem iblk2_at (c : Dev nD) (t : Fin cfg0.N) (k : Fin 1024) (j : Fin 3840) : iblk m c 2 t (ix2 k j : S1024x3840.Idx)
    = m ((c : Thread nD τ).loc main_arg2) (ix3 0 k j) := by
  have h : iblk m c 2 t (ix2 k j : S1024x3840.Idx) = V m c main_v2 (ix2 k j) := by
    refine congrArg (V m c main_v2) (funext fun a => Fin.ext ?_)
    have h := congrFun (index2 t) a
    change win0_2.index t a * S1024x3840.size a + 1 * (ix2 k j a).val = _
    rw [h]
    match a with
    | ⟨0, _⟩ => exact col_eq _ k.val
    | ⟨1, _⟩ => exact col_eq _ j.val
  rw [h, V_main_v2]
  exact matrix_at _ k j

/-- What the body leaves in the output window 3 at a point, -/
theorem block3 (c : Dev nD) (t : Fin cfg0.N) (r : Fin 512) (j : Fin 2048) : out0_3 (iblk m c 0 t) (iblk m c 1 t) (iblk m c 2 t) (ix2 r j : S512x2048.Idx)
    = ProjSpec.entry (m ((c : Thread nD τ).loc main_arg0)) (m ((c : Thread nD τ).loc main_arg1)) (m ((c : Thread nD τ).loc main_arg2)) ⟨t.val * 512 + r.val, row_lt (lt32 t) r.isLt⟩ ⟨j.val, lt_trans j.isLt (by decide)⟩ := by
  rw [out3_at]
  simp only [pay1_at, iblk0_at, iblk1_at, iblk2_at]
  rfl
/-- where that block lies in the array, -/
theorem emb3_0 (t : Fin cfg0.N) (y : S512x2048.Idx) : (((cfg0.win 3).blk t).view.emb y (0 : Fin 2)).val = t.val * 512 + (y (0 : Fin 2)).val := by
  change win0_3.index t (0 : Fin 2) * 512 + 1 * (y (0 : Fin 2)).val = _
  rw [index3]; exact row_eq t.val _
theorem emb3_1 (t : Fin cfg0.N) (y : S512x2048.Idx) : (((cfg0.win 3).blk t).view.emb y (1 : Fin 2)).val = (y (1 : Fin 2)).val := by
  change win0_3.index t (1 : Fin 2) * 2048 + 1 * (y (1 : Fin 2)).val = _
  rw [index3]; exact col_eq _ _
/-- the array wanted there, -/
def want3 (c : Dev nD) : Vec Ideal S16384x2048 .f32 := fun i => ProjSpec.entry (m ((c : Thread nD τ).loc main_arg0)) (m ((c : Thread nD τ).loc main_arg1)) (m ((c : Thread nD τ).loc main_arg2)) (i 0)
  ⟨(i 1).val, lt_trans (i (1 : Fin 2)).isLt (by decide)⟩
theorem want3_at (c : Dev nD) (i : S16384x2048.Idx) (n : ℕ) (hn : n < 16384) (j : Fin 2048) (h0 : (i (0 : Fin 2)).val = n) (h : (i (1 : Fin 2)).val = j.val) :
    want3 m c i = ProjSpec.entry (m ((c : Thread nD τ).loc main_arg0)) (m ((c : Thread nD τ).loc main_arg1)) (m ((c : Thread nD τ).loc main_arg2)) ⟨n, hn⟩ ⟨j.val, lt_trans j.isLt (by decide)⟩ := by
  subst h0
  exact congrArg (ProjSpec.entry _ _ _ _) (Fin.ext (h))
theorem covers3 : (cfg0.win 3).Covers := by decide +kernel
/-- and the array after the run. -/
theorem array3 (c : Dev nD) : (dats m 0 c).arrAt 3 cfg0.N = want3 m c := by
  refine (dats m 0 c).arrAt_eq_of_covers 3 _ covers3 fun t hf y => ?_
  have hy : y = ix2 (⟨(y (0 : Fin 2)).val, (y (0 : Fin 2)).isLt⟩ : Fin 512) (⟨(y (1 : Fin 2)).val, (y (1 : Fin 2)).isLt⟩ : Fin 2048) := by
    funext a; match a with | ⟨0, _⟩ => rfl | ⟨1, _⟩ => rfl
  refine (congrFun (after0_3 m c t) y).trans ?_
  have hl : out0_3 (iblk m c 0 t) (iblk m c 1 t) (iblk m c 2 t) y = _ := (congrArg _ hy).trans (block3 m c t _ _)
  exact hl.trans (want3_at m c _ _ _ _ (emb3_0 t y) (emb3_1 t y)).symm

/-- What the body leaves in the output window 4 at a point, -/
theorem block4 (c : Dev nD) (t : Fin cfg0.N) (r : Fin 512) (j : Fin 1792) : out0_4 (iblk m c 0 t) (iblk m c 1 t) (iblk m c 2 t) (ix2 r j : S512x1792.Idx)
    = ProjSpec.entry (m ((c : Thread nD τ).loc main_arg0)) (m ((c : Thread nD τ).loc main_arg1)) (m ((c : Thread nD τ).loc main_arg2)) ⟨t.val * 512 + r.val, row_lt (lt32 t) r.isLt⟩ ⟨2048 + j.val, Nat.add_lt_add_left j.isLt 2048⟩ := by
  rw [out4_at]
  simp only [pay1_at, iblk0_at, iblk1_at, iblk2_at]
  rfl
/-- where that block lies in the array, -/
theorem emb4_0 (t : Fin cfg0.N) (y : S512x1792.Idx) : (((cfg0.win 4).blk t).view.emb y (0 : Fin 2)).val = t.val * 512 + (y (0 : Fin 2)).val := by
  change win0_4.index t (0 : Fin 2) * 512 + 1 * (y (0 : Fin 2)).val = _
  rw [index4]; exact row_eq t.val _
theorem emb4_1 (t : Fin cfg0.N) (y : S512x1792.Idx) : (((cfg0.win 4).blk t).view.emb y (1 : Fin 2)).val = (y (1 : Fin 2)).val := by
  change win0_4.index t (1 : Fin 2) * 1792 + 1 * (y (1 : Fin 2)).val = _
  rw [index4]; exact col_eq _ _
/-- the array wanted there, -/
def want4 (c : Dev nD) : Vec Ideal S16384x1792 .f32 := fun i => ProjSpec.entry (m ((c : Thread nD τ).loc main_arg0)) (m ((c : Thread nD τ).loc main_arg1)) (m ((c : Thread nD τ).loc main_arg2)) (i 0)
  ⟨2048 + (i 1).val, Nat.add_lt_add_left (i (1 : Fin 2)).isLt 2048⟩
theorem want4_at (c : Dev nD) (i : S16384x1792.Idx) (n : ℕ) (hn : n < 16384) (j : Fin 1792) (h0 : (i (0 : Fin 2)).val = n) (h : (i (1 : Fin 2)).val = j.val) :
    want4 m c i = ProjSpec.entry (m ((c : Thread nD τ).loc main_arg0)) (m ((c : Thread nD τ).loc main_arg1)) (m ((c : Thread nD τ).loc main_arg2)) ⟨n, hn⟩ ⟨2048 + j.val, Nat.add_lt_add_left j.isLt 2048⟩ := by
  subst h0
  exact congrArg (ProjSpec.entry _ _ _ _) (Fin.ext (congrArg (2048 + ·) h))
theorem covers4 : (cfg0.win 4).Covers := by decide +kernel
/-- and the array after the run. -/
theorem array4 (c : Dev nD) : (dats m 0 c).arrAt 4 cfg0.N = want4 m c := by
  refine (dats m 0 c).arrAt_eq_of_covers 4 _ covers4 fun t hf y => ?_
  have hy : y = ix2 (⟨(y (0 : Fin 2)).val, (y (0 : Fin 2)).isLt⟩ : Fin 512) (⟨(y (1 : Fin 2)).val, (y (1 : Fin 2)).isLt⟩ : Fin 1792) := by
    funext a; match a with | ⟨0, _⟩ => rfl | ⟨1, _⟩ => rfl
  refine (congrFun (after0_4 m c t) y).trans ?_
  have hl : out0_4 (iblk m c 0 t) (iblk m c 1 t) (iblk m c 2 t) y = _ := (congrArg _ hy).trans (block4 m c t _ _)
  exact hl.trans (want4_at m c _ _ _ _ (emb4_0 t y) (emb4_1 t y)).symm

end Cert.Kernel2Ideal.ProjVal

namespace Cert.Reference2Ideal.ProjVal

open Cert.Reference2Ideal Cert.Reference2Ideal.Gen
open Idealize.ShloMosaic Idealize.ShloMosaic.TcCoe

/-- The reference's two results at an index. -/
theorem res3_at (x : FVec Ideal S8x2048x1024 .f32) (g : FVec Ideal S1x1024 .f32) (w : FVec Ideal S1x1024x3840 .f32) :
    extractStridedSlice S16384x2048 ![0, 0] (Host.dotGeneral dot_S16384x1024_S1024x3840_S16384x3840_1_0_0_1_n_n none (mulf (mulf (shapeCast _ x shapeCasts_S8x2048x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast _ x shapeCasts_S8x2048x1024_S16384x1024) (shapeCast _ x shapeCasts_S8x2048x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))) (shapeCast _ w shapeCasts_S1x1024x3840_S1024x3840)) slices_S16384x3840_S16384x2048_0_0
      = fun i : S16384x2048.Idx => ProjSpec.entry x g w (i 0) ⟨(i 1).val, by have : (i 1).val < 2048 := (i 1).isLt; omega⟩ := by
  funext i
  idx_vars i
  pointwise [ProjSpec.entry]
theorem res4_at (x : FVec Ideal S8x2048x1024 .f32) (g : FVec Ideal S1x1024 .f32) (w : FVec Ideal S1x1024x3840 .f32) :
    extractStridedSlice S16384x1792 ![0, 2048] (Host.dotGeneral dot_S16384x1024_S1024x3840_S16384x3840_1_0_0_1_n_n none (mulf (mulf (shapeCast _ x shapeCasts_S8x2048x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast _ x shapeCasts_S8x2048x1024_S16384x1024) (shapeCast _ x shapeCasts_S8x2048x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))) (shapeCast _ w shapeCasts_S1x1024x3840_S1024x3840)) slices_S16384x3840_S16384x1792_0_2048
      = fun i : S16384x1792.Idx => ProjSpec.entry x g w (i 0) ⟨2048 + (i 1).val, by have : (i 1).val < 1792 := (i 1).isLt; omega⟩ := by
  funext i
  idx_vars i
  pointwise [ProjSpec.entry]

end Cert.Reference2Ideal.ProjVal
-- ==== Proof.Proj.Claim.lean ====
/-
  The projection: what the kernel's run leaves in its two results is what the reference's run leaves in its own.
-/
module

public import proofs.«01_k».proof.Defs
public import proofs.«01_k».proof.Proof.Proj.Value

@[expose] public section

set_option maxRecDepth 16384

noncomputable section

namespace Cert.ProjVal

open Idealize.ShloMosaic Idealize.SL.Sem

/-- The two programs, from arguments that agree, end with the same two results. -/
theorem algebraic : Cert.algebraic_Kernel2Ideal_Reference2Ideal := by
  intro m g m' g' _ hag
  refine ⟨fun c => Cert.Kernel2Ideal.ProjVal.want3 m c, fun c => Cert.Kernel2Ideal.ProjVal.want4 m c, ?_, ?_⟩
  · exact (θ_run Cert.Kernel2Ideal.defs _ _).mono (fun r h c => ⟨(h c).1.trans (Cert.Kernel2Ideal.ProjVal.array3 m c), (h c).2.1.trans (Cert.Kernel2Ideal.ProjVal.array4 m c), (h c).2.2⟩)
      (Cert.Kernel2Ideal.Value.run_blocks m g)
  · refine (θ_run Cert.Reference2Ideal.defs _ _).mono (fun r h c => ⟨(h c).1.trans ((Cert.Reference2Ideal.ProjVal.res3_at _ _ _).trans ?_), (h c).2.1.trans ((Cert.Reference2Ideal.ProjVal.res4_at _ _ _).trans ?_), (h c).2.2⟩)
      (Cert.Reference2Ideal.Value.run m' g')
    · obtain ⟨h0, h1, h2⟩ := hag c
      rw [h0, h1, h2]; rfl
    · obtain ⟨h0, h1, h2⟩ := hag c
      rw [h0, h1, h2]; rfl

end Cert.ProjVal
-- ==== Proof.Rows.Value.lean ====
/-
  The normalised last rows: the kernel's result array after its run, and the reference's, read at an index.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.IdealHost

@[expose] public section

set_option maxRecDepth 16384

noncomputable section

namespace Cert.RowsSpec

open Idealize.ShloMosaic

/-- The last row of the prompt's sequence `r`, or of the sample's sequence `r - 8`. -/
def row (x : (⟨3, ![8, 2048, 1024]⟩ : Shape).Idx → EReal) (y : (⟨3, ![128, 8, 1024]⟩ : Shape).Idx → EReal) (r : Fin 136) (k : Fin 1024) : EReal :=
  if h : r.val < 8 then x (ix3 ⟨r.val, h⟩ 2047 k) else y (ix3 ⟨r.val - 8, by omega⟩ 7 k)

/-- That row scaled to unit mean square and by the gains. -/
def entry (x : (⟨3, ![8, 2048, 1024]⟩ : Shape).Idx → EReal) (y : (⟨3, ![128, 8, 1024]⟩ : Shape).Idx → EReal) (g : (⟨2, ![1, 1024]⟩ : Shape).Idx → EReal)
    (r : Fin 136) (k : Fin 1024) : EReal :=
  row x y r k * Ideal.rsqrt (Ideal.div (∑ k : Fin 1024, row x y r k * row x y r k) (Ideal.ofBits .f32 0x44800000#32) + Ideal.ofBits .f32 0x358637BD#32) * g (ix2 0 k)

end Cert.RowsSpec

namespace Cert.Kernel3Ideal.RowsVal

open Cert.Kernel3Ideal Cert.Kernel3Ideal.Gen
open Idealize.ShloMosaic Idealize.ShloMosaic.TcCoe
open Idealize.ShloMosaic.Pipeline (Dat Cfg Window)

/-- What the body computes of its two blocks, at an index. -/
theorem pay1_at (x : Vec Ideal S136x1024 .f32) (g : Vec Ideal S1x1024 .f32) (r : Fin 136) (k : Fin 1024) :
    k0_pay1 x g (ix2 r k) = x (ix2 r k) * Ideal.rsqrt (Ideal.div (∑ k : Fin 1024, x (ix2 r k) * x (ix2 r k)) (Ideal.ofBits .f32 0x44800000#32)
      + Ideal.ofBits .f32 0x358637BD#32) * g (ix2 0 k) := by
  pointwise [k0_pay1]

/-- The block that the body leaves is that. -/
theorem out_eq (x : Vec Ideal S136x1024 .f32) (g : Vec Ideal S1x1024 .f32) : out0_2 x g = k0_pay1 x g := by
  have h : out0_2 x g = k0_pay1 (View.ld x r0_0) (View.ld g r0_1) :=
    View.canon_cons_unit_zero (S := S136x1024) (funext fun a => by match a with | ⟨0, _⟩ => rfl | ⟨1, _⟩ => rfl) _ _ []
  have h0 : View.ld x r0_0 = x := View.ld_unit_zero (S := S136x1024) (funext fun a => by match a with | ⟨0, _⟩ => rfl | ⟨1, _⟩ => rfl) _ x
  have h1 : View.ld g r0_1 = g := View.ld_unit_zero (S := S1x1024) (funext fun a => by match a with | ⟨0, _⟩ => rfl | ⟨1, _⟩ => rfl) _ g
  rw [h, h0, h1]

/-- The rows that the host lays one after the other, at an index. -/
theorem rows_at (x : FVec Ideal S8x2048x1024 .f32) (y : FVec Ideal S128x8x1024 .f32) (r : Fin 136) (k : Fin 1024) :
    concatenate S136x1024 0 [⟨S8x1024, shapeCast S8x1024 (extractStridedSlice S8x1x1024 ![0, 2047, 0] x slices_S8x2048x1024_S8x1x1024_0_2047_0) shapeCasts_S8x1x1024_S8x1024⟩,
      ⟨S128x1024, shapeCast S128x1024 (extractStridedSlice S128x1x1024 ![0, 7, 0] y slices_S128x8x1024_S128x1x1024_0_7_0) shapeCasts_S128x1x1024_S128x1024⟩] concatenates_S8x1024_S128x1024_S136x1024_d0 (ix2 r k)
      = RowsSpec.row x y r k := by
  pointwise [RowsSpec.row]

variable (m : (ℓ : Loc nD τ sig) → Buf (Elt Ideal) ℓ)

theorem V_main_v4 (c : Dev nD) : V m c main_v4 = concatenate S136x1024 0 [⟨S8x1024, shapeCast S8x1024 (extractStridedSlice S8x1x1024 ![0, 2047, 0] (m ((c : Thread nD τ).loc main_arg0)) slices_S8x2048x1024_S8x1x1024_0_2047_0) shapeCasts_S8x1x1024_S8x1024⟩,
      ⟨S128x1024, shapeCast S128x1024 (extractStridedSlice S128x1x1024 ![0, 7, 0] (m ((c : Thread nD τ).loc main_arg1)) slices_S128x8x1024_S128x1x1024_0_7_0) shapeCasts_S128x1x1024_S128x1024⟩] concatenates_S8x1024_S128x1024_S136x1024_d0 := by
  unfold V; after_results <;> rfl

/-- The windows' blocks are the whole arrays. -/
theorem iblk0_at (c : Dev nD) (t : Fin cfg0.N) (r : Fin 136) (k : Fin 1024) : iblk m c 0 t (ix2 r k : S136x1024.Idx)
    = RowsSpec.row (m ((c : Thread nD τ).loc main_arg0)) (m ((c : Thread nD τ).loc main_arg1)) r k := by
  have h : iblk m c 0 t (ix2 r k : S136x1024.Idx) = V m c main_v4 (ix2 r k) := by
    refine congrArg (V m c main_v4) (funext fun a => Fin.ext ?_)
    match a with
    | ⟨0, _⟩ => exact (by omega : 0 * 136 + 1 * r.val = r.val)
    | ⟨1, _⟩ => exact (by omega : 0 * 1024 + 1 * k.val = k.val)
  rw [h, V_main_v4]
  exact rows_at _ _ r k
theorem iblk1_at (c : Dev nD) (t : Fin cfg0.N) (k : Fin 1024) : iblk m c 1 t (ix2 0 k : S1x1024.Idx) = m ((c : Thread nD τ).loc main_arg2) (ix2 0 k) := by
  rw [← V_main_arg2 m c]
  refine congrArg (V m c main_arg2) (funext fun a => Fin.ext ?_)
  match a with
  | ⟨0, _⟩ => rfl
  | ⟨1, _⟩ => exact (by omega : 0 * 1024 + 1 * k.val = k.val)

/-- The result array that is wanted, -/
def want (c : Dev nD) : Vec Ideal S136x1024 .f32 := fun i => RowsSpec.entry (m ((c : Thread nD τ).loc main_arg0)) (m ((c : Thread nD τ).loc main_arg1)) (m ((c : Thread nD τ).loc main_arg2)) (i 0) (i 1)
/-- what the body leaves in its block, -/
theorem block_at (c : Dev nD) (t : Fin cfg0.N) (r : Fin 136) (k : Fin 1024) : out0_2 (iblk m c 0 t) (iblk m c 1 t) (ix2 r k : S136x1024.Idx) = want m c (ix2 r k) := by
  rw [out_eq, pay1_at]
  simp only [iblk0_at, iblk1_at]
  rfl
theorem covers : (cfg0.win 2).Covers := by decide +kernel
theorem emb_at (t : Fin cfg0.N) (y : S136x1024.Idx) : (((cfg0.win 2).blk t).view.emb y : S136x1024.Idx) = y := by
  refine funext fun a => Fin.ext ?_
  match a with
  | ⟨0, _⟩ => exact (by omega : 0 * 136 + 1 * (y (0 : Fin 2)).val = (y (0 : Fin 2)).val)
  | ⟨1, _⟩ => exact (by omega : 0 * 1024 + 1 * (y (1 : Fin 2)).val = (y (1 : Fin 2)).val)
/-- and the result array after the run. -/
theorem array (c : Dev nD) : (dats m 0 c).arrAt 2 cfg0.N = want m c := by
  refine (dats m 0 c).arrAt_eq_of_covers 2 _ covers fun t hf y => ?_
  have hy : y = ix2 (⟨(y (0 : Fin 2)).val, (y (0 : Fin 2)).isLt⟩ : Fin 136) (⟨(y (1 : Fin 2)).val, (y (1 : Fin 2)).isLt⟩ : Fin 1024) := by
    funext a; match a with | ⟨0, _⟩ => rfl | ⟨1, _⟩ => rfl
  refine (congrFun (after0_2 m c t) y).trans ?_
  have hl : out0_2 (iblk m c 0 t) (iblk m c 1 t) y = _ := (congrArg _ hy).trans (block_at m c t _ _)
  exact (hl.trans (congrArg _ hy.symm)).trans (congrArg (want m c) (emb_at t y)).symm

end Cert.Kernel3Ideal.RowsVal

namespace Cert.Reference3Ideal.RowsVal

open Cert.Reference3Ideal Cert.Reference3Ideal.Gen
open Idealize.ShloMosaic Idealize.ShloMosaic.TcCoe

/-- The reference's result at an index. -/
theorem res_at (x : FVec Ideal S8x2048x1024 .f32) (y : FVec Ideal S128x8x1024 .f32) (g : FVec Ideal S1x1024 .f32) :
    concatenate S136x1024 0 [⟨S8x1024, (shapeCast _ (extractStridedSlice S8x1x1024 ![0, 2047, 0] (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ g shapeCasts_S1x1024_S1024)))) slices_S8x2048x1024_S8x1x1024_0_2047_0) shapeCasts_S8x1x1024_S8x1024)⟩, ⟨S128x1024, (shapeCast _ (extractStridedSlice S128x1x1024 ![0, 7, 0] (mulf (mulf y (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf y y) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 (shapeCast _ g shapeCasts_S1x1024_S1024)))) slices_S128x8x1024_S128x1x1024_0_7_0) shapeCasts_S128x1x1024_S128x1024)⟩] concatenates_S8x1024_S128x1024_S136x1024_d0
      = fun i : S136x1024.Idx => RowsSpec.entry x y g (i 0) (i 1) := by
  funext i
  idx_vars i
  pointwise [RowsSpec.entry, RowsSpec.row]
  by_cases h : i0.val < 8 <;> simp only [h, ↓reduceDIte]

end Cert.Reference3Ideal.RowsVal

namespace Cert.RowsVal

open Idealize.ShloMosaic Idealize.SL.Sem

/-- The two programs, from arguments that agree, end with the same result. -/
theorem algebraic : Cert.algebraic_Kernel3Ideal_Reference3Ideal := by
  intro m g m' g' _ hag
  refine ⟨fun c => Cert.Kernel3Ideal.RowsVal.want m c, ?_, ?_⟩
  · exact (θ_run Cert.Kernel3Ideal.defs _ _).mono (fun r h c => ⟨(h c).1.trans (Cert.Kernel3Ideal.RowsVal.array m c), (h c).2⟩) (Cert.Kernel3Ideal.Value.run_blocks m g)
  · refine (θ_run Cert.Reference3Ideal.defs _ _).mono (fun r h c => ⟨(h c).1.trans ((Cert.Reference3Ideal.RowsVal.res_at _ _ _).trans ?_), (h c).2⟩) (Cert.Reference3Ideal.Value.run m' g')
    obtain ⟨h0, h1, h2⟩ := hag c
    rw [h0, h1, h2]; rfl

end Cert.RowsVal
-- ==== Proof.OutIdeal.Body.lean ====
/- The kernel body of the output projection and router, run once for each of its two ways through: the first block of
   tokens, where the counts carried from block to block are set, and any other. -/
module

public import proofs.«01_k».proof.Proof.Gen.Kernel4Ideal.Launch
public import proofs.«01_k».proof.Proof.Gen.Kernel4Ideal.Skeleton
public import Idealize.ShloMosaic.Lib.Pipeline.Kit
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffer of the counts carried from block to block. -/
abbrev bufC : Memref sig .tc .vmem S1x32 .f32 := Memref.whole cc0_scratch0

/-- The point is the first. -/
abbrev First (i : grid0.Coords) : Prop :=
  Scalar.cmpi .ne (Scalar.extui (Scalar.cmpi .eq (BitVec.ofNat 32 (i 0).val) 0#32)) 0#32 = 1#1

/-- Row `k` of every tile of eight rows, as the body reads and writes it. -/
abbrev row0 : Rect S4096x128 := ⟨⟨![0, 0], S512x128.size, ![8, 1], inb_S4096x128_S512x128_0_0_s_8_1⟩, spos_8_1⟩
abbrev row1 : Rect S4096x128 := ⟨⟨![1, 0], S512x128.size, ![8, 1], inb_S4096x128_S512x128_1_0_s_8_1⟩, spos_8_1⟩
abbrev row2 : Rect S4096x128 := ⟨⟨![2, 0], S512x128.size, ![8, 1], inb_S4096x128_S512x128_2_0_s_8_1⟩, spos_8_1⟩
abbrev row3 : Rect S4096x128 := ⟨⟨![3, 0], S512x128.size, ![8, 1], inb_S4096x128_S512x128_3_0_s_8_1⟩, spos_8_1⟩
abbrev row4 : Rect S4096x128 := ⟨⟨![4, 0], S512x128.size, ![8, 1], inb_S4096x128_S512x128_4_0_s_8_1⟩, spos_8_1⟩
abbrev row5 : Rect S4096x128 := ⟨⟨![5, 0], S512x128.size, ![8, 1], inb_S4096x128_S512x128_5_0_s_8_1⟩, spos_8_1⟩
abbrev row6 : Rect S4096x128 := ⟨⟨![6, 0], S512x128.size, ![8, 1], inb_S4096x128_S512x128_6_0_s_8_1⟩, spos_8_1⟩
abbrev row7 : Rect S4096x128 := ⟨⟨![7, 0], S512x128.size, ![8, 1], inb_S4096x128_S512x128_7_0_s_8_1⟩, spos_8_1⟩
abbrev allA : Rect S512x512 := Rect.unit (s := S512x512) ![0, 0] S512x512.size inb_S512x512_S512x512_0_0
abbrev topW : Rect S1024x1024 := Rect.unit (s := S1024x1024) ![0, 0] S512x1024.size inb_S1024x1024_S512x1024_0_0
abbrev botW : Rect S1024x1024 := Rect.unit (s := S1024x1024) ![512, 0] S512x1024.size inb_S1024x1024_S512x1024_512_0
abbrev allX : Rect S512x1024 := Rect.unit (s := S512x1024) ![0, 0] S512x1024.size inb_S512x1024_S512x1024_0_0
abbrev allG : Rect S1x1024 := Rect.unit (s := S1x1024) ![0, 0] S1x1024.size inb_S1x1024_S1x1024_0_0

/-- The block's rows with the two mixers' projections added, -/
abbrev res (a b : Vec F S512x512 .f32) (x : Vec F S512x1024 .f32) (w : Vec F S1024x1024 .bf16) : FVec F S512x1024 .f32 :=
  k0_pay4 (View.ld a allA) (View.ld w topW) (View.ld b allA) (View.ld w botW) (View.ld x allX)
/-- and these scaled to unit mean square and by the gains. -/
abbrev nrm (a b : Vec F S512x512 .f32) (x : Vec F S512x1024 .f32) (w : Vec F S1024x1024 .bf16) (g : Vec F S1x1024 .f32) : FVec F S512x1024 .f32 :=
  k0_pay5 (View.ld a allA) (View.ld w topW) (View.ld b allA) (View.ld w botW) (View.ld x allX) (View.ld g allG)

/-- What the body leaves in the first result's block, -/
def resOut (a b : Vec F S512x512 .f32) (x : Vec F S512x1024 .f32) (w : Vec F S1024x1024 .bf16) : Vec F S512x1024 .f32 :=
  View.canon [⟨allX, res a b x w⟩]
/-- and in the second's: row `k` of every tile is the `k`-th group of 128 columns. -/
abbrev pieces (a b : Vec F S512x512 .f32) (x : Vec F S512x1024 .f32) (w : Vec F S1024x1024 .bf16) (g : Vec F S1x1024 .f32) : List (View.Piece (Elt F) S4096x128 .f32) :=
  [⟨row7, k0_pay13 (nrm a b x w g)⟩, ⟨row6, k0_pay12 (nrm a b x w g)⟩, ⟨row5, k0_pay11 (nrm a b x w g)⟩, ⟨row4, k0_pay10 (nrm a b x w g)⟩, ⟨row3, k0_pay9 (nrm a b x w g)⟩, ⟨row2, k0_pay8 (nrm a b x w g)⟩, ⟨row1, k0_pay7 (nrm a b x w g)⟩, ⟨row0, k0_pay6 (View.ld a allA) (View.ld w topW) (View.ld b allA) (View.ld w botW) (View.ld x allX) (View.ld g allG)⟩]
def nrmOut (a b : Vec F S512x512 .f32) (x : Vec F S512x1024 .f32) (w : Vec F S1024x1024 .bf16) (g : Vec F S1x1024 .f32) : Vec F S4096x128 .f32 :=
  View.canon (pieces a b x w g)

/-- A row whose number ends in `k` modulo eight lies in the rectangle of rows `k`. -/
theorem mem_row (o : Fin 2 → ℕ) (h) (hp) (k : ℕ) (ho : o = ![k, 0]) (y : S4096x128.Idx) (hy : (y 0).val % 8 = k) :
    y ∈ (⟨⟨o, S512x128.size, ![8, 1], h⟩, hp⟩ : Rect S4096x128).set := by
  subst ho
  rw [LoadRect.mem_set]
  have h0 : (y 0).val < 4096 := (y 0).isLt
  intro a
  match a with
  | ⟨0, _⟩ => exact ⟨(y 0).val / 8, show (y 0).val / 8 < 512 by omega, show (y 0).val = k + 8 * ((y 0).val / 8) by omega⟩
  | ⟨1, _⟩ => exact ⟨(y 1).val, (y 1).isLt, show (y 1).val = 0 + 1 * (y 1).val by omega⟩

/-- The eight stores leave nothing of the block unwritten. -/
theorem cover (p0 p1 p2 p3 p4 p5 p6 p7 : Vec F S512x128 .f32) (y : S4096x128.Idx) :
    ∃ pc ∈ ([⟨row7, p7⟩, ⟨row6, p6⟩, ⟨row5, p5⟩, ⟨row4, p4⟩, ⟨row3, p3⟩, ⟨row2, p2⟩, ⟨row1, p1⟩, ⟨row0, p0⟩] : List (View.Piece (Elt F) S4096x128 .f32)), y ∈ pc.1.set := by
  have h : (y 0).val % 8 < 8 := Nat.mod_lt _ (by decide)
  rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h0 | h1 | h2 | h3 | h4 | h5 | h6 | h7
  · exact ⟨⟨row0, p0⟩, by simp, mem_row _ _ _ 0 rfl y h0⟩
  · exact ⟨⟨row1, p1⟩, by simp, mem_row _ _ _ 1 rfl y h1⟩
  · exact ⟨⟨row2, p2⟩, by simp, mem_row _ _ _ 2 rfl y h2⟩
  · exact ⟨⟨row3, p3⟩, by simp, mem_row _ _ _ 3 rfl y h3⟩
  · exact ⟨⟨row4, p4⟩, by simp, mem_row _ _ _ 4 rfl y h4⟩
  · exact ⟨⟨row5, p5⟩, by simp, mem_row _ _ _ 5 rfl y h5⟩
  · exact ⟨⟨row6, p6⟩, by simp, mem_row _ _ _ 6 rfl y h6⟩
  · exact ⟨⟨row7, p7⟩, by simp, mem_row _ _ _ 7 rfl y h7⟩

set_option maxHeartbeats 4000000 in
/-- The first block of tokens. -/
theorem run_first (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1x32 .f32) (harg7 : arg7.IsWhole) (arg8 : Memref sig .tc .vmem S512x512 .bf16) (harg8 : arg8.IsWhole) (arg9 : Memref sig .tc .vmem S1x32 .i32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S512x4 .i32) (harg12 : arg12.IsWhole) (arg13 : Memref sig .tc .vmem S512x4 .f32) (harg13 : arg13.IsWhole) (arg14 : Memref sig .tc .vmem S512x4 .i32) (harg14 : arg14.IsWhole) (arg15 : Memref sig .tc .vmem S1x32 .i32) (harg15 : arg15.IsWhole)
    (a : Vec F S512x512 .f32) (b : Vec F S512x512 .f32) (x : Vec F S512x1024 .f32) (w : Vec F S1024x1024 .bf16) (g : Vec F S1x1024 .f32) (wr : Vec F S1024x32 .f32) (br : Vec F S1x32 .f32) (tr : Vec F S512x512 .bf16) (ci : Vec F S1x32 .i32)
    (hc : First i) (K : PUnit → sProp 𝕄) :
    iprop(owns (c : Thread nD τ) arg1 fullShare a ∗ owns (c : Thread nD τ) arg2 fullShare b ∗ owns (c : Thread nD τ) arg3 fullShare x ∗ owns (c : Thread nD τ) arg4 fullShare w ∗ owns (c : Thread nD τ) arg5 fullShare g ∗ owns (c : Thread nD τ) arg6 fullShare wr ∗ owns (c : Thread nD τ) arg7 fullShare br ∗ owns (c : Thread nD τ) arg8 fullShare tr ∗ owns (c : Thread nD τ) arg9 fullShare ci
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) bufC fullShare d)
        ∗ (iprop(owns (c : Thread nD τ) arg1 fullShare a ∗ owns (c : Thread nD τ) arg2 fullShare b ∗ owns (c : Thread nD τ) arg3 fullShare x ∗ owns (c : Thread nD τ) arg4 fullShare w ∗ owns (c : Thread nD τ) arg5 fullShare g ∗ owns (c : Thread nD τ) arg6 fullShare wr ∗ owns (c : Thread nD τ) arg7 fullShare br ∗ owns (c : Thread nD τ) arg8 fullShare tr ∗ owns (c : Thread nD τ) arg9 fullShare ci
            ∗ owns (c : Thread nD τ) arg10 fullShare (resOut a b x w) ∗ owns (c : Thread nD τ) arg11 fullShare (nrmOut a b x w g) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) bufC fullShare d)) -∗ K ⟨⟩))
      ⊢ wp frame (wpE (defs₀ (F := F)) Variants.none c none) Set.univ (cc0_out_proj_router i arg1 harg1 arg2 harg2 arg3 harg3 arg4 harg4 arg5 harg5 arg6 harg6 arg7 harg7 arg8 harg8 arg9 harg9 arg10 harg10 arg11 harg11 arg12 harg12 arg13 harg13 arg14 harg14 arg15 harg15 bufC (Memref.isWhole_whole _)) K := by
  rw [cc0_out_proj_router_eq_skeleton]; unfold cc0_out_proj_router_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%dC, %fC, -, HC⟩, Hk⟩
  have hC : bufC.IsWhole := Memref.isWhole_whole _
  sl_exec! (disch := exact hc)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro; subst hf0 hf1 hf2 hf3; exact View.read_writes_eq_canon _ _ _ (View.cover_of_tiled [⟨allX, _⟩] S512x1024.size (by rfl))
  isplitl [H10]
  · iexists _; isplitr
    swap; · iexact H10
    ipureintro; subst hf0 hf1 hf2 hf3 hf4; exact View.read_writes_eq_canon _ _ _ (cover _ _ _ _ _ _ _ _)
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact HC
  ipureintro; rfl

set_option maxHeartbeats 4000000 in
/-- Any other block. -/
theorem run_later (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1x32 .f32) (harg7 : arg7.IsWhole) (arg8 : Memref sig .tc .vmem S512x512 .bf16) (harg8 : arg8.IsWhole) (arg9 : Memref sig .tc .vmem S1x32 .i32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S512x4 .i32) (harg12 : arg12.IsWhole) (arg13 : Memref sig .tc .vmem S512x4 .f32) (harg13 : arg13.IsWhole) (arg14 : Memref sig .tc .vmem S512x4 .i32) (harg14 : arg14.IsWhole) (arg15 : Memref sig .tc .vmem S1x32 .i32) (harg15 : arg15.IsWhole)
    (a : Vec F S512x512 .f32) (b : Vec F S512x512 .f32) (x : Vec F S512x1024 .f32) (w : Vec F S1024x1024 .bf16) (g : Vec F S1x1024 .f32) (wr : Vec F S1024x32 .f32) (br : Vec F S1x32 .f32) (tr : Vec F S512x512 .bf16) (ci : Vec F S1x32 .i32)
    (hc : ¬ First i) (K : PUnit → sProp 𝕄) :
    iprop(owns (c : Thread nD τ) arg1 fullShare a ∗ owns (c : Thread nD τ) arg2 fullShare b ∗ owns (c : Thread nD τ) arg3 fullShare x ∗ owns (c : Thread nD τ) arg4 fullShare w ∗ owns (c : Thread nD τ) arg5 fullShare g ∗ owns (c : Thread nD τ) arg6 fullShare wr ∗ owns (c : Thread nD τ) arg7 fullShare br ∗ owns (c : Thread nD τ) arg8 fullShare tr ∗ owns (c : Thread nD τ) arg9 fullShare ci
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) bufC fullShare d)
        ∗ (iprop(owns (c : Thread nD τ) arg1 fullShare a ∗ owns (c : Thread nD τ) arg2 fullShare b ∗ owns (c : Thread nD τ) arg3 fullShare x ∗ owns (c : Thread nD τ) arg4 fullShare w ∗ owns (c : Thread nD τ) arg5 fullShare g ∗ owns (c : Thread nD τ) arg6 fullShare wr ∗ owns (c : Thread nD τ) arg7 fullShare br ∗ owns (c : Thread nD τ) arg8 fullShare tr ∗ owns (c : Thread nD τ) arg9 fullShare ci
            ∗ owns (c : Thread nD τ) arg10 fullShare (resOut a b x w) ∗ owns (c : Thread nD τ) arg11 fullShare (nrmOut a b x w g) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) bufC fullShare d)) -∗ K ⟨⟩))
      ⊢ wp frame (wpE (defs₀ (F := F)) Variants.none c none) Set.univ (cc0_out_proj_router i arg1 harg1 arg2 harg2 arg3 harg3 arg4 harg4 arg5 harg5 arg6 harg6 arg7 harg7 arg8 harg8 arg9 harg9 arg10 harg10 arg11 harg11 arg12 harg12 arg13 harg13 arg14 harg14 arg15 harg15 bufC (Memref.isWhole_whole _)) K := by
  rw [cc0_out_proj_router_eq_skeleton]; unfold cc0_out_proj_router_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%dC, %fC, -, HC⟩, Hk⟩
  have hC : bufC.IsWhole := Memref.isWhole_whole _
  sl_exec! (disch := exact hc)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro; subst hf0 hf1 hf2 hf3; exact View.read_writes_eq_canon _ _ _ (View.cover_of_tiled [⟨allX, _⟩] S512x1024.size (by rfl))
  isplitl [H10]
  · iexists _; isplitr
    swap; · iexact H10
    ipureintro; subst hf0 hf1 hf2 hf3 hf4; exact View.read_writes_eq_canon _ _ _ (cover _ _ _ _ _ _ _ _)
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact HC
  ipureintro; rfl

end Cert.Kernel4Ideal.Out

end
-- ==== Proof.OutVal.Pure.lean ====
/-
  The output projection's stored vectors, read at an index: the residual with the two mixers' projections added, and its
  rows scaled to unit mean square and by the gains.
-/
module

public import proofs.«01_k».proof.Proof.OutIdeal.Body
public import Idealize.ShloMosaic.Lib.Pipeline.ValueKit
public import Idealize.ShloMosaic.Lib.Pointwise
public import Idealize.ShloMosaic.Lib.IdealHost
public import Idealize.ShloMosaic.Lib.Tactic.CleanTypes

@[expose] public section

set_option maxRecDepth 16384

noncomputable section

namespace Cert.OutSpec

open Idealize.ShloMosaic

/-- Token `n`'s residual at column `j`: the prompt's row, and the two mixers' outputs times the matrix's two halves. -/
def res (a b : (⟨2, ![16384, 512]⟩ : Shape).Idx → EReal) (x : (⟨3, ![8, 2048, 1024]⟩ : Shape).Idx → EReal) (w : (⟨3, ![1, 1024, 1024]⟩ : Shape).Idx → EReal)
    (n : Fin 16384) (j : Fin 1024) : EReal :=
  x (ix3 ⟨n.val / 2048, by omega⟩ ⟨n.val % 2048, by omega⟩ j)
    + (∑ k : Fin 512, a (ix2 n k) * w (ix3 0 ⟨k.val, by omega⟩ j) + ∑ k : Fin 512, b (ix2 n k) * w (ix3 0 ⟨512 + k.val, by omega⟩ j))

/-- A row scaled to unit mean square and by the gains. -/
def scaled (X : Fin 1024 → EReal) (g : Fin 1024 → EReal) (j : Fin 1024) : EReal :=
  X j * Ideal.rsqrt (Ideal.div (∑ k : Fin 1024, X k * X k) (Ideal.ofBits .f32 0x44800000#32) + Ideal.ofBits .f32 0x358637BD#32) * g j

end Cert.OutSpec

namespace Cert.Kernel4Ideal.OutVal

open Cert.Kernel4Ideal Cert.Kernel4Ideal.Gen Cert.Kernel4Ideal.Out
open Idealize.ShloMosaic Idealize.ShloMosaic.TcCoe

theorem pay4_at (a : Vec Ideal S512x512 .f32) (wt : Vec Ideal S512x1024 .bf16) (b : Vec Ideal S512x512 .f32) (wb : Vec Ideal S512x1024 .bf16) (x : Vec Ideal S512x1024 .f32)
    (r : Fin 512) (j : Fin 1024) :
    k0_pay4 a wt b wb x (ix2 r j) = x (ix2 r j) + (∑ k : Fin 512, a (ix2 r k) * wt (ix2 k j) + ∑ k : Fin 512, b (ix2 r k) * wb (ix2 k j)) := by
  pointwise [k0_pay4]

theorem pay5_at (a : Vec Ideal S512x512 .f32) (wt : Vec Ideal S512x1024 .bf16) (b : Vec Ideal S512x512 .f32) (wb : Vec Ideal S512x1024 .bf16) (x : Vec Ideal S512x1024 .f32)
    (g : Vec Ideal S1x1024 .f32) (r : Fin 512) (j : Fin 1024) :
    k0_pay5 a wt b wb x g (ix2 r j) = OutSpec.scaled (fun j => k0_pay4 a wt b wb x (ix2 r j)) (fun j => g (ix2 0 j)) j := by
  unfold OutSpec.scaled
  generalize hY : k0_pay4 a wt b wb x = Y
  unfold k0_pay5
  rw [hY]
  pointwise

/-- The block's residual at row `r` and column `j`, from the input blocks, -/
def rowOf (a b : Vec Ideal S512x512 .f32) (x : Vec Ideal S512x1024 .f32) (w : Vec Ideal S1024x1024 .bf16) (r : Fin 512) (j : Fin 1024) : EReal :=
  x (ix2 r j) + (∑ k : Fin 512, a (ix2 r k) * w (ix2 ⟨k.val, by omega⟩ j) + ∑ k : Fin 512, b (ix2 r k) * w (ix2 ⟨512 + k.val, by omega⟩ j))

theorem res_at (a b : Vec Ideal S512x512 .f32) (x : Vec Ideal S512x1024 .f32) (w : Vec Ideal S1024x1024 .bf16) (r : Fin 512) (j : Fin 1024) :
    res a b x w (ix2 r j) = rowOf a b x w r j := by
  have ha : View.ld a allA = a := View.ld_unit_zero (S := S512x512) (funext fun a => by match a with | ⟨0, _⟩ => rfl | ⟨1, _⟩ => rfl) _ a
  have hb : View.ld b allA = b := View.ld_unit_zero (S := S512x512) (funext fun a => by match a with | ⟨0, _⟩ => rfl | ⟨1, _⟩ => rfl) _ b
  have hx : View.ld x allX = x := View.ld_unit_zero (S := S512x1024) (funext fun a => by match a with | ⟨0, _⟩ => rfl | ⟨1, _⟩ => rfl) _ x
  unfold res rowOf
  rw [pay4_at, ha, hb, hx]
  refine congrArg (_ + ·) (congrArg₂ (· + ·) ?_ ?_)
  · refine Finset.sum_congr rfl fun k _ => congrArg (_ * ·) (congrArg w (funext fun a => Fin.ext ?_))
    match a with
    | ⟨0, _⟩ => show 0 + 1 * k.val = k.val; omega
    | ⟨1, _⟩ => show 0 + 1 * j.val = j.val; omega
  · refine Finset.sum_congr rfl fun k _ => congrArg (_ * ·) (congrArg w (funext fun a => Fin.ext ?_))
    match a with
    | ⟨0, _⟩ => show 512 + 1 * k.val = 512 + k.val; omega
    | ⟨1, _⟩ => show 0 + 1 * j.val = j.val; omega

theorem resOut_at (a b : Vec Ideal S512x512 .f32) (x : Vec Ideal S512x1024 .f32) (w : Vec Ideal S1024x1024 .bf16) (r : Fin 512) (j : Fin 1024) :
    resOut a b x w (ix2 r j) = rowOf a b x w r j := by
  have h : resOut a b x w = res a b x w :=
    View.canon_cons_unit_zero (S := S512x1024) (funext fun a => by match a with | ⟨0, _⟩ => rfl | ⟨1, _⟩ => rfl) _ _ []
  rw [h, res_at]

/-- and the same scaled. -/
theorem nrm_at (a b : Vec Ideal S512x512 .f32) (x : Vec Ideal S512x1024 .f32) (w : Vec Ideal S1024x1024 .bf16) (g : Vec Ideal S1x1024 .f32) (r : Fin 512) (j : Fin 1024) :
    nrm a b x w g (ix2 r j) = OutSpec.scaled (rowOf a b x w r) (fun j => g (ix2 0 j)) j := by
  have hg : View.ld g allG = g := View.ld_unit_zero (S := S1x1024) (funext fun a => by match a with | ⟨0, _⟩ => rfl | ⟨1, _⟩ => rfl) _ g
  unfold nrm
  rw [pay5_at, hg]
  exact congrArg (fun X => OutSpec.scaled X (fun j => g (ix2 0 j)) j) (funext fun j => res_at a b x w r j)

/-- The stored block at its row `8 r + s` and lane `l`: column `128 s + l` of row `r`. -/
theorem nrmOut_at (a b : Vec Ideal S512x512 .f32) (x : Vec Ideal S512x1024 .f32) (w : Vec Ideal S1024x1024 .bf16) (g : Vec Ideal S1x1024 .f32)
    (y : S4096x128.Idx) (r : Fin 512) (k : Fin 1024) (hr : (y 0).val / 8 = r.val) (hk : 128 * ((y 0).val % 8) + (y 1).val = k.val) :
    nrmOut a b x w g y = OutSpec.scaled (rowOf a b x w r) (fun j => g (ix2 0 j)) k := by
  unfold nrmOut
  rw [← nrm_at]
  refine View.canon_eq_of_allAt _ _ _ (cover _ _ _ _ _ _ _ _ y) ?_
  have h : ∀ (s : ℕ) (o : Fin 2 → ℕ) (h) (hp) (ho : o = ![s, 0]) (z : S512x128.Idx) (hs : s < 8)
      (hz : (⟨⟨o, S512x128.size, ![8, 1], h⟩, hp⟩ : Rect S4096x128).emb z = y) (W : FVec Ideal S512x1024 .f32),
      W (ix2 ⟨(z 0).val, (z 0).isLt⟩ ⟨128 * s + (z 1).val, by have : (z 1).val < 128 := (z 1).isLt; omega⟩) = W (ix2 r k) := by
    intro s o h hp ho z hs hz W
    subst ho
    have e0 : s + 8 * (z 0).val = (y 0).val := congrArg (fun q => (q 0).val) hz
    have e1 : 0 + 1 * (z 1).val = (y 1).val := congrArg (fun q => (q 1).val) hz
    have l0 : (z 0).val < 512 := (z 0).isLt
    have l1 : (z 1).val < 128 := (z 1).isLt
    refine congrArg W ((ix2_inj ..).2 ⟨Fin.ext ?_, Fin.ext ?_⟩)
    · show (z 0).val = r.val; omega
    · show 128 * s + (z 1).val = k.val; omega
  unfold pieces
  rw [show k0_pay6 (View.ld a allA) (View.ld w topW) (View.ld b allA) (View.ld w botW) (View.ld x allX) (View.ld g allG)
    = extractStridedSlice S512x128 ![0, 0] (nrm a b x w g) slices_S512x1024_o0_0_S512x128 from rfl]
  generalize nrm a b x w g = W
  intro p hp z hz
  simp only [List.mem_cons, List.not_mem_nil, or_false] at hp
  rcases hp with rfl | rfl | rfl | rfl | rfl | rfl | rfl | rfl
  · have e := h 7 ![7, 0] inb_S4096x128_S512x128_7_0_s_8_1 spos_8_1 rfl z (by omega) hz W
    rw [← e]; idx_vars z; pointwise [k0_pay13]
  · have e := h 6 ![6, 0] inb_S4096x128_S512x128_6_0_s_8_1 spos_8_1 rfl z (by omega) hz W
    rw [← e]; idx_vars z; pointwise [k0_pay12]
  · have e := h 5 ![5, 0] inb_S4096x128_S512x128_5_0_s_8_1 spos_8_1 rfl z (by omega) hz W
    rw [← e]; idx_vars z; pointwise [k0_pay11]
  · have e := h 4 ![4, 0] inb_S4096x128_S512x128_4_0_s_8_1 spos_8_1 rfl z (by omega) hz W
    rw [← e]; idx_vars z; pointwise [k0_pay10]
  · have e := h 3 ![3, 0] inb_S4096x128_S512x128_3_0_s_8_1 spos_8_1 rfl z (by omega) hz W
    rw [← e]; idx_vars z; pointwise [k0_pay9]
  · have e := h 2 ![2, 0] inb_S4096x128_S512x128_2_0_s_8_1 spos_8_1 rfl z (by omega) hz W
    rw [← e]; idx_vars z; pointwise [k0_pay8]
  · have e := h 1 ![1, 0] inb_S4096x128_S512x128_1_0_s_8_1 spos_8_1 rfl z (by omega) hz W
    rw [← e]; idx_vars z; pointwise [k0_pay7]
  · have e := h 0 ![0, 0] inb_S4096x128_S512x128_0_0_s_8_1 spos_8_1 rfl z (by omega) hz W
    rw [← e]; idx_vars z; pointwise

end Cert.Kernel4Ideal.OutVal
-- ==== Proof.OutIdeal.Run.lean ====
/-
  The run of the output projection and router's kernel: what every grid point leaves in the blocks of the first two results,
  the pipeline's obligation at every point, and the launch. Of the other four results, and of the counts carried from
  point to point, the run says nothing.
-/
module

public import proofs.«01_k».proof.Proof.OutIdeal.Body
public import proofs.«01_k».proof.Proof.Gen.Kernel4Ideal.Points
public import proofs.«01_k».proof.Proof.Gen.Kernel4Ideal.Frame
public import Idealize.ShloMosaic.Lib.Pipeline.Quiescent
public import Idealize.ShloMosaic.Lib.Claim

@[expose] public section

set_option maxRecDepth 16384
set_option Elab.async false

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results of which nothing is said. -/
def fgt : Fin cfg0.W → Bool := fun w => decide (11 ≤ w.val)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => resOut (iblk m c 0 t) (iblk m c 1 t) (iblk m c 2 t) (iblk m c 3 t)
    | ⟨10, _⟩ => nrmOut (iblk m c 0 t) (iblk m c 1 t) (iblk m c 2 t) (iblk m c 3 t) (iblk m c 4 t)
    | ⟨11, _⟩ => Dat.unnamed 11 t
    | ⟨12, _⟩ => Dat.unnamed 12 t
    | ⟨13, _⟩ => Dat.unnamed 13 t
    | ⟨14, _⟩ => Dat.unnamed 14 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = resOut (iblk m c 0 t) (iblk m c 1 t) (iblk m c 2 t) (iblk m c 3 t) := by dsimp only [dats]
theorem after10 (c : Dev nD) (t : Fin cfg0.N) : (dats m 0 c).after 10 t = nrmOut (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, after9, after10]
  unfold Pipeline.ΦA; rw [scopedRest0_eq]
  iintro ⟨⟨⟨%fC, HC⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases hc : First (grid0.coords t)
  · skip
    iapply (run_first c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HC]; · iexists fC; rw [owns_whole]; iexact HC
    iintro ⟨H0, H1, H2, H3, H4, H5, H6, H7, H8, H9, H10, H11, H12, H13, H14, ⟨%dC, HC⟩⟩
    isplitl [HC Hp]
    · isplitl [HC]
      · iexists dC; rw [owns_whole]; exact .rfl
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · skip
    iapply (run_later c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HC]; · iexists fC; rw [owns_whole]; iexact HC
    iintro ⟨H0, H1, H2, H3, H4, H5, H6, H7, H8, H9, H10, H11, H12, H13, H14, ⟨%dC, HC⟩⟩
    isplitl [HC Hp]
    · isplitl [HC]
      · iexists dC; rw [owns_whole]; exact .rfl
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every weakly fair execution of @main terminates, with each array as the pipeline leaves it and every semaphore
    counter at zero. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array ends as the region found it. -/
theorem in_end {r : PUnit × MemSt nD τ sig (Elt F)} (h : Pipeline.RDat.FramePost cfg0 (fun c => (dats m 0 c).toRForget fgt) (V m) r)
    (c : Dev nD) (w : Fin 15) (hin : (cfg0.win w).isOut = false) :
    r.2.mem ((cfg0.win w).arr.view.loc (c : Thread nD τ)) = V m c (Pipeline.arrRef spec0 w) :=
  (Pipeline.RDat.FramePost.arr_in h c w hin).trans (A_eq m c w)

/-- The run with its two results: they end at what the pipeline computes, every argument as it was, every counter at zero. -/
theorem run_result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((cfg0.win (9 : Fin 15)).arr.view.loc (c : Thread nD τ)) = (dats m 0 c).arrAt (9 : Fin 15) cfg0.N
      ∧ r.2.mem ((cfg0.win (10 : Fin 15)).arr.view.loc (c : Thread nD τ)) = (dats m 0 c).arrAt (10 : Fin 15) cfg0.N)
      ∧ r.2.sem = fun _ => 0) :=
  (θ_run defs _ _).mono (fun _ (h : _ ∧ _) => ⟨fun c => ⟨⟨
      (in_end m h.1 c (0 : Fin 15) rfl).trans (V_main_arg0 m c),
      (in_end m h.1 c (1 : Fin 15) rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (in_end m h.1 c (4 : Fin 15) rfl).trans (V_main_arg4 m c),
      ((h.1 c).2 main_arg5 (Pipeline.mem_restRefs_of main_arg5 (by decide) (by decide))).trans (V_main_arg5 m c),
      (in_end m h.1 c (6 : Fin 15) rfl).trans (V_main_arg6 m c)⟩,
      ((dats m 0 c).toRForget_arrAt_iff (w := (9 : Fin 15)) (by decide) _ _).mp ((h.1 c).1 (9 : Fin 15)),
      ((dats m 0 c).toRForget_arrAt_iff (w := (10 : Fin 15)) (by decide) _ _).mp ((h.1 c).1 (10 : Fin 15))⟩, h.2⟩) (run_main m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).1, h.2⟩) (run_result m ρ)

end Cert.Kernel4Ideal.Out

end
-- ==== Proof.OutVal.Array.lean ====
/-
  The output projection's first two result arrays after the kernel's run, index by index.
-/
module

public import proofs.«01_k».proof.Proof.OutVal.Pure
public import proofs.«01_k».proof.Proof.OutIdeal.Run

@[expose] public section

set_option maxRecDepth 16384

noncomputable section

namespace Cert.Kernel4Ideal.OutVal

open Cert.Kernel4Ideal Cert.Kernel4Ideal.Gen Cert.Kernel4Ideal.Out
open Idealize.ShloMosaic Idealize.ShloMosaic.TcCoe
open Idealize.ShloMosaic.Pipeline (Dat Cfg Window)

variable (m : (ℓ : Loc nD τ sig) → Buf (Elt Ideal) ℓ)

/-- The two arrays that the region finds computed from the arguments. -/
theorem V_main_v3 (c : Dev nD) : V m c main_v3 = shapeCast _ (m ((c : Thread nD τ).loc main_arg2)) shapeCasts_S8x2048x1024_S16384x1024 := by
  unfold V; after_results <;> rfl
theorem V_main_v1 (c : Dev nD) : V m c main_v1 = truncf (F := Ideal) (s := S1024x1024) (φ := .f32) .bf16 (shapeCast _ (m ((c : Thread nD τ).loc main_arg3)) shapeCasts_S1x1024x1024_S1024x1024) bitsLt_bf16_f32 := by
  unfold V; after_results <;> rfl

theorem N_eq : cfg0.N = 32 := (by decide +kernel : grid0.N = 32)
theorem lt32 (t : Fin cfg0.N) : t.val < 32 := lt_of_lt_of_eq t.isLt N_eq

theorem row_lt {n r : ℕ} (hn : n < 32) (hr : r < 512) : n * 512 + r < 16384 := by omega
theorem div_lt {n : ℕ} (hn : n < 16384) : n / 2048 < 8 := by omega
theorem mod_lt (n : ℕ) : n % 2048 < 2048 := by omega
theorem row_eq (n r s : ℕ) : n * s + 1 * r = n * s + r := by omega
theorem col_eq (n r : ℕ) : 0 * n + 1 * r = r := by omega

/-- The rows of the prompt laid one after the other, and the rounded matrix, at an index. -/
theorem rows_at (x : FVec Ideal S8x2048x1024 .f32) (n : Fin 16384) (k : Fin 1024) (h0 : n.val / 2048 < 8) (h1 : n.val % 2048 < 2048) :
    shapeCast S16384x1024 x shapeCasts_S8x2048x1024_S16384x1024 (ix2 n k) = x (ix3 ⟨n.val / 2048, h0⟩ ⟨n.val % 2048, h1⟩ k) := by
  pointwise
theorem matrix_at (w : FVec Ideal S1x1024x1024 .f32) (k : Fin 1024) (j : Fin 1024) :
    truncf (F := Ideal) (s := S1024x1024) (φ := .f32) .bf16 (shapeCast _ w shapeCasts_S1x1024x1024_S1024x1024) bitsLt_bf16_f32 (ix2 k j) = w (ix3 0 k j) := by
  pointwise

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])

/-- The input windows' blocks at a point, read off the arguments. -/
theorem iblk0_at (c : Dev nD) (t : Fin cfg0.N) (r : Fin 512) (k : Fin 512) : iblk m c 0 t (ix2 r k : S512x512.Idx)
    = m ((c : Thread nD τ).loc main_arg0) (ix2 ⟨t.val * 512 + r.val, row_lt (lt32 t) r.isLt⟩ k) := by
  have ht : t.val < 32 := lt32 t
  rw [← V_main_arg0 m c]
  refine congrArg (V m c main_arg0) (funext fun a => Fin.ext ?_)
  have h := congrFun (index0 t) a
  change win0_0.index t a * S512x512.size a + 1 * ((ix2 r k : S512x512.Idx) a).val = _
  rw [h]
  match a with
  | ⟨0, _⟩ => exact row_eq t.val r.val 512
  | ⟨1, _⟩ => exact col_eq _ k.val

theorem iblk1_at (c : Dev nD) (t : Fin cfg0.N) (r : Fin 512) (k : Fin 512) : iblk m c 1 t (ix2 r k : S512x512.Idx)
    = m ((c : Thread nD τ).loc main_arg1) (ix2 ⟨t.val * 512 + r.val, row_lt (lt32 t) r.isLt⟩ k) := by
  have ht : t.val < 32 := lt32 t
  rw [← V_main_arg1 m c]
  refine congrArg (V m c main_arg1) (funext fun a => Fin.ext ?_)
  have h := congrFun (index1 t) a
  change win0_1.index t a * S512x512.size a + 1 * ((ix2 r k : S512x512.Idx) a).val = _
  rw [h]
  match a with
  | ⟨0, _⟩ => exact row_eq t.val r.val 512
  | ⟨1, _⟩ => exact col_eq _ k.val

theorem iblk2_at (c : Dev nD) (t : Fin cfg0.N) (r : Fin 512) (k : Fin 1024) : iblk m c 2 t (ix2 r k : S512x1024.Idx)
    = m ((c : Thread nD τ).loc main_arg2) (ix3 ⟨(t.val * 512 + r.val) / 2048, div_lt (row_lt (lt32 t) r.isLt)⟩ ⟨(t.val * 512 + r.val) % 2048, mod_lt _⟩ k) := by
  have ht : t.val < 32 := lt32 t
  have h : iblk m c 2 t (ix2 r k : S512x1024.Idx) = V m c main_v3 (ix2 (⟨t.val * 512 + r.val, row_lt ht r.isLt⟩ : Fin 16384) k : S16384x1024.Idx) := by
    refine congrArg (V m c main_v3) (funext fun a => Fin.ext ?_)
    have h := congrFun (index2 t) a
    change win0_2.index t a * S512x1024.size a + 1 * ((ix2 r k : S512x1024.Idx) a).val = _
    rw [h]
    match a with
    | ⟨0, _⟩ => exact row_eq t.val r.val 512
    | ⟨1, _⟩ => exact col_eq _ k.val
  rw [h, V_main_v3]
  exact rows_at _ _ k _ _

theorem iblk3_at (c : Dev nD) (t : Fin cfg0.N) (k : Fin 1024) (j : Fin 1024) : iblk m c 3 t (ix2 k j : S1024x1024.Idx)
    = m ((c : Thread nD τ).loc main_arg3) (ix3 0 k j) := by
  have h : iblk m c 3 t (ix2 k j : S1024x1024.Idx) = V m c main_v1 (ix2 k j) := by
    refine congrArg (V m c main_v1) (funext fun a => Fin.ext ?_)
    have h := congrFun (index3 t) a
    change win0_3.index t a * S1024x1024.size a + 1 * ((ix2 k j : S1024x1024.Idx) a).val = _
    rw [h]
    match a with
    | ⟨0, _⟩ => exact col_eq _ k.val
    | ⟨1, _⟩ => exact col_eq _ j.val
  rw [h, V_main_v1]
  exact matrix_at _ k j

theorem iblk4_at (c : Dev nD) (t : Fin cfg0.N) (k : Fin 1024) : iblk m c 4 t (ix2 0 k : S1x1024.Idx)
    = m ((c : Thread nD τ).loc main_arg4) (ix2 0 k) := by
  rw [← V_main_arg4 m c]
  refine congrArg (V m c main_arg4) (funext fun a => Fin.ext ?_)
  have h := congrFun (index4 t) a
  change win0_4.index t a * S1x1024.size a + 1 * ((ix2 0 k : S1x1024.Idx) a).val = _
  rw [h]
  match a with
  | ⟨0, _⟩ => rfl
  | ⟨1, _⟩ => exact col_eq _ k.val

/-- Token `n`'s residual, from the arguments. -/
abbrev tok (c : Dev nD) (n : Fin 16384) (j : Fin 1024) : EReal :=
  OutSpec.res (m ((c : Thread nD τ).loc main_arg0)) (m ((c : Thread nD τ).loc main_arg1)) (m ((c : Thread nD τ).loc main_arg2)) (m ((c : Thread nD τ).loc main_arg3)) n j
/-- The gains. -/
abbrev gain (c : Dev nD) (j : Fin 1024) : EReal := (m ((c : Thread nD τ).loc main_arg4) : S1x1024.Idx → EReal) (ix2 0 j)

/-- A block's rows are those tokens' residuals. -/
theorem rowOf_at (c : Dev nD) (t : Fin cfg0.N) (r : Fin 512) :
    rowOf (iblk m c 0 t) (iblk m c 1 t) (iblk m c 2 t) (iblk m c 3 t) r = tok m c ⟨t.val * 512 + r.val, row_lt (lt32 t) r.isLt⟩ := by
  funext j
  unfold rowOf
  simp only [iblk0_at, iblk1_at, iblk2_at, iblk3_at]
  rfl

/-- The first result's array wanted, -/
def want9 (c : Dev nD) : Vec Ideal S16384x1024 .f32 := fun i => tok m c (i 0) (i 1)
/-- where a point's block lies in it, -/
theorem emb9_0 (t : Fin cfg0.N) (y : S512x1024.Idx) : (((cfg0.win (9 : Fin 15)).blk t).view.emb y (0 : Fin 2)).val = t.val * 512 + (y (0 : Fin 2)).val := by
  change win0_9.index t (0 : Fin 2) * 512 + 1 * (y (0 : Fin 2)).val = _
  rw [index9]; exact row_eq t.val _ 512
theorem emb9_1 (t : Fin cfg0.N) (y : S512x1024.Idx) : (((cfg0.win (9 : Fin 15)).blk t).view.emb y (1 : Fin 2)).val = (y (1 : Fin 2)).val := by
  change win0_9.index t (1 : Fin 2) * 1024 + 1 * (y (1 : Fin 2)).val = _
  rw [index9]; exact col_eq _ _
theorem want9_at (c : Dev nD) (i : S16384x1024.Idx) (n : ℕ) (hn : n < 16384) (j : Fin 1024) (h0 : (i (0 : Fin 2)).val = n) (h : (i (1 : Fin 2)).val = j.val) :
    want9 m c i = tok m c ⟨n, hn⟩ j := by
  subst h0
  exact congrArg (tok m c _) (Fin.ext h)
theorem covers9 : (cfg0.win (9 : Fin 15)).Covers := by decide +kernel
/-- and the array after the run. -/
theorem array9 (c : Dev nD) : (dats m 0 c).arrAt (9 : Fin 15) cfg0.N = want9 m c := by
  refine (dats m 0 c).arrAt_eq_of_covers (9 : Fin 15) _ covers9 fun t hf y => ?_
  have hy : y = ix2 (⟨(y (0 : Fin 2)).val, (y (0 : Fin 2)).isLt⟩ : Fin 512) (⟨(y (1 : Fin 2)).val, (y (1 : Fin 2)).isLt⟩ : Fin 1024) := by
    funext a; match a with | ⟨0, _⟩ => rfl | ⟨1, _⟩ => rfl
  refine (congrFun (after9 m c t) y).trans ?_
  have hl : resOut (iblk m c 0 t) (iblk m c 1 t) (iblk m c 2 t) (iblk m c 3 t) y = _ :=
    (congrArg _ hy).trans ((resOut_at _ _ _ _ _ _).trans (congrFun (rowOf_at m c t _) _))
  exact hl.trans (want9_at m c _ _ _ _ (emb9_0 t y) (emb9_1 t y)).symm

theorem tile_lt {n : ℕ} (h : n < 131072) : n / 8 < 16384 := by omega
theorem lane_lt {n l : ℕ} (h : l < 128) : 128 * (n % 8) + l < 1024 := by omega
theorem low_lt {n : ℕ} (h : n < 4096) : n / 8 < 512 := by omega
theorem tile_eq (n r : ℕ) : (n * 4096 + r) / 8 = n * 512 + r / 8 := by omega
theorem lane_eq (n r l : ℕ) : 128 * ((n * 4096 + r) % 8) + l = 128 * (r % 8) + l := by omega

/-- The second result's array wanted, -/
def want10 (c : Dev nD) : Vec Ideal S131072x128 .f32 := fun i =>
  OutSpec.scaled (tok m c ⟨(i 0).val / 8, tile_lt (i (0 : Fin 2)).isLt⟩) (gain m c) ⟨128 * ((i 0).val % 8) + (i 1).val, lane_lt (i (1 : Fin 2)).isLt⟩
/-- where a point's block lies in it, -/
theorem emb10_0 (t : Fin cfg0.N) (y : S4096x128.Idx) : (((cfg0.win (10 : Fin 15)).blk t).view.emb y (0 : Fin 2)).val = t.val * 4096 + (y (0 : Fin 2)).val := by
  change win0_10.index t (0 : Fin 2) * 4096 + 1 * (y (0 : Fin 2)).val = _
  rw [index10]; exact row_eq t.val _ 4096
theorem emb10_1 (t : Fin cfg0.N) (y : S4096x128.Idx) : (((cfg0.win (10 : Fin 15)).blk t).view.emb y (1 : Fin 2)).val = (y (1 : Fin 2)).val := by
  change win0_10.index t (1 : Fin 2) * 128 + 1 * (y (1 : Fin 2)).val = _
  rw [index10]; exact col_eq _ _
theorem want10_at (c : Dev nD) (i : S131072x128.Idx) (t : ℕ) (r : ℕ) (l : ℕ) (hn : t * 512 + r / 8 < 16384) (hl : 128 * (r % 8) + l < 1024)
    (h0 : (i (0 : Fin 2)).val = t * 4096 + r) (h1 : (i (1 : Fin 2)).val = l) :
    want10 m c i = OutSpec.scaled (tok m c ⟨t * 512 + r / 8, hn⟩) (gain m c) ⟨128 * (r % 8) + l, hl⟩ := by
  refine congrArg₂ (fun n k => OutSpec.scaled (tok m c n) (gain m c) k) (Fin.ext ?_) (Fin.ext ?_)
  · show (i (0 : Fin 2)).val / 8 = _
    rw [h0]; exact tile_eq t r
  · show 128 * ((i (0 : Fin 2)).val % 8) + (i (1 : Fin 2)).val = _
    rw [h0, h1]; exact lane_eq t r l
theorem covers10 : (cfg0.win (10 : Fin 15)).Covers := by decide +kernel
theorem block10 (c : Dev nD) (t : Fin cfg0.N) (y : S4096x128.Idx) :
    nrmOut (iblk m c 0 t) (iblk m c 1 t) (iblk m c 2 t) (iblk m c 3 t) (iblk m c 4 t) y
      = OutSpec.scaled (tok m c ⟨t.val * 512 + (y 0).val / 8, row_lt (lt32 t) (low_lt (y (0 : Fin 2)).isLt)⟩) (gain m c) ⟨128 * ((y 0).val % 8) + (y 1).val, lane_lt (y (1 : Fin 2)).isLt⟩ := by
  refine (nrmOut_at _ _ _ _ _ y ⟨(y 0).val / 8, low_lt (y (0 : Fin 2)).isLt⟩ ⟨128 * ((y 0).val % 8) + (y 1).val, lane_lt (y (1 : Fin 2)).isLt⟩ rfl rfl).trans ?_
  exact congrArg₂ (fun X g => OutSpec.scaled X g _) (rowOf_at m c t _) (funext fun j => iblk4_at m c t j)
/-- and the array after the run. -/
theorem array10 (c : Dev nD) : (dats m 0 c).arrAt (10 : Fin 15) cfg0.N = want10 m c := by
  refine (dats m 0 c).arrAt_eq_of_covers (10 : Fin 15) _ covers10 fun t hf y => ?_
  refine (congrFun (after10 m c t) y).trans ?_
  exact (block10 m c t y).trans (want10_at m c _ _ _ _ _ _ (emb10_0 t y) (emb10_1 t y)).symm

end Cert.Kernel4Ideal.OutVal
-- ==== Proof.OutVal.Ref.lean ====
/-
  The reference's two results, read at an index.
-/
module

public import proofs.«01_k».proof.Proof.OutVal.Pure
public import proofs.«01_k».proof.Proof.Gen.Reference4Ideal.Run

@[expose] public section

set_option maxRecDepth 16384

noncomputable section

namespace Cert.Reference4Ideal.OutVal

open Cert.Reference4Ideal Cert.Reference4Ideal.Gen
open Idealize.ShloMosaic Idealize.ShloMosaic.TcCoe

/-- The product of two rows of 512 set side by side is the sum of the two products. -/
theorem sum_halves (f : Fin 1024 → EReal) : ∑ k : Fin 1024, f k = ∑ k : Fin 512, f ⟨k.val, by omega⟩ + ∑ k : Fin 512, f ⟨512 + k.val, by omega⟩ :=
  Fin.sum_univ_add (a := 512) (b := 512) f

/-- The two mixers' outputs side by side. -/
theorem side_at (a b : FVec Ideal S16384x512 .f32) (n : Fin 16384) (k : Fin 512) :
    (concatenate S16384x1024 1 [⟨S16384x512, a⟩, ⟨S16384x512, b⟩] concatenates_S16384x512_S16384x512_S16384x1024_d1 : FVec Ideal S16384x1024 .f32) (ix2 n ⟨k.val, by omega⟩) = a (ix2 n k)
    ∧ (concatenate S16384x1024 1 [⟨S16384x512, a⟩, ⟨S16384x512, b⟩] concatenates_S16384x512_S16384x512_S16384x1024_d1 : FVec Ideal S16384x1024 .f32) (ix2 n ⟨512 + k.val, by omega⟩) = b (ix2 n k) := by
  constructor
  · pointwise
  · pointwise

/-- The first result, -/
theorem res4_at (a b : FVec Ideal S16384x512 .f32) (x : FVec Ideal S8x2048x1024 .f32) (w : FVec Ideal S1x1024x1024 .f32) :
    addf (shapeCast _ x shapeCasts_S8x2048x1024_S16384x1024) (Host.dotGeneral dot_S16384x1024_S1024x1024_S16384x1024_1_0_0_1_n_n none (concatenate S16384x1024 1 [⟨S16384x512, a⟩, ⟨S16384x512, b⟩] concatenates_S16384x512_S16384x512_S16384x1024_d1) (shapeCast _ w shapeCasts_S1x1024x1024_S1024x1024))
      = fun i : S16384x1024.Idx => OutSpec.res a b x w (i 0) (i 1) := by
  have hs := side_at a b
  revert hs
  generalize (concatenate S16384x1024 1 [⟨S16384x512, a⟩, ⟨S16384x512, b⟩] concatenates_S16384x512_S16384x512_S16384x1024_d1 : FVec Ideal S16384x1024 .f32) = C
  intro hs
  funext i
  idx_vars i
  unfold OutSpec.res
  pointwise
  rw [sum_halves]
  simp only [fun n k => (hs n k).1, fun n k => (hs n k).2]

/-- and the second. -/
theorem res19_at (X : FVec Ideal S16384x1024 .f32) (g : FVec Ideal S1x1024 .f32) :
    shapeCast _ (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))) shapeCasts_S16384x1024_S131072x128
      = fun i : S131072x128.Idx => OutSpec.scaled (fun j => X (ix2 ⟨(i 0).val / 8, by have : (i 0).val < 131072 := (i 0).isLt; omega⟩ j)) (fun j => g (ix2 0 j))
          ⟨128 * ((i 0).val % 8) + (i 1).val, by have : (i 1).val < 128 := (i 1).isLt; omega⟩ := by
  funext i
  idx_vars i
  pointwise [OutSpec.scaled]
  simp only [Nat.mul_comm 128 (i0.val % 8)]

end Cert.Reference4Ideal.OutVal
-- ==== Proof.OutVal.Claim.lean ====
/-
  The output projection: what the kernel's run leaves in its first two results is what the reference's run leaves in its own.
-/
module

public import proofs.«01_k».proof.Defs
public import proofs.«01_k».proof.Proof.OutVal.Array
public import proofs.«01_k».proof.Proof.OutVal.Ref

@[expose] public section

set_option maxRecDepth 16384

noncomputable section

namespace Cert.OutVal

open Idealize.ShloMosaic Idealize.SL.Sem

/-- The two programs, from arguments that agree, end with the same two results. -/
theorem algebraic : Cert.algebraic_Kernel4Ideal_Reference4Ideal := by
  intro m g m' g' _ hag
  refine ⟨fun c => Cert.Kernel4Ideal.OutVal.want9 m c, fun c => Cert.Kernel4Ideal.OutVal.want10 m c, ?_, ?_⟩
  · exact (θ_run Cert.Kernel4Ideal.defs _ _).mono (fun r h c => ⟨(h.1 c).2.1.trans (Cert.Kernel4Ideal.OutVal.array9 m c), (h.1 c).2.2.trans (Cert.Kernel4Ideal.OutVal.array10 m c), (h.1 c).1⟩)
      (Cert.Kernel4Ideal.Out.run_result m g)
  · refine (θ_run Cert.Reference4Ideal.defs _ _).mono (fun r h c => ⟨(h c).1.trans ((Cert.Reference4Ideal.OutVal.res4_at _ _ _ _).trans ?_), (h c).2.1.trans ((Cert.Reference4Ideal.OutVal.res19_at _ _).trans ?_), (h c).2.2⟩)
      (Cert.Reference4Ideal.Value.run m' g')
    · obtain ⟨h0, h1, h2, h3, h4, h5, h6⟩ := hag c
      rw [h0, h1, h2, h3]; rfl
    · obtain ⟨h0, h1, h2, h3, h4, h5, h6⟩ := hag c
      rw [Cert.Reference4Ideal.OutVal.res4_at, h0, h1, h2, h3, h4]; rfl

end Cert.OutVal
-- ==== Proof.RouteIdeal.Body.lean ====
/- The kernel body of the output projection and router, run once for each of its two ways through: the first block of
   tokens, where the counts carried from block to block are set, and any other. -/
module

public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic

@[expose] public section

set_option maxRecDepth 16384

noncomputable section

namespace Cert.Kernel5Ideal.Route

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffer of the counts carried from block to block. -/
abbrev bufC : Memref sig .tc .vmem S1x32 .f32 := Memref.whole cc0_scratch0

/-- The point is the first. -/
abbrev First (i : grid0.Coords) : Prop :=
  Scalar.cmpi .ne (Scalar.extui (Scalar.cmpi .eq (BitVec.ofNat 32 (i 0).val) 0#32)) 0#32 = 1#1

/-- Row `k` of every tile of eight rows, as the body reads and writes it. -/
abbrev row0 : Rect S4096x128 := ⟨⟨![0, 0], S512x128.size, ![8, 1], inb_S4096x128_S512x128_0_0_s_8_1⟩, spos_8_1⟩
abbrev row1 : Rect S4096x128 := ⟨⟨![1, 0], S512x128.size, ![8, 1], inb_S4096x128_S512x128_1_0_s_8_1⟩, spos_8_1⟩
abbrev row2 : Rect S4096x128 := ⟨⟨![2, 0], S512x128.size, ![8, 1], inb_S4096x128_S512x128_2_0_s_8_1⟩, spos_8_1⟩
abbrev row3 : Rect S4096x128 := ⟨⟨![3, 0], S512x128.size, ![8, 1], inb_S4096x128_S512x128_3_0_s_8_1⟩, spos_8_1⟩
abbrev row4 : Rect S4096x128 := ⟨⟨![4, 0], S512x128.size, ![8, 1], inb_S4096x128_S512x128_4_0_s_8_1⟩, spos_8_1⟩
abbrev row5 : Rect S4096x128 := ⟨⟨![5, 0], S512x128.size, ![8, 1], inb_S4096x128_S512x128_5_0_s_8_1⟩, spos_8_1⟩
abbrev row6 : Rect S4096x128 := ⟨⟨![6, 0], S512x128.size, ![8, 1], inb_S4096x128_S512x128_6_0_s_8_1⟩, spos_8_1⟩
abbrev row7 : Rect S4096x128 := ⟨⟨![7, 0], S512x128.size, ![8, 1], inb_S4096x128_S512x128_7_0_s_8_1⟩, spos_8_1⟩
abbrev allA : Rect S512x512 := Rect.unit (s := S512x512) ![0, 0] S512x512.size inb_S512x512_S512x512_0_0
abbrev topW : Rect S1024x1024 := Rect.unit (s := S1024x1024) ![0, 0] S512x1024.size inb_S1024x1024_S512x1024_0_0
abbrev botW : Rect S1024x1024 := Rect.unit (s := S1024x1024) ![512, 0] S512x1024.size inb_S1024x1024_S512x1024_512_0
abbrev allX : Rect S512x1024 := Rect.unit (s := S512x1024) ![0, 0] S512x1024.size inb_S512x1024_S512x1024_0_0
abbrev allR : Rect S1024x32 := Rect.unit (s := S1024x32) ![0, 0] S1024x32.size inb_S1024x32_S1024x32_0_0
abbrev allB : Rect S1x32 := Rect.unit (s := S1x32) ![0, 0] S1x32.size inb_S1x32_S1x32_0_0
abbrev all4 : Rect S512x4 := Rect.unit (s := S512x4) ![0, 0] S512x4.size inb_S512x4_S512x4_0_0
abbrev allG : Rect S1x1024 := Rect.unit (s := S1x1024) ![0, 0] S1x1024.size inb_S1x1024_S1x1024_0_0

/-- The block's rows with the two mixers' projections added, -/
abbrev res (a b : Vec F S512x512 .f32) (x : Vec F S512x1024 .f32) (w : Vec F S1024x1024 .bf16) : FVec F S512x1024 .f32 :=
  k0_pay4 (View.ld a allA) (View.ld w topW) (View.ld b allA) (View.ld w botW) (View.ld x allX)
/-- and these scaled to unit mean square and by the gains. -/
abbrev nrm (a b : Vec F S512x512 .f32) (x : Vec F S512x1024 .f32) (w : Vec F S1024x1024 .bf16) (g : Vec F S1x1024 .f32) : FVec F S512x1024 .f32 :=
  k0_pay5 (View.ld a allA) (View.ld w topW) (View.ld b allA) (View.ld w botW) (View.ld x allX) (View.ld g allG)

/-- What the body leaves in the first result's block, -/
def resOut (a b : Vec F S512x512 .f32) (x : Vec F S512x1024 .f32) (w : Vec F S1024x1024 .bf16) : Vec F S512x1024 .f32 :=
  View.canon [⟨allX, res a b x w⟩]
/-- and in the second's: row `k` of every tile is the `k`-th group of 128 columns. -/
abbrev pieces (a b : Vec F S512x512 .f32) (x : Vec F S512x1024 .f32) (w : Vec F S1024x1024 .bf16) (g : Vec F S1x1024 .f32) : List (View.Piece (Elt F) S4096x128 .f32) :=
  [⟨row7, k0_pay13 (nrm a b x w g)⟩, ⟨row6, k0_pay12 (nrm a b x w g)⟩, ⟨row5, k0_pay11 (nrm a b x w g)⟩, ⟨row4, k0_pay10 (nrm a b x w g)⟩, ⟨row3, k0_pay9 (nrm a b x w g)⟩, ⟨row2, k0_pay8 (nrm a b x w g)⟩, ⟨row1, k0_pay7 (nrm a b x w g)⟩, ⟨row0, k0_pay6 (View.ld a allA) (View.ld w topW) (View.ld b allA) (View.ld w botW) (View.ld x allX) (View.ld g allG)⟩]
def nrmOut (a b : Vec F S512x512 .f32) (x : Vec F S512x1024 .f32) (w : Vec F S1024x1024 .bf16) (g : Vec F S1x1024 .f32) : Vec F S4096x128 .f32 :=
  View.canon (pieces a b x w g)

/-- The router's scores of the block's rows, -/
abbrev scores (a b : Vec F S512x512 .f32) (x : Vec F S512x1024 .f32) (w : Vec F S1024x1024 .bf16) (g : Vec F S1x1024 .f32) (wr : Vec F S1024x32 .f32) (br : Vec F S1x32 .f32) : FVec F S512x32 .f32 :=
  k0_pay14 (nrm a b x w g) (View.ld wr allR) (View.ld br allB)
/-- the numbers 0 to 3 along every row, -/
abbrev four : IVec S512x4 32 := iota .tc S512x4 32 [1] iota_S512x4_d1_w32
/-- the four experts chosen from scores, -/
abbrev pick (L : FVec F S512x32 .f32) : IVec S512x4 32 :=
  k0_pay45 (k0_pay34 (k0_pay15 (F := F)) four (k0_pay24 L) (k0_pay25 L))
/-- and their gates. -/
abbrev share (L : FVec F S512x32 .f32) : FVec F S512x4 .f32 :=
  k0_pay38 four (k0_pay16 L) (k0_pay27 (k0_pay25 L)) (k0_pay31 (k0_pay15 (F := F)) (k0_pay25 L)) (k0_pay36 (k0_pay16 L)) (k0_pay37 (k0_pay16 L) (k0_pay21 L))
/-- What the body leaves in the third result's block, -/
def idxOut (a b : Vec F S512x512 .f32) (x : Vec F S512x1024 .f32) (w : Vec F S1024x1024 .bf16) (g : Vec F S1x1024 .f32) (wr : Vec F S1024x32 .f32) (br : Vec F S1x32 .f32) : Vec F S512x4 .i32 :=
  View.canon [⟨all4, pick (scores a b x w g wr br)⟩]
/-- and in the fourth's. -/
def gateOut (a b : Vec F S512x512 .f32) (x : Vec F S512x1024 .f32) (w : Vec F S1024x1024 .bf16) (g : Vec F S1x1024 .f32) (wr : Vec F S1024x32 .f32) (br : Vec F S1x32 .f32) : Vec F S512x4 .f32 :=
  View.canon [⟨all4, share (scores a b x w g wr br)⟩]

/-- A row whose number ends in `k` modulo eight lies in the rectangle of rows `k`. -/
theorem mem_row (o : Fin 2 → ℕ) (h) (hp) (k : ℕ) (ho : o = ![k, 0]) (y : S4096x128.Idx) (hy : (y 0).val % 8 = k) :
    y ∈ (⟨⟨o, S512x128.size, ![8, 1], h⟩, hp⟩ : Rect S4096x128).set := by
  subst ho
  rw [LoadRect.mem_set]
  have h0 : (y 0).val < 4096 := (y 0).isLt
  intro a
  match a with
  | ⟨0, _⟩ => exact ⟨(y 0).val / 8, show (y 0).val / 8 < 512 by omega, show (y 0).val = k + 8 * ((y 0).val / 8) by omega⟩
  | ⟨1, _⟩ => exact ⟨(y 1).val, (y 1).isLt, show (y 1).val = 0 + 1 * (y 1).val by omega⟩

/-- The eight stores leave nothing of the block unwritten. -/
theorem cover (p0 p1 p2 p3 p4 p5 p6 p7 : Vec F S512x128 .f32) (y : S4096x128.Idx) :
    ∃ pc ∈ ([⟨row7, p7⟩, ⟨row6, p6⟩, ⟨row5, p5⟩, ⟨row4, p4⟩, ⟨row3, p3⟩, ⟨row2, p2⟩, ⟨row1, p1⟩, ⟨row0, p0⟩] : List (View.Piece (Elt F) S4096x128 .f32)), y ∈ pc.1.set := by
  have h : (y 0).val % 8 < 8 := Nat.mod_lt _ (by decide)
  rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h0 | h1 | h2 | h3 | h4 | h5 | h6 | h7
  · exact ⟨⟨row0, p0⟩, by simp, mem_row _ _ _ 0 rfl y h0⟩
  · exact ⟨⟨row1, p1⟩, by simp, mem_row _ _ _ 1 rfl y h1⟩
  · exact ⟨⟨row2, p2⟩, by simp, mem_row _ _ _ 2 rfl y h2⟩
  · exact ⟨⟨row3, p3⟩, by simp, mem_row _ _ _ 3 rfl y h3⟩
  · exact ⟨⟨row4, p4⟩, by simp, mem_row _ _ _ 4 rfl y h4⟩
  · exact ⟨⟨row5, p5⟩, by simp, mem_row _ _ _ 5 rfl y h5⟩
  · exact ⟨⟨row6, p6⟩, by simp, mem_row _ _ _ 6 rfl y h6⟩
  · exact ⟨⟨row7, p7⟩, by simp, mem_row _ _ _ 7 rfl y h7⟩

set_option maxHeartbeats 4000000 in
/-- The first block of tokens. -/
theorem run_first (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1x32 .f32) (harg7 : arg7.IsWhole) (arg8 : Memref sig .tc .vmem S512x512 .bf16) (harg8 : arg8.IsWhole) (arg9 : Memref sig .tc .vmem S1x32 .i32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S512x4 .i32) (harg12 : arg12.IsWhole) (arg13 : Memref sig .tc .vmem S512x4 .f32) (harg13 : arg13.IsWhole) (arg14 : Memref sig .tc .vmem S512x4 .i32) (harg14 : arg14.IsWhole) (arg15 : Memref sig .tc .vmem S1x32 .i32) (harg15 : arg15.IsWhole)
    (a : Vec F S512x512 .f32) (b : Vec F S512x512 .f32) (x : Vec F S512x1024 .f32) (w : Vec F S1024x1024 .bf16) (g : Vec F S1x1024 .f32) (wr : Vec F S1024x32 .f32) (br : Vec F S1x32 .f32) (tr : Vec F S512x512 .bf16) (ci : Vec F S1x32 .i32)
    (hc : First i) (K : PUnit → sProp 𝕄) :
    iprop(owns (c : Thread nD τ) arg1 fullShare a ∗ owns (c : Thread nD τ) arg2 fullShare b ∗ owns (c : Thread nD τ) arg3 fullShare x ∗ owns (c : Thread nD τ) arg4 fullShare w ∗ owns (c : Thread nD τ) arg5 fullShare g ∗ owns (c : Thread nD τ) arg6 fullShare wr ∗ owns (c : Thread nD τ) arg7 fullShare br ∗ owns (c : Thread nD τ) arg8 fullShare tr ∗ owns (c : Thread nD τ) arg9 fullShare ci
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) bufC fullShare d)
        ∗ (iprop(owns (c : Thread nD τ) arg1 fullShare a ∗ owns (c : Thread nD τ) arg2 fullShare b ∗ owns (c : Thread nD τ) arg3 fullShare x ∗ owns (c : Thread nD τ) arg4 fullShare w ∗ owns (c : Thread nD τ) arg5 fullShare g ∗ owns (c : Thread nD τ) arg6 fullShare wr ∗ owns (c : Thread nD τ) arg7 fullShare br ∗ owns (c : Thread nD τ) arg8 fullShare tr ∗ owns (c : Thread nD τ) arg9 fullShare ci
            ∗ owns (c : Thread nD τ) arg10 fullShare (resOut a b x w) ∗ owns (c : Thread nD τ) arg11 fullShare (nrmOut a b x w g) ∗ owns (c : Thread nD τ) arg12 fullShare (idxOut a b x w g wr br) ∗ owns (c : Thread nD τ) arg13 fullShare (gateOut a b x w g wr br) ∗ (∃ d, owns (c : Thread nD τ) arg14 fullShare d) ∗ (∃ d, owns (c : Thread nD τ) arg15 fullShare d) ∗ (∃ d, owns (c : Thread nD τ) bufC fullShare d)) -∗ K ⟨⟩))
      ⊢ wp frame (wpE (defs₀ (F := F)) Variants.none c none) Set.univ (cc0_out_proj_router i arg1 harg1 arg2 harg2 arg3 harg3 arg4 harg4 arg5 harg5 arg6 harg6 arg7 harg7 arg8 harg8 arg9 harg9 arg10 harg10 arg11 harg11 arg12 harg12 arg13 harg13 arg14 harg14 arg15 harg15 bufC (Memref.isWhole_whole _)) K := by
  rw [cc0_out_proj_router_eq_skeleton]; unfold cc0_out_proj_router_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%dC, %fC, -, HC⟩, Hk⟩
  have hC : bufC.IsWhole := Memref.isWhole_whole _
  sl_exec! (disch := exact hc)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro; subst hf0 hf1 hf2 hf3; exact View.read_writes_eq_canon _ _ _ (View.cover_of_tiled [⟨allX, _⟩] S512x1024.size (by rfl))
  isplitl [H10]
  · iexists _; isplitr
    swap; · iexact H10
    ipureintro; subst hf0 hf1 hf2 hf3 hf4; exact View.read_writes_eq_canon _ _ _ (cover _ _ _ _ _ _ _ _)
  isplitl [H11]
  · iexists _; isplitr
    swap; · iexact H11
    ipureintro; subst hf0 hf1 hf2 hf3 hf4 hf5 hf6; exact View.read_writes_eq_canon _ _ _ (View.cover_of_tiled [⟨all4, _⟩] S512x4.size (by rfl))
  isplitl [H12]
  · iexists _; isplitr
    swap; · iexact H12
    ipureintro; subst hf0 hf1 hf2 hf3 hf4 hf5 hf6; exact View.read_writes_eq_canon _ _ _ (View.cover_of_tiled [⟨all4, _⟩] S512x4.size (by rfl))
  isplitl [H13]
  · iexists _; iexists _; isplitr
    swap; · iexact H13
    ipureintro; rfl
  isplitl [H14]
  · iexists _; iexists _; isplitr
    swap; · iexact H14
    ipureintro; rfl
  iexists _; iexists _; isplitr
  swap; · iexact HC
  ipureintro; rfl

set_option maxHeartbeats 4000000 in
/-- Any other block. -/
theorem run_later (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1x32 .f32) (harg7 : arg7.IsWhole) (arg8 : Memref sig .tc .vmem S512x512 .bf16) (harg8 : arg8.IsWhole) (arg9 : Memref sig .tc .vmem S1x32 .i32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S512x4 .i32) (harg12 : arg12.IsWhole) (arg13 : Memref sig .tc .vmem S512x4 .f32) (harg13 : arg13.IsWhole) (arg14 : Memref sig .tc .vmem S512x4 .i32) (harg14 : arg14.IsWhole) (arg15 : Memref sig .tc .vmem S1x32 .i32) (harg15 : arg15.IsWhole)
    (a : Vec F S512x512 .f32) (b : Vec F S512x512 .f32) (x : Vec F S512x1024 .f32) (w : Vec F S1024x1024 .bf16) (g : Vec F S1x1024 .f32) (wr : Vec F S1024x32 .f32) (br : Vec F S1x32 .f32) (tr : Vec F S512x512 .bf16) (ci : Vec F S1x32 .i32)
    (hc : ¬ First i) (K : PUnit → sProp 𝕄) :
    iprop(owns (c : Thread nD τ) arg1 fullShare a ∗ owns (c : Thread nD τ) arg2 fullShare b ∗ owns (c : Thread nD τ) arg3 fullShare x ∗ owns (c : Thread nD τ) arg4 fullShare w ∗ owns (c : Thread nD τ) arg5 fullShare g ∗ owns (c : Thread nD τ) arg6 fullShare wr ∗ owns (c : Thread nD τ) arg7 fullShare br ∗ owns (c : Thread nD τ) arg8 fullShare tr ∗ owns (c : Thread nD τ) arg9 fullShare ci
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) bufC fullShare d)
        ∗ (iprop(owns (c : Thread nD τ) arg1 fullShare a ∗ owns (c : Thread nD τ) arg2 fullShare b ∗ owns (c : Thread nD τ) arg3 fullShare x ∗ owns (c : Thread nD τ) arg4 fullShare w ∗ owns (c : Thread nD τ) arg5 fullShare g ∗ owns (c : Thread nD τ) arg6 fullShare wr ∗ owns (c : Thread nD τ) arg7 fullShare br ∗ owns (c : Thread nD τ) arg8 fullShare tr ∗ owns (c : Thread nD τ) arg9 fullShare ci
            ∗ owns (c : Thread nD τ) arg10 fullShare (resOut a b x w) ∗ owns (c : Thread nD τ) arg11 fullShare (nrmOut a b x w g) ∗ owns (c : Thread nD τ) arg12 fullShare (idxOut a b x w g wr br) ∗ owns (c : Thread nD τ) arg13 fullShare (gateOut a b x w g wr br) ∗ (∃ d, owns (c : Thread nD τ) arg14 fullShare d) ∗ (∃ d, owns (c : Thread nD τ) arg15 fullShare d) ∗ (∃ d, owns (c : Thread nD τ) bufC fullShare d)) -∗ K ⟨⟩))
      ⊢ wp frame (wpE (defs₀ (F := F)) Variants.none c none) Set.univ (cc0_out_proj_router i arg1 harg1 arg2 harg2 arg3 harg3 arg4 harg4 arg5 harg5 arg6 harg6 arg7 harg7 arg8 harg8 arg9 harg9 arg10 harg10 arg11 harg11 arg12 harg12 arg13 harg13 arg14 harg14 arg15 harg15 bufC (Memref.isWhole_whole _)) K := by
  rw [cc0_out_proj_router_eq_skeleton]; unfold cc0_out_proj_router_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%dC, %fC, -, HC⟩, Hk⟩
  have hC : bufC.IsWhole := Memref.isWhole_whole _
  sl_exec! (disch := exact hc)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro; subst hf0 hf1 hf2 hf3; exact View.read_writes_eq_canon _ _ _ (View.cover_of_tiled [⟨allX, _⟩] S512x1024.size (by rfl))
  isplitl [H10]
  · iexists _; isplitr
    swap; · iexact H10
    ipureintro; subst hf0 hf1 hf2 hf3 hf4; exact View.read_writes_eq_canon _ _ _ (cover _ _ _ _ _ _ _ _)
  isplitl [H11]
  · iexists _; isplitr
    swap; · iexact H11
    ipureintro; subst hf0 hf1 hf2 hf3 hf4 hf5 hf6; exact View.read_writes_eq_canon _ _ _ (View.cover_of_tiled [⟨all4, _⟩] S512x4.size (by rfl))
  isplitl [H12]
  · iexists _; isplitr
    swap; · iexact H12
    ipureintro; subst hf0 hf1 hf2 hf3 hf4 hf5 hf6; exact View.read_writes_eq_canon _ _ _ (View.cover_of_tiled [⟨all4, _⟩] S512x4.size (by rfl))
  isplitl [H13]
  · iexists _; iexists _; isplitr
    swap; · iexact H13
    ipureintro; rfl
  isplitl [H14]
  · iexists _; iexists _; isplitr
    swap; · iexact H14
    ipureintro; rfl
  iexists _; iexists _; isplitr
  swap; · iexact HC
  ipureintro; rfl

end Cert.Kernel5Ideal.Route

end
-- ==== Proof.RouteVal.Finite.lean ====
/-
  Sums and products keep to the reals and a row scaled by real gains gets there, and there the router's scores taken in
  parts are the scores.
-/
module

public import proofs.«01_k».proof.Proof.OutVal.Pure

@[expose] public section

noncomputable section

namespace Cert.RouteSpec

open Idealize.ShloMosaic

theorem coe_sum {n : ℕ} (g : Fin n → ℝ) : ((∑ k, g k : ℝ) : EReal) = ∑ k, (g k : EReal) := by
  induction n with
  | zero => simp
  | succ n ih => rw [Fin.sum_univ_castSucc, Fin.sum_univ_castSucc, EReal.coe_add, ih]

/-- The number is a real one. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.sum {n : ℕ} {f : Fin n → EReal} (hf : ∀ k, IsReal (f k)) : IsReal (∑ k, f k) := by
  choose g hg using hf
  refine ⟨∑ k, g k, ?_⟩
  rw [coe_sum]
  exact Finset.sum_congr rfl fun k _ => hg k
theorem IsReal.sub_self {x : EReal} (hx : IsReal x) : x - x = 0 := by
  obtain ⟨a, rfl⟩ := hx
  rw [← EReal.coe_sub, _root_.sub_self]; rfl
theorem IsReal.bot_lt {x : EReal} (hx : IsReal x) : ⊥ < x := by
  obtain ⟨a, rfl⟩ := hx; exact EReal.bot_lt_coe a
theorem IsReal.of_abs {x : EReal} (h : max x (-x) < ⊤) : IsReal x := by
  induction x with
  | bot => simp at h
  | top => simp at h
  | coe a => exact ⟨a, rfl⟩

theorem bits_1024 : Ideal.ofBits .f32 0x44800000#32 = ((1024 : ℝ) : EReal) := by
  simp [Ideal.ofBits, Ideal.ieee, -EReal.coe_mul]; norm_num
theorem bits_eps : ∃ r : ℝ, 0 < r ∧ Ideal.ofBits .f32 0x358637BD#32 = (r : EReal) := by
  simp [Ideal.ofBits, Ideal.ieee, -EReal.coe_mul]

theorem mul_self_top {x : EReal} (h : ¬ IsReal x) : x * x = ⊤ := by
  induction x with
  | bot => exact EReal.bot_mul_bot
  | top => exact EReal.top_mul_top
  | coe a => exact absurd ⟨a, rfl⟩ h
theorem mul_self_nonneg' (x : EReal) : 0 ≤ x * x := by
  induction x with
  | bot => rw [EReal.bot_mul_bot]; exact le_top
  | top => rw [EReal.top_mul_top]; exact le_top
  | coe a => rw [← EReal.coe_mul]; exact EReal.coe_nonneg.2 (mul_self_nonneg a)

/-- A row scaled by real gains holds reals, whatever the row holds: one with an infinite entry becomes zero. -/
theorem scaled_real {X g : Fin 1024 → EReal} (hg : ∀ k, IsReal (g k)) (j : Fin 1024) : IsReal (OutSpec.scaled X g j) := by
  unfold OutSpec.scaled
  refine IsReal.mul ?_ (hg j)
  obtain ⟨d, hd, he⟩ := bits_eps
  rw [he, bits_1024]
  by_cases hX : ∀ k, IsReal (X k)
  · refine (hX j).mul ?_
    choose Y hY using hX
    have hs : ∑ k : Fin 1024, X k * X k = ((∑ k : Fin 1024, Y k * Y k : ℝ) : EReal) := by
      rw [coe_sum]
      exact Finset.sum_congr rfl fun k _ => by rw [hY k, EReal.coe_mul]
    have hn : 0 ≤ ∑ k : Fin 1024, Y k * Y k := Finset.sum_nonneg fun k _ => mul_self_nonneg _
    rw [hs]
    have hq : Ideal.div ((∑ k : Fin 1024, Y k * Y k : ℝ) : EReal) ((1024 : ℝ) : EReal) = (((∑ k : Fin 1024, Y k * Y k) / 1024 : ℝ) : EReal) := by
      simp only [Ideal.div, EReal.coe_inv, EReal.coe_mul, div_eq_mul_inv]; simp
    rw [hq, ← EReal.coe_add, Ideal.rsqrt_coe]
    have hp : 0 < (∑ k : Fin 1024, Y k * Y k) / 1024 + d := by positivity
    rw [if_neg hp.le.not_gt, if_neg hp.ne']
    exact ⟨_, rfl⟩
  · obtain ⟨k, hk⟩ := not_forall.1 hX
    have hs : ∑ k : Fin 1024, X k * X k = ⊤ := by
      refine top_le_iff.1 ?_
      rw [← mul_self_top hk]
      exact Finset.single_le_sum (f := fun k => X k * X k) (fun k _ => mul_self_nonneg' _) (Finset.mem_univ k)
    have hq : Ideal.div ⊤ ((1024 : ℝ) : EReal) = ⊤ := by
      have h0 : ((1024 : ℝ) : EReal) ≠ 0 := by rw [← EReal.coe_zero]; exact fun h => by simpa using EReal.coe_injective h
      rw [Ideal.div, if_neg h0, ← EReal.coe_inv]
      exact EReal.top_mul_coe_of_pos (by norm_num)
    rw [hs, hq, EReal.top_add_coe]
    exact ⟨0, by simp⟩

/-- A token's score for an expert. -/
def score (h : Fin 1024 → EReal) (w : Fin 1024 → Fin 32 → EReal) (b : Fin 32 → EReal) (e : Fin 32) : EReal := ∑ k : Fin 1024, h k * w k e + b e

theorem score_bot_lt {h : Fin 1024 → EReal} {w : Fin 1024 → Fin 32 → EReal} {b : Fin 32 → EReal} (hh : ∀ k, IsReal (h k)) (hw : ∀ k e, IsReal (w k e)) (hb : ∀ e, ⊥ < b e)
    (e : Fin 32) : ⊥ < score h w b e :=
  EReal.bot_lt_add_iff.2 ⟨(IsReal.sum fun k => (hh k).mul (hw k e)).bot_lt, hb e⟩

/-- The score in three parts, two of which are of what a rounding leaves. -/
theorem score_parts {h : Fin 1024 → EReal} {w : Fin 1024 → Fin 32 → EReal} {b : Fin 32 → EReal} (hh : ∀ k, IsReal (h k)) (hw : ∀ k e, IsReal (w k e)) (e : Fin 32) :
    ∑ k : Fin 1024, h k * w k e + ∑ k : Fin 1024, h k * (w k e - w k e) + ∑ k : Fin 1024, (h k - h k) * w k e + b e = score h w b e := by
  simp only [fun k => (hh k).sub_self, fun k e => (hw k e).sub_self, mul_zero, zero_mul, Finset.sum_const_zero, add_zero]
  rfl

/-- Token `n`'s scores, from the mixers' outputs, the prompt, the output matrix, the gains and the router's weights and biases. -/
def tokScores (a b : (⟨2, ![16384, 512]⟩ : Shape).Idx → EReal) (x : (⟨3, ![8, 2048, 1024]⟩ : Shape).Idx → EReal) (w : (⟨3, ![1, 1024, 1024]⟩ : Shape).Idx → EReal)
    (g : (⟨2, ![1, 1024]⟩ : Shape).Idx → EReal) (wr : (⟨3, ![1, 1024, 32]⟩ : Shape).Idx → EReal) (br : (⟨2, ![1, 32]⟩ : Shape).Idx → EReal) (n : Fin 16384) (e : Fin 32) : EReal :=
  score (OutSpec.scaled (OutSpec.res a b x w n) (fun j => g (ix2 0 j))) (fun k e => wr (ix3 0 k e)) (fun e => br (ix2 0 e)) e

/-- The gains and the weights are real, and no bias is the infinite negative. -/
def Sound (g : (⟨2, ![1, 1024]⟩ : Shape).Idx → EReal) (wr : (⟨3, ![1, 1024, 32]⟩ : Shape).Idx → EReal) (br : (⟨2, ![1, 32]⟩ : Shape).Idx → EReal) : Prop :=
  (∀ i, IsReal (g i)) ∧ (∀ i, IsReal (wr i)) ∧ (∀ i, ⊥ < br i)

theorem Sound.scores {g : (⟨2, ![1, 1024]⟩ : Shape).Idx → EReal} {wr : (⟨3, ![1, 1024, 32]⟩ : Shape).Idx → EReal} {br : (⟨2, ![1, 32]⟩ : Shape).Idx → EReal} (h : Sound g wr br)
    (a b : (⟨2, ![16384, 512]⟩ : Shape).Idx → EReal) (x : (⟨3, ![8, 2048, 1024]⟩ : Shape).Idx → EReal) (w : (⟨3, ![1, 1024, 1024]⟩ : Shape).Idx → EReal) (n : Fin 16384) (e : Fin 32) :
    ⊥ < tokScores a b x w g wr br n e :=
  score_bot_lt (fun k => scaled_real (fun _ => h.1 _) k) (fun _ _ => h.2.1 _) (fun _ => h.2.2 _) e

end Cert.RouteSpec
-- ==== Proof.RouteVal.Rows.lean ====
/-
  Four rounds of taking the first greatest entry of a row of 32 and striking it out, against the row sorted in descending
  order with equal entries in their places' order: the rounds take the sorted row's first four places.
-/
module

public import Idealize.ShloMosaic.Lib.SortFacts
public import Idealize.ShloMosaic.Lib.PlanTiles.StableSort
public import Idealize.ShloMosaic.Lib.IdealHost
public import Idealize.ShloMosaic.PureOps

@[expose] public section

noncomputable section

namespace Cert.RouteSpec

open Idealize.ShloMosaic

/-- The row's greatest entry, -/
def top (v : Fin 32 → EReal) : EReal := Finset.univ.fold max ⊥ v
/-- the number of its first place with that entry, -/
def first (v : Fin 32 → EReal) : EReal := Finset.univ.fold min ⊤ fun e => if v e = top v then ((e.val : ℝ) : EReal) else ((32 : ℝ) : EReal)
/-- and the row with that place struck out. -/
def strike (v : Fin 32 → EReal) : Fin 32 → EReal := fun e => if ((e.val : ℝ) : EReal) = first v then ⊥ else v e

/-- The place which a sort of the row in descending order puts at `k`, equal entries keeping their order. -/
def place (v : Fin 32 → EReal) : Fin 32 → Fin 32 := sortedFrom fun a b => decide (v b < v a)

theorem fold_max_le (v : Fin 32 → EReal) (b : EReal) : Finset.univ.fold max ⊥ v ≤ b ↔ ∀ e, v e ≤ b := by
  rw [Finset.fold_max_le]; simp
theorem le_fold_min (v : Fin 32 → EReal) (b : EReal) : b ≤ Finset.univ.fold min ⊤ v ↔ ∀ e, b ≤ v e := by
  rw [Finset.le_fold_min]; simp

/-- Where one place stands before every other, it is the one taken. -/
theorem taken (v : Fin 32 → EReal) (p : Fin 32) (h : ∀ e, e ≠ p → v e < v p ∨ (v e = v p ∧ p < e)) :
    top v = v p ∧ first v = ((p.val : ℝ) : EReal) := by
  have ht : top v = v p := by
    refine le_antisymm ((fold_max_le v _).2 fun e => ?_) ((fold_max_le v _).1 le_rfl p)
    by_cases hep : e = p
    · exact (congrArg v hep).le
    · rcases h e hep with h' | h'
      · exact h'.le
      · exact h'.1.le
  refine ⟨ht, ?_⟩
  unfold first
  refine le_antisymm ?_ ((le_fold_min _ _).2 fun e => ?_)
  · refine ((le_fold_min _ _).1 le_rfl p).trans ?_
    rw [if_pos ht.symm]
  · split_ifs with he
    · by_cases hep : e = p
      · rw [hep]
      · rcases h e hep with h' | h'
        · exact absurd (he.trans ht) h'.ne
        · exact EReal.coe_le_coe_iff.2 (Nat.cast_le.2 (Fin.lt_def.1 h'.2).le)
    · exact EReal.coe_le_coe_iff.2 (by have : (p.val : ℝ) ≤ ((32 : ℕ) : ℝ) := Nat.cast_le.2 p.isLt.le
                                       simpa using this)

/-- Striking it out puts the least number there. -/
theorem strike_eq (v : Fin 32 → EReal) (p : Fin 32) (h : first v = ((p.val : ℝ) : EReal)) : strike v = Function.update v p ⊥ := by
  funext e
  unfold strike
  rw [h]
  by_cases hep : e = p
  · subst hep; simp
  · rw [Function.update_of_ne hep, if_neg]
    intro h'
    exact hep (Fin.ext (Nat.cast_injective (EReal.coe_injective h')))

/-- The sorted places stand one before the other. -/
theorem place_before (v : Fin 32 → EReal) (i j : Fin 32) (hij : i < j) :
    v (place v j) < v (place v i) ∨ (v (place v j) = v (place v i) ∧ place v i < place v j) := by
  set G : Fin 32 → ℕ := fun e => (Finset.univ.filter fun a => v a < v e).card with hG
  have hlt : ∀ a b, v a < v b → G a < G b := by
    intro a b hab
    refine Finset.card_lt_card ⟨fun x hx => ?_, fun hs => ?_⟩
    · simp only [Finset.mem_filter, Finset.mem_univ, true_and] at hx ⊢
      exact hx.trans hab
    · have := hs (show a ∈ Finset.univ.filter fun x => v x < v b by simpa using hab)
      simp at this
  have heq : ∀ a b, v a = v b → G a = G b := by
    intro a b hab
    simp only [hG, hab]
  have hiff : ∀ a b, G a < G b ↔ v a < v b := by
    intro a b
    refine ⟨fun hg => ?_, hlt a b⟩
    rcases lt_trichotomy (v a) (v b) with h | h | h
    · exact h
    · exact absurd hg (by rw [heq a b h]; exact lt_irrefl _)
    · exact absurd hg (hlt b a h).le.not_gt
  have hR : (fun a b : Fin 32 => decide (v b < v a)) = fun a b => decide (G b < G a) := by
    funext a b
    exact decide_eq_decide.2 (hiff b a).symm
  have hp : ∀ a b : Fin (sortPositions 32 fun a b => decide (v b < v a)).length, a < b →
      PlanTiles.Lex G (· < ·) ((sortPositions 32 fun a b => decide (v b < v a)).get a) ((sortPositions 32 fun a b => decide (v b < v a)).get b) := by
    rw [hR]
    exact List.pairwise_iff_get.mp (PlanTiles.pairwise_stableSort_lex G (· < ·) (List.finRange 32) (List.pairwise_lt_finRange 32))
  have h := hp (i.cast (length_sortPositions 32 _).symm) (j.cast (length_sortPositions 32 _).symm) (by simp only [Fin.lt_def, Fin.val_cast]; exact hij)
  rcases h with h | ⟨h, h'⟩
  · exact Or.inl ((hiff _ _).1 h)
  · refine Or.inr ⟨?_, h'⟩
    rcases lt_trichotomy (v (place v j)) (v (place v i)) with h1 | h1 | h1
    · exact absurd (hlt _ _ h1) (by rw [show G (place v i) = G (place v j) from h]; exact lt_irrefl _)
    · exact h1
    · exact absurd (hlt _ _ h1) (by rw [show G (place v i) = G (place v j) from h]; exact lt_irrefl _)

/-- The row after `n` rounds. -/
def after (v : Fin 32 → EReal) : ℕ → Fin 32 → EReal
  | 0 => v
  | n + 1 => strike (after v n)

/-- After `n` rounds the first `n` sorted places are struck out. -/
theorem after_eq (v : Fin 32 → EReal) (hv : ∀ e, ⊥ < v e) (n : ℕ) (hn : n ≤ 32) (k : Fin 32) :
    after v n (place v k) = if k.val < n then ⊥ else v (place v k) := by
  have hinj : Function.Injective (place v) := sortedFrom_injective _
  have hsurj : Function.Surjective (place v) := sortedFrom_surjective _
  induction n generalizing k with
  | zero => simp [after]
  | succ n ih =>
    have ih' := ih (by omega)
    have hp : ∀ e, e ≠ place v ⟨n, by omega⟩ → after v n e < after v n (place v ⟨n, by omega⟩) ∨ (after v n e = after v n (place v ⟨n, by omega⟩) ∧ place v ⟨n, by omega⟩ < e) := by
      intro e he
      obtain ⟨i, rfl⟩ := hsurj e
      rw [ih', ih', if_neg (lt_irrefl n)]
      split_ifs with hi
      · exact Or.inl (hv _)
      · have hne : i.val ≠ n := fun h => he (congrArg (place v) (Fin.ext h))
        exact place_before v ⟨n, by omega⟩ i (Fin.lt_def.2 (by show n < i.val; omega))
    rw [after, strike_eq _ _ (taken _ _ hp).2]
    by_cases hk : k.val = n
    · have : k = ⟨n, by omega⟩ := Fin.ext hk
      rw [this, Function.update_self, if_pos (Nat.lt_succ_self n)]
    · rw [Function.update_of_ne (fun h => hk (congrArg Fin.val (hinj h))), ih']
      by_cases h1 : k.val < n
      · rw [if_pos h1, if_pos (by omega)]
      · rw [if_neg h1, if_neg (by omega)]

/-- Round `n` takes the `n`-th sorted place. -/
theorem round (v : Fin 32 → EReal) (hv : ∀ e, ⊥ < v e) (n : Fin 32) :
    top (after v n.val) = v (place v n) ∧ first (after v n.val) = (((place v n).val : ℝ) : EReal) := by
  have h := taken (after v n.val) (place v n) fun e he => by
    have hsurj : Function.Surjective (place v) := sortedFrom_surjective _
    obtain ⟨i, rfl⟩ := hsurj e
    rw [after_eq v hv _ n.isLt.le, after_eq v hv _ n.isLt.le, if_neg (lt_irrefl n.val)]
    split_ifs with hi
    · exact Or.inl (hv _)
    · have hne : i ≠ n := fun h => he (congrArg (place v) h)
      exact place_before v n i (Fin.lt_def.2 (by have := fun h => hne (Fin.ext h); omega))
  rw [after_eq v hv _ n.isLt.le, if_neg (lt_irrefl n.val)] at h
  exact h

/-- The greatest entry comes first. -/
theorem place_zero (v : Fin 32 → EReal) (k : Fin 32) : v (place v k) ≤ v (place v 0) := by
  rcases eq_or_ne k 0 with rfl | h
  · exact le_rfl
  · rcases place_before v 0 k (Fin.pos_of_ne_zero h) with h | h
    · exact h.le
    · exact h.1.le

/-- The number of the expert chosen at rank `q`, -/
def pickOf (v : Fin 32 → EReal) (q : Fin 4) : BitVec 32 := BitVec.ofNat 32 (place v ⟨q.val, by omega⟩).val
/-- and its gate: the four greatest entries' exponentials, in shares of their sum. -/
def gateOf (v : Fin 32 → EReal) (q : Fin 4) : EReal :=
  Ideal.div (Ideal.exp (v (place v ⟨q.val, by omega⟩) - v (place v 0)))
    (Ideal.exp (v (place v 0) - v (place v 0)) + Ideal.exp (v (place v 1) - v (place v 0)) + Ideal.exp (v (place v 2) - v (place v 0)) + Ideal.exp (v (place v 3) - v (place v 0)))

/-- A place's number is a whole number, and turning it to a word loses nothing. -/
theorem word_eq (p : Fin 32) : Ideal.fptosi 32 ((p.val : ℝ) : EReal) = BitVec.ofNat 32 p.val := by
  have h : Ideal.toIntClamped (-(2 ^ (32 - 1) : Nat)) ((2 ^ (32 - 1) : Nat) - 1) ((p.val : ℝ) : EReal) = (p.val : ℤ) := by
    show max _ (min _ (if (0 : ℝ) ≤ (p.val : ℝ) then ⌊(p.val : ℝ)⌋ else ⌈(p.val : ℝ)⌉)) = _
    rw [if_pos (Nat.cast_nonneg _), Int.floor_natCast]
    have := p.isLt
    norm_num
    omega
  unfold Ideal.fptosi
  rw [h]
  exact BitVec.ofInt_natCast ..

end Cert.RouteSpec
-- ==== Proof.RouteVal.Payloads.lean ====
/-
  The router's scores of a block, and its rounds on them, read at an index.
-/
module

public import proofs.«01_k».proof.Proof.RouteIdeal.Body
public import proofs.«01_k».proof.Proof.RouteVal.Rows
public import Idealize.ShloMosaic.Lib.Pipeline.ValueKit
public import Idealize.ShloMosaic.Lib.Pointwise
public import Idealize.ShloMosaic.Lib.IdealHost
public import Idealize.ShloMosaic.Lib.Tactic.CleanTypes

@[expose] public section

set_option maxRecDepth 16384

noncomputable section

namespace Cert.Kernel5Ideal.RouteVal

open Cert.Kernel5Ideal Cert.Kernel5Ideal.Gen Cert.Kernel5Ideal.Route
open Idealize.ShloMosaic Idealize.ShloMosaic.TcCoe
open Cert.RouteSpec

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_32 : Ideal.ofBits .f32 0x42000000#32 = ((32 : ℝ) : EReal) := by
  simp [Ideal.ofBits, Ideal.ieee, -EReal.coe_mul]; norm_num

/-- Row `r` of a block of scores. -/
abbrev row (L : FVec Ideal S512x32 .f32) (r : Fin 512) : Fin 32 → EReal := fun e => L (ix2 r e)

theorem small (n : ℕ) (h : n < 32) : (BitVec.ofNat 32 n).toInt = n := by
  rw [BitVec.toInt_ofNat', Int.bmod_eq_of_le] <;> omega

theorem lane_at (r : Fin 512) (e : Fin 32) : k0_pay15 (F := Ideal) (ix2 r e) = ((e.val : ℝ) : EReal) := by
  pointwise [k0_pay15]
  show (((BitVec.ofNat 32 e.val).toInt : ℝ) : EReal) = _
  rw [small _ e.isLt]
  norm_cast

/-- A round on a block, at a row: the greatest entry, -/
theorem max_at (L : FVec Ideal S512x32 .f32) (r : Fin 512) : k0_pay16 L (ix2 r 0) = top (row L r) := by
  pointwise [k0_pay16]
  rw [bits_bot]; rfl

/-- its first place, -/
theorem first_at (L : FVec Ideal S512x32 .f32) (r : Fin 512) : k0_pay17 L (ix2 r 0) = first (row L r) := by
  have hM := max_at L r
  have hl := lane_at r
  unfold k0_pay17
  revert hM hl
  generalize k0_pay16 L = M
  generalize k0_pay15 (F := Ideal) = l
  intro hM hl
  pointwise
  simp only [hM, hl, bits_top, bits_32]; rfl

/-- and the block with it struck out. -/
theorem next_at (L : FVec Ideal S512x32 .f32) (r : Fin 512) : row (k0_pay19 L) r = strike (row L r) := by
  funext e
  have hM := first_at L r
  have hl := lane_at r
  show k0_pay19 L (ix2 r e) = _
  unfold k0_pay19 k0_pay18
  revert hM hl
  generalize k0_pay17 L = M
  generalize k0_pay15 (F := Ideal) = l
  intro hM hl
  pointwise
  simp only [hM, hl, bits_bot]; rfl

theorem max21 (L : FVec Ideal S512x32 .f32) : k0_pay21 L = k0_pay16 (k0_pay19 L) := rfl
theorem first22 (L : FVec Ideal S512x32 .f32) : k0_pay22 L = k0_pay17 (k0_pay19 L) := rfl
theorem next25 (L : FVec Ideal S512x32 .f32) : k0_pay25 L = k0_pay19 (k0_pay19 L) := rfl
theorem max27 (L : FVec Ideal S512x32 .f32) : k0_pay27 L = k0_pay16 L := rfl
theorem first28 (L : FVec Ideal S512x32 .f32) : k0_pay28 k0_pay15 L = k0_pay17 L := rfl
theorem next30 (L : FVec Ideal S512x32 .f32) : k0_pay30 k0_pay15 L = k0_pay19 L := rfl
theorem max31 (L : FVec Ideal S512x32 .f32) : k0_pay31 k0_pay15 L = k0_pay16 (k0_pay19 L) := rfl
theorem first32 (L : FVec Ideal S512x32 .f32) : k0_pay32 k0_pay15 L = k0_pay17 (k0_pay19 L) := rfl

/-- Every round's greatest entry and its place, at a row. -/
theorem max_round (L : FVec Ideal S512x32 .f32) (r : Fin 512) :
    k0_pay16 L (ix2 r 0) = top (after (row L r) 0) ∧ k0_pay16 (k0_pay19 L) (ix2 r 0) = top (after (row L r) 1)
    ∧ k0_pay16 (k0_pay19 (k0_pay19 L)) (ix2 r 0) = top (after (row L r) 2) ∧ k0_pay16 (k0_pay19 (k0_pay19 (k0_pay19 L))) (ix2 r 0) = top (after (row L r) 3) := by
  simp only [max_at, next_at, after, and_self]
theorem first_round (L : FVec Ideal S512x32 .f32) (r : Fin 512) :
    k0_pay17 L (ix2 r 0) = first (after (row L r) 0) ∧ k0_pay17 (k0_pay19 L) (ix2 r 0) = first (after (row L r) 1)
    ∧ k0_pay17 (k0_pay19 (k0_pay19 L)) (ix2 r 0) = first (after (row L r) 2) ∧ k0_pay17 (k0_pay19 (k0_pay19 (k0_pay19 L))) (ix2 r 0) = first (after (row L r) 3) := by
  simp only [first_at, next_at, after, and_self]

/-- The experts chosen, at a row and a rank, -/
theorem pick_at (L : FVec Ideal S512x32 .f32) (r : Fin 512) (hv : ∀ e, ⊥ < row L r e) (q : Fin 4) : pick L (ix2 r q) = pickOf (row L r) q := by
  obtain ⟨h0, h1, h2, h3⟩ := first_round L r
  replace h0 := h0.trans (round _ hv 0).2
  replace h1 := h1.trans (round _ hv 1).2
  replace h2 := h2.trans (round _ hv 2).2
  replace h3 := h3.trans (round _ hv 3).2
  unfold pick k0_pay45 k0_pay34 k0_pay24
  rw [first28, first32, first22, next25]
  revert h0 h1 h2 h3
  generalize k0_pay17 L = M0
  generalize k0_pay17 (k0_pay19 L) = M1
  generalize k0_pay17 (k0_pay19 (k0_pay19 L)) = M2
  generalize k0_pay17 (k0_pay19 (k0_pay19 (k0_pay19 L))) = M3
  intro h0 h1 h2 h3
  unfold pickOf
  rw [← word_eq]
  fin_cases q <;> pointwise
  all_goals
    simp only [h0, h1, h2, h3] <;> rfl

/-- and their gates. -/
theorem share_at (L : FVec Ideal S512x32 .f32) (r : Fin 512) (hv : ∀ e, ⊥ < row L r e) (q : Fin 4) : share L (ix2 r q) = gateOf (row L r) q := by
  obtain ⟨h0, h1, h2, h3⟩ := max_round L r
  replace h0 := h0.trans (round _ hv 0).1
  replace h1 := h1.trans (round _ hv 1).1
  replace h2 := h2.trans (round _ hv 2).1
  replace h3 := h3.trans (round _ hv 3).1
  unfold share
  rw [max31, max27, max21, next25]
  revert h0 h1 h2 h3
  generalize k0_pay16 L = M0
  generalize k0_pay16 (k0_pay19 L) = M1
  generalize k0_pay16 (k0_pay19 (k0_pay19 L)) = M2
  generalize k0_pay16 (k0_pay19 (k0_pay19 (k0_pay19 L))) = M3
  intro h0 h1 h2 h3
  unfold gateOf
  fin_cases q <;> pointwise [k0_pay38, k0_pay36, k0_pay37]
  all_goals
    simp only [h0, h1, h2, h3] <;> rfl

end Cert.Kernel5Ideal.RouteVal
-- ==== Proof.RouteVal.Pure.lean ====
/-
  The router's scores of a block's tokens, read at an index, and the two results' blocks.
-/
module

public import proofs.«01_k».proof.Proof.RouteIdeal.Body
public import proofs.«01_k».proof.Proof.RouteVal.Finite
public import proofs.«01_k».proof.Proof.RouteVal.Payloads
public import Idealize.ShloMosaic.Lib.Pipeline.ValueKit
public import Idealize.ShloMosaic.Lib.Pointwise
public import Idealize.ShloMosaic.Lib.IdealHost
public import Idealize.ShloMosaic.Lib.Tactic.CleanTypes

@[expose] public section

set_option maxRecDepth 16384

noncomputable section

namespace Cert.Kernel5Ideal.RouteVal

open Cert.Kernel5Ideal Cert.Kernel5Ideal.Gen Cert.Kernel5Ideal.Route
open Idealize.ShloMosaic Idealize.ShloMosaic.TcCoe

theorem pay4_at (a : Vec Ideal S512x512 .f32) (wt : Vec Ideal S512x1024 .bf16) (b : Vec Ideal S512x512 .f32) (wb : Vec Ideal S512x1024 .bf16) (x : Vec Ideal S512x1024 .f32)
    (r : Fin 512) (j : Fin 1024) :
    k0_pay4 a wt b wb x (ix2 r j) = x (ix2 r j) + (∑ k : Fin 512, a (ix2 r k) * wt (ix2 k j) + ∑ k : Fin 512, b (ix2 r k) * wb (ix2 k j)) := by
  pointwise [k0_pay4]

theorem pay5_at (a : Vec Ideal S512x512 .f32) (wt : Vec Ideal S512x1024 .bf16) (b : Vec Ideal S512x512 .f32) (wb : Vec Ideal S512x1024 .bf16) (x : Vec Ideal S512x1024 .f32)
    (g : Vec Ideal S1x1024 .f32) (r : Fin 512) (j : Fin 1024) :
    k0_pay5 a wt b wb x g (ix2 r j) = OutSpec.scaled (fun j => k0_pay4 a wt b wb x (ix2 r j)) (fun j => g (ix2 0 j)) j := by
  unfold OutSpec.scaled
  generalize hY : k0_pay4 a wt b wb x = Y
  unfold k0_pay5
  rw [hY]
  pointwise

/-- The block's residual at row `r` and column `j`, from the input blocks, -/
def rowOf (a b : Vec Ideal S512x512 .f32) (x : Vec Ideal S512x1024 .f32) (w : Vec Ideal S1024x1024 .bf16) (r : Fin 512) (j : Fin 1024) : EReal :=
  x (ix2 r j) + (∑ k : Fin 512, a (ix2 r k) * w (ix2 ⟨k.val, by omega⟩ j) + ∑ k : Fin 512, b (ix2 r k) * w (ix2 ⟨512 + k.val, by omega⟩ j))

theorem res_at (a b : Vec Ideal S512x512 .f32) (x : Vec Ideal S512x1024 .f32) (w : Vec Ideal S1024x1024 .bf16) (r : Fin 512) (j : Fin 1024) :
    res a b x w (ix2 r j) = rowOf a b x w r j := by
  have ha : View.ld a allA = a := View.ld_unit_zero (S := S512x512) (funext fun a => by match a with | ⟨0, _⟩ => rfl | ⟨1, _⟩ => rfl) _ a
  have hb : View.ld b allA = b := View.ld_unit_zero (S := S512x512) (funext fun a => by match a with | ⟨0, _⟩ => rfl | ⟨1, _⟩ => rfl) _ b
  have hx : View.ld x allX = x := View.ld_unit_zero (S := S512x1024) (funext fun a => by match a with | ⟨0, _⟩ => rfl | ⟨1, _⟩ => rfl) _ x
  unfold res rowOf
  rw [pay4_at, ha, hb, hx]
  refine congrArg (_ + ·) (congrArg₂ (· + ·) ?_ ?_)
  · refine Finset.sum_congr rfl fun k _ => congrArg (_ * ·) (congrArg w (funext fun a => Fin.ext ?_))
    match a with
    | ⟨0, _⟩ => show 0 + 1 * k.val = k.val; omega
    | ⟨1, _⟩ => show 0 + 1 * j.val = j.val; omega
  · refine Finset.sum_congr rfl fun k _ => congrArg (_ * ·) (congrArg w (funext fun a => Fin.ext ?_))
    match a with
    | ⟨0, _⟩ => show 512 + 1 * k.val = 512 + k.val; omega
    | ⟨1, _⟩ => show 0 + 1 * j.val = j.val; omega

/-- and the same scaled. -/
theorem nrm_at (a b : Vec Ideal S512x512 .f32) (x : Vec Ideal S512x1024 .f32) (w : Vec Ideal S1024x1024 .bf16) (g : Vec Ideal S1x1024 .f32) (r : Fin 512) (j : Fin 1024) :
    nrm a b x w g (ix2 r j) = OutSpec.scaled (rowOf a b x w r) (fun j => g (ix2 0 j)) j := by
  have hg : View.ld g allG = g := View.ld_unit_zero (S := S1x1024) (funext fun a => by match a with | ⟨0, _⟩ => rfl | ⟨1, _⟩ => rfl) _ g
  unfold nrm
  rw [pay5_at, hg]
  exact congrArg (fun X => OutSpec.scaled X (fun j => g (ix2 0 j)) j) (funext fun j => res_at a b x w r j)

/-- The scores' sum, in its three parts, -/
theorem pay14_at (h : FVec Ideal S512x1024 .f32) (w : Vec Ideal S1024x32 .f32) (b : Vec Ideal S1x32 .f32) (r : Fin 512) (e : Fin 32) :
    k0_pay14 h w b (ix2 r e) = ∑ k : Fin 1024, h (ix2 r k) * w (ix2 k e) + ∑ k : Fin 1024, h (ix2 r k) * (w (ix2 k e) - w (ix2 k e))
      + ∑ k : Fin 1024, (h (ix2 r k) - h (ix2 r k)) * w (ix2 k e) + b (ix2 0 e) := by
  pointwise [k0_pay14]

/-- which for real gains and weights are the scores. -/
theorem scores_at (a b : Vec Ideal S512x512 .f32) (x : Vec Ideal S512x1024 .f32) (w : Vec Ideal S1024x1024 .bf16) (g : Vec Ideal S1x1024 .f32)
    (wr : Vec Ideal S1024x32 .f32) (br : Vec Ideal S1x32 .f32) (r : Fin 512) (hg : ∀ k : Fin 1024, RouteSpec.IsReal (g (ix2 0 k)))
    (hw : ∀ (k : Fin 1024) (e : Fin 32), RouteSpec.IsReal (wr (ix2 k e))) (e : Fin 32) :
    scores a b x w g wr br (ix2 r e)
      = RouteSpec.score (OutSpec.scaled (rowOf a b x w r) (fun j => g (ix2 0 j))) (fun k e => wr (ix2 k e)) (fun e => br (ix2 0 e)) e := by
  have h1 : View.ld wr allR = wr := View.ld_unit_zero (S := S1024x32) (funext fun a => by match a with | ⟨0, _⟩ => rfl | ⟨1, _⟩ => rfl) _ wr
  have h2 : View.ld br allB = br := View.ld_unit_zero (S := S1x32) (funext fun a => by match a with | ⟨0, _⟩ => rfl | ⟨1, _⟩ => rfl) _ br
  unfold scores
  rw [pay14_at, h1, h2]
  simp only [nrm_at]
  exact RouteSpec.score_parts (b := fun e => br (ix2 0 e)) (fun k => RouteSpec.scaled_real hg k) hw e

/-- The block of experts chosen is the block of choices, and the block of gates the block of shares. -/
theorem idxOut_eq (a b : Vec Ideal S512x512 .f32) (x : Vec Ideal S512x1024 .f32) (w : Vec Ideal S1024x1024 .bf16) (g : Vec Ideal S1x1024 .f32)
    (wr : Vec Ideal S1024x32 .f32) (br : Vec Ideal S1x32 .f32) : idxOut a b x w g wr br = pick (scores a b x w g wr br) :=
  View.canon_cons_unit_zero (S := S512x4) (funext fun a => by match a with | ⟨0, _⟩ => rfl | ⟨1, _⟩ => rfl) _ _ []
theorem gateOut_eq (a b : Vec Ideal S512x512 .f32) (x : Vec Ideal S512x1024 .f32) (w : Vec Ideal S1024x1024 .bf16) (g : Vec Ideal S1x1024 .f32)
    (wr : Vec Ideal S1024x32 .f32) (br : Vec Ideal S1x32 .f32) : gateOut a b x w g wr br = share (scores a b x w g wr br) :=
  View.canon_cons_unit_zero (S := S512x4) (funext fun a => by match a with | ⟨0, _⟩ => rfl | ⟨1, _⟩ => rfl) _ _ []

end Cert.Kernel5Ideal.RouteVal
-- ==== Proof.RouteIdeal.Run.lean ====
/-
  The run of the output projection and router's kernel: what every grid point leaves in the blocks of the first four results,
  the pipeline's obligation at every point, and the launch. Of the other two results, and of the counts carried from
  point to point, the run says nothing.
-/
module

public import proofs.«01_k».proof.Proof.RouteIdeal.Body
public import proofs.«01_k».proof.Proof.Gen.Kernel5Ideal.Points
public import proofs.«01_k».proof.Proof.Gen.Kernel5Ideal.Frame
public import Idealize.ShloMosaic.Lib.Pipeline.Quiescent
public import Idealize.ShloMosaic.Lib.Claim

@[expose] public section

set_option maxRecDepth 16384
set_option Elab.async false

noncomputable section

namespace Cert.Kernel5Ideal.Route

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results of which nothing is said. -/
def fgt : Fin cfg0.W → Bool := fun w => decide (13 ≤ w.val)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => resOut (iblk m c 0 t) (iblk m c 1 t) (iblk m c 2 t) (iblk m c 3 t)
    | ⟨10, _⟩ => nrmOut (iblk m c 0 t) (iblk m c 1 t) (iblk m c 2 t) (iblk m c 3 t) (iblk m c 4 t)
    | ⟨11, _⟩ => idxOut (iblk m c 0 t) (iblk m c 1 t) (iblk m c 2 t) (iblk m c 3 t) (iblk m c 4 t) (iblk m c 5 t) (iblk m c 6 t)
    | ⟨12, _⟩ => gateOut (iblk m c 0 t) (iblk m c 1 t) (iblk m c 2 t) (iblk m c 3 t) (iblk m c 4 t) (iblk m c 5 t) (iblk m c 6 t)
    | ⟨13, _⟩ => Dat.unnamed 13 t
    | ⟨14, _⟩ => Dat.unnamed 14 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = resOut (iblk m c 0 t) (iblk m c 1 t) (iblk m c 2 t) (iblk m c 3 t) := by dsimp only [dats]
theorem after10 (c : Dev nD) (t : Fin cfg0.N) : (dats m 0 c).after 10 t = nrmOut (iblk m c 0 t) (iblk m c 1 t) (iblk m c 2 t) (iblk m c 3 t) (iblk m c 4 t) := by dsimp only [dats]
theorem after11 (c : Dev nD) (t : Fin cfg0.N) : (dats m 0 c).after 11 t = idxOut (iblk m c 0 t) (iblk m c 1 t) (iblk m c 2 t) (iblk m c 3 t) (iblk m c 4 t) (iblk m c 5 t) (iblk m c 6 t) := by dsimp only [dats]
theorem after12 (c : Dev nD) (t : Fin cfg0.N) : (dats m 0 c).after 12 t = gateOut (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ X, owns (c : Thread nD τ) (st0_13 t) fullShare X) ∗ (∃ X, owns (c : Thread nD τ) (st0_14 t) fullShare X))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ (∃ X, owns (c : Thread nD τ) (st0_13 t) fullShare X) ∗ (∃ X, owns (c : Thread nD τ) (st0_14 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, after9, after10, after11, after12]
  unfold Pipeline.ΦA; rw [scopedRest0_eq]
  iintro ⟨⟨⟨%fC, HC⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases hc : First (grid0.coords t)
  · skip
    iapply (run_first c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HC]; · iexists fC; rw [owns_whole]; iexact HC
    iintro ⟨H0, H1, H2, H3, H4, H5, H6, H7, H8, H9, H10, H11, H12, H13, H14, ⟨%dC, HC⟩⟩
    isplitl [HC Hp]
    · isplitl [HC]
      · iexists dC; rw [owns_whole]; exact .rfl
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · skip
    iapply (run_later c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HC]; · iexists fC; rw [owns_whole]; iexact HC
    iintro ⟨H0, H1, H2, H3, H4, H5, H6, H7, H8, H9, H10, H11, H12, H13, H14, ⟨%dC, HC⟩⟩
    isplitl [HC Hp]
    · isplitl [HC]
      · iexists dC; rw [owns_whole]; exact .rfl
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every weakly fair execution of @main terminates, with each array as the pipeline leaves it and every semaphore
    counter at zero. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array ends as the region found it. -/
theorem in_end {r : PUnit × MemSt nD τ sig (Elt F)} (h : Pipeline.RDat.FramePost cfg0 (fun c => (dats m 0 c).toRForget fgt) (V m) r)
    (c : Dev nD) (w : Fin 15) (hin : (cfg0.win w).isOut = false) :
    r.2.mem ((cfg0.win w).arr.view.loc (c : Thread nD τ)) = V m c (Pipeline.arrRef spec0 w) :=
  (Pipeline.RDat.FramePost.arr_in h c w hin).trans (A_eq m c w)

/-- The run with its third and fourth results: they end at what the pipeline computes, every argument as it was, every counter at zero. -/
theorem run_result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((cfg0.win (11 : Fin 15)).arr.view.loc (c : Thread nD τ)) = (dats m 0 c).arrAt (11 : Fin 15) cfg0.N
      ∧ r.2.mem ((cfg0.win (12 : Fin 15)).arr.view.loc (c : Thread nD τ)) = (dats m 0 c).arrAt (12 : Fin 15) cfg0.N)
      ∧ r.2.sem = fun _ => 0) :=
  (θ_run defs _ _).mono (fun _ (h : _ ∧ _) => ⟨fun c => ⟨⟨
      (in_end m h.1 c (0 : Fin 15) rfl).trans (V_main_arg0 m c),
      (in_end m h.1 c (1 : Fin 15) rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (in_end m h.1 c (4 : Fin 15) rfl).trans (V_main_arg4 m c),
      ((h.1 c).2 main_arg5 (Pipeline.mem_restRefs_of main_arg5 (by decide) (by decide))).trans (V_main_arg5 m c),
      (in_end m h.1 c (6 : Fin 15) rfl).trans (V_main_arg6 m c)⟩,
      ((dats m 0 c).toRForget_arrAt_iff (w := (11 : Fin 15)) (by decide) _ _).mp ((h.1 c).1 (11 : Fin 15)),
      ((dats m 0 c).toRForget_arrAt_iff (w := (12 : Fin 15)) (by decide) _ _).mp ((h.1 c).1 (12 : Fin 15))⟩, h.2⟩) (run_main m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).1, h.2⟩) (run_result m ρ)

end Cert.Kernel5Ideal.Route

end
-- ==== Proof.RouteVal.Array.lean ====
/-
  The output projection's third and fourth result arrays after the kernel's run, index by index: the experts chosen and
  their gates.
-/
module

public import proofs.«01_k».proof.Proof.RouteVal.Pure
public import proofs.«01_k».proof.Proof.RouteIdeal.Run

@[expose] public section

set_option maxRecDepth 16384

noncomputable section

namespace Cert.Kernel5Ideal.RouteVal

open Cert.Kernel5Ideal Cert.Kernel5Ideal.Gen Cert.Kernel5Ideal.Route
open Idealize.ShloMosaic Idealize.ShloMosaic.TcCoe
open Idealize.ShloMosaic.Pipeline (Dat Cfg Window)

variable (m : (ℓ : Loc nD τ sig) → Buf (Elt Ideal) ℓ)

/-- The three arrays that the region finds computed from the arguments. -/
theorem V_main_v3 (c : Dev nD) : V m c main_v3 = shapeCast _ (m ((c : Thread nD τ).loc main_arg2)) shapeCasts_S8x2048x1024_S16384x1024 := by
  unfold V; after_results <;> rfl
theorem V_main_v1 (c : Dev nD) : V m c main_v1 = truncf (F := Ideal) (s := S1024x1024) (φ := .f32) .bf16 (shapeCast _ (m ((c : Thread nD τ).loc main_arg3)) shapeCasts_S1x1024x1024_S1024x1024) bitsLt_bf16_f32 := by
  unfold V; after_results <;> rfl

theorem V_main_v4 (c : Dev nD) : V m c main_v4 = shapeCast _ (m ((c : Thread nD τ).loc main_arg5)) shapeCasts_S1x1024x32_S1024x32 := by
  unfold V; after_results <;> rfl

theorem N_eq : cfg0.N = 32 := (by decide +kernel : grid0.N = 32)
theorem lt32 (t : Fin cfg0.N) : t.val < 32 := lt_of_lt_of_eq t.isLt N_eq

theorem row_lt {n r : ℕ} (hn : n < 32) (hr : r < 512) : n * 512 + r < 16384 := by omega
theorem div_lt {n : ℕ} (hn : n < 16384) : n / 2048 < 8 := by omega
theorem mod_lt (n : ℕ) : n % 2048 < 2048 := by omega
theorem row_eq (n r s : ℕ) : n * s + 1 * r = n * s + r := by omega
theorem col_eq (n r : ℕ) : 0 * n + 1 * r = r := by omega

/-- The rows of the prompt laid one after the other, and the rounded matrix, at an index. -/
theorem rows_at (x : FVec Ideal S8x2048x1024 .f32) (n : Fin 16384) (k : Fin 1024) (h0 : n.val / 2048 < 8) (h1 : n.val % 2048 < 2048) :
    shapeCast S16384x1024 x shapeCasts_S8x2048x1024_S16384x1024 (ix2 n k) = x (ix3 ⟨n.val / 2048, h0⟩ ⟨n.val % 2048, h1⟩ k) := by
  pointwise
theorem matrix_at (w : FVec Ideal S1x1024x1024 .f32) (k : Fin 1024) (j : Fin 1024) :
    truncf (F := Ideal) (s := S1024x1024) (φ := .f32) .bf16 (shapeCast _ w shapeCasts_S1x1024x1024_S1024x1024) bitsLt_bf16_f32 (ix2 k j) = w (ix3 0 k j) := by
  pointwise
theorem router_at (w : FVec Ideal S1x1024x32 .f32) (k : Fin 1024) (e : Fin 32) :
    shapeCast S1024x32 w shapeCasts_S1x1024x32_S1024x32 (ix2 k e) = w (ix3 0 k e) := by
  pointwise

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])

/-- The input windows' blocks at a point, read off the arguments. -/
theorem iblk0_at (c : Dev nD) (t : Fin cfg0.N) (r : Fin 512) (k : Fin 512) : iblk m c 0 t (ix2 r k : S512x512.Idx)
    = m ((c : Thread nD τ).loc main_arg0) (ix2 ⟨t.val * 512 + r.val, row_lt (lt32 t) r.isLt⟩ k) := by
  have ht : t.val < 32 := lt32 t
  rw [← V_main_arg0 m c]
  refine congrArg (V m c main_arg0) (funext fun a => Fin.ext ?_)
  have h := congrFun (index0 t) a
  change win0_0.index t a * S512x512.size a + 1 * ((ix2 r k : S512x512.Idx) a).val = _
  rw [h]
  match a with
  | ⟨0, _⟩ => exact row_eq t.val r.val 512
  | ⟨1, _⟩ => exact col_eq _ k.val

theorem iblk1_at (c : Dev nD) (t : Fin cfg0.N) (r : Fin 512) (k : Fin 512) : iblk m c 1 t (ix2 r k : S512x512.Idx)
    = m ((c : Thread nD τ).loc main_arg1) (ix2 ⟨t.val * 512 + r.val, row_lt (lt32 t) r.isLt⟩ k) := by
  have ht : t.val < 32 := lt32 t
  rw [← V_main_arg1 m c]
  refine congrArg (V m c main_arg1) (funext fun a => Fin.ext ?_)
  have h := congrFun (index1 t) a
  change win0_1.index t a * S512x512.size a + 1 * ((ix2 r k : S512x512.Idx) a).val = _
  rw [h]
  match a with
  | ⟨0, _⟩ => exact row_eq t.val r.val 512
  | ⟨1, _⟩ => exact col_eq _ k.val

theorem iblk2_at (c : Dev nD) (t : Fin cfg0.N) (r : Fin 512) (k : Fin 1024) : iblk m c 2 t (ix2 r k : S512x1024.Idx)
    = m ((c : Thread nD τ).loc main_arg2) (ix3 ⟨(t.val * 512 + r.val) / 2048, div_lt (row_lt (lt32 t) r.isLt)⟩ ⟨(t.val * 512 + r.val) % 2048, mod_lt _⟩ k) := by
  have ht : t.val < 32 := lt32 t
  have h : iblk m c 2 t (ix2 r k : S512x1024.Idx) = V m c main_v3 (ix2 (⟨t.val * 512 + r.val, row_lt ht r.isLt⟩ : Fin 16384) k : S16384x1024.Idx) := by
    refine congrArg (V m c main_v3) (funext fun a => Fin.ext ?_)
    have h := congrFun (index2 t) a
    change win0_2.index t a * S512x1024.size a + 1 * ((ix2 r k : S512x1024.Idx) a).val = _
    rw [h]
    match a with
    | ⟨0, _⟩ => exact row_eq t.val r.val 512
    | ⟨1, _⟩ => exact col_eq _ k.val
  rw [h, V_main_v3]
  exact rows_at _ _ k _ _

theorem iblk3_at (c : Dev nD) (t : Fin cfg0.N) (k : Fin 1024) (j : Fin 1024) : iblk m c 3 t (ix2 k j : S1024x1024.Idx)
    = m ((c : Thread nD τ).loc main_arg3) (ix3 0 k j) := by
  have h : iblk m c 3 t (ix2 k j : S1024x1024.Idx) = V m c main_v1 (ix2 k j) := by
    refine congrArg (V m c main_v1) (funext fun a => Fin.ext ?_)
    have h := congrFun (index3 t) a
    change win0_3.index t a * S1024x1024.size a + 1 * ((ix2 k j : S1024x1024.Idx) a).val = _
    rw [h]
    match a with
    | ⟨0, _⟩ => exact col_eq _ k.val
    | ⟨1, _⟩ => exact col_eq _ j.val
  rw [h, V_main_v1]
  exact matrix_at _ k j

theorem iblk4_at (c : Dev nD) (t : Fin cfg0.N) (k : Fin 1024) : iblk m c 4 t (ix2 0 k : S1x1024.Idx)
    = m ((c : Thread nD τ).loc main_arg4) (ix2 0 k) := by
  rw [← V_main_arg4 m c]
  refine congrArg (V m c main_arg4) (funext fun a => Fin.ext ?_)
  have h := congrFun (index4 t) a
  change win0_4.index t a * S1x1024.size a + 1 * ((ix2 0 k : S1x1024.Idx) a).val = _
  rw [h]
  match a with
  | ⟨0, _⟩ => rfl
  | ⟨1, _⟩ => exact col_eq _ k.val

theorem iblk5_at (c : Dev nD) (t : Fin cfg0.N) (k : Fin 1024) (e : Fin 32) : iblk m c 5 t (ix2 k e : S1024x32.Idx)
    = m ((c : Thread nD τ).loc main_arg5) (ix3 0 k e) := by
  have h : iblk m c 5 t (ix2 k e : S1024x32.Idx) = V m c main_v4 (ix2 k e) := by
    refine congrArg (V m c main_v4) (funext fun a => Fin.ext ?_)
    have h := congrFun (index5 t) a
    change win0_5.index t a * S1024x32.size a + 1 * ((ix2 k e : S1024x32.Idx) a).val = _
    rw [h]
    match a with
    | ⟨0, _⟩ => exact col_eq _ k.val
    | ⟨1, _⟩ => exact col_eq _ e.val
  rw [h, V_main_v4]
  exact router_at _ k e

theorem iblk6_at (c : Dev nD) (t : Fin cfg0.N) (e : Fin 32) : iblk m c 6 t (ix2 0 e : S1x32.Idx)
    = m ((c : Thread nD τ).loc main_arg6) (ix2 0 e) := by
  rw [← V_main_arg6 m c]
  refine congrArg (V m c main_arg6) (funext fun a => Fin.ext ?_)
  have h := congrFun (index6 t) a
  change win0_6.index t a * S1x32.size a + 1 * ((ix2 0 e : S1x32.Idx) a).val = _
  rw [h]
  match a with
  | ⟨0, _⟩ => rfl
  | ⟨1, _⟩ => exact col_eq _ e.val

/-- Token `n`'s residual, from the arguments. -/
abbrev tok (c : Dev nD) (n : Fin 16384) (j : Fin 1024) : EReal :=
  OutSpec.res (m ((c : Thread nD τ).loc main_arg0)) (m ((c : Thread nD τ).loc main_arg1)) (m ((c : Thread nD τ).loc main_arg2)) (m ((c : Thread nD τ).loc main_arg3)) n j
/-- The gains. -/
abbrev gain (c : Dev nD) (j : Fin 1024) : EReal := (m ((c : Thread nD τ).loc main_arg4) : S1x1024.Idx → EReal) (ix2 0 j)

/-- A block's rows are those tokens' residuals. -/
theorem rowOf_at (c : Dev nD) (t : Fin cfg0.N) (r : Fin 512) :
    rowOf (iblk m c 0 t) (iblk m c 1 t) (iblk m c 2 t) (iblk m c 3 t) r = tok m c ⟨t.val * 512 + r.val, row_lt (lt32 t) r.isLt⟩ := by
  funext j
  unfold rowOf
  simp only [iblk0_at, iblk1_at, iblk2_at, iblk3_at]
  rfl

/-- The gains and the router's weights are real, and no bias is the infinite negative. -/
def Sound (c : Dev nD) : Prop :=
  RouteSpec.Sound (m ((c : Thread nD τ).loc main_arg4) : S1x1024.Idx → EReal) (m ((c : Thread nD τ).loc main_arg5) : S1x1024x32.Idx → EReal) (m ((c : Thread nD τ).loc main_arg6) : S1x32.Idx → EReal)

/-- Token `n`'s scores for the experts, from the arguments. -/
abbrev marks (c : Dev nD) (n : Fin 16384) : Fin 32 → EReal :=
  RouteSpec.tokScores (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) n

/-- A block's rows of scores are those tokens' scores. -/
theorem scores_row (c : Dev nD) (hm : Sound m c) (t : Fin cfg0.N) (r : Fin 512) :
    row (scores (iblk m c 0 t) (iblk m c 1 t) (iblk m c 2 t) (iblk m c 3 t) (iblk m c 4 t) (iblk m c 5 t) (iblk m c 6 t)) r = marks m c ⟨t.val * 512 + r.val, row_lt (lt32 t) r.isLt⟩ := by
  funext e
  refine (scores_at _ _ _ _ _ _ _ r ?_ ?_ e).trans ?_
  · intro k; rw [iblk4_at]; exact hm.1 _
  · intro k e; rw [iblk5_at]; exact hm.2.1 _
  · rw [rowOf_at]
    simp only [iblk4_at, iblk5_at, iblk6_at]
    rfl

/-- The experts' array wanted, -/
def want11 (c : Dev nD) : Vec Ideal S16384x4 .i32 := fun i => RouteSpec.pickOf (marks m c (i 0)) (i 1)
/-- and the gates', -/
def want12 (c : Dev nD) : Vec Ideal S16384x4 .f32 := fun i => RouteSpec.gateOf (marks m c (i 0)) (i 1)
/-- where a point's block lies in them, -/
theorem emb11_0 (t : Fin cfg0.N) (y : S512x4.Idx) : (((cfg0.win (11 : Fin 15)).blk t).view.emb y (0 : Fin 2)).val = t.val * 512 + (y (0 : Fin 2)).val := by
  change win0_11.index t (0 : Fin 2) * 512 + 1 * (y (0 : Fin 2)).val = _
  rw [index11]; exact row_eq t.val _ 512
theorem emb11_1 (t : Fin cfg0.N) (y : S512x4.Idx) : (((cfg0.win (11 : Fin 15)).blk t).view.emb y (1 : Fin 2)).val = (y (1 : Fin 2)).val := by
  change win0_11.index t (1 : Fin 2) * 4 + 1 * (y (1 : Fin 2)).val = _
  rw [index11]; exact col_eq _ _
theorem emb12_0 (t : Fin cfg0.N) (y : S512x4.Idx) : (((cfg0.win (12 : Fin 15)).blk t).view.emb y (0 : Fin 2)).val = t.val * 512 + (y (0 : Fin 2)).val := by
  change win0_12.index t (0 : Fin 2) * 512 + 1 * (y (0 : Fin 2)).val = _
  rw [index12]; exact row_eq t.val _ 512
theorem emb12_1 (t : Fin cfg0.N) (y : S512x4.Idx) : (((cfg0.win (12 : Fin 15)).blk t).view.emb y (1 : Fin 2)).val = (y (1 : Fin 2)).val := by
  change win0_12.index t (1 : Fin 2) * 4 + 1 * (y (1 : Fin 2)).val = _
  rw [index12]; exact col_eq _ _
theorem want11_at (c : Dev nD) (i : S16384x4.Idx) (n : ℕ) (hn : n < 16384) (q : Fin 4) (h0 : (i (0 : Fin 2)).val = n) (h : (i (1 : Fin 2)).val = q.val) :
    want11 m c i = RouteSpec.pickOf (marks m c ⟨n, hn⟩) q := by
  subst h0
  exact congrArg (RouteSpec.pickOf (marks m c _)) (Fin.ext h)
theorem want12_at (c : Dev nD) (i : S16384x4.Idx) (n : ℕ) (hn : n < 16384) (q : Fin 4) (h0 : (i (0 : Fin 2)).val = n) (h : (i (1 : Fin 2)).val = q.val) :
    want12 m c i = RouteSpec.gateOf (marks m c ⟨n, hn⟩) q := by
  subst h0
  exact congrArg (RouteSpec.gateOf (marks m c _)) (Fin.ext h)
theorem covers11 : (cfg0.win (11 : Fin 15)).Covers := by decide +kernel
theorem covers12 : (cfg0.win (12 : Fin 15)).Covers := by decide +kernel

theorem block11 (c : Dev nD) (hm : Sound m c) (t : Fin cfg0.N) (r : Fin 512) (q : Fin 4) :
    idxOut (iblk m c 0 t) (iblk m c 1 t) (iblk m c 2 t) (iblk m c 3 t) (iblk m c 4 t) (iblk m c 5 t) (iblk m c 6 t) (ix2 r q)
      = RouteSpec.pickOf (marks m c ⟨t.val * 512 + r.val, row_lt (lt32 t) r.isLt⟩) q := by
  rw [idxOut_eq, pick_at _ _ (fun e => by rw [scores_row m c hm]; exact hm.scores _ _ _ _ _ e), scores_row m c hm]
theorem block12 (c : Dev nD) (hm : Sound m c) (t : Fin cfg0.N) (r : Fin 512) (q : Fin 4) :
    gateOut (iblk m c 0 t) (iblk m c 1 t) (iblk m c 2 t) (iblk m c 3 t) (iblk m c 4 t) (iblk m c 5 t) (iblk m c 6 t) (ix2 r q)
      = RouteSpec.gateOf (marks m c ⟨t.val * 512 + r.val, row_lt (lt32 t) r.isLt⟩) q := by
  rw [gateOut_eq, share_at _ _ (fun e => by rw [scores_row m c hm]; exact hm.scores _ _ _ _ _ e), scores_row m c hm]

/-- and the two arrays after the run. -/
theorem array11 (c : Dev nD) (hm : Sound m c) : (dats m 0 c).arrAt (11 : Fin 15) cfg0.N = want11 m c := by
  refine (dats m 0 c).arrAt_eq_of_covers (11 : Fin 15) _ covers11 fun t hf y => ?_
  have hy : y = ix2 (⟨(y (0 : Fin 2)).val, (y (0 : Fin 2)).isLt⟩ : Fin 512) (⟨(y (1 : Fin 2)).val, (y (1 : Fin 2)).isLt⟩ : Fin 4) := by
    funext a; match a with | ⟨0, _⟩ => rfl | ⟨1, _⟩ => rfl
  refine (congrFun (after11 m c t) y).trans ?_
  have hl : idxOut (iblk m c 0 t) (iblk m c 1 t) (iblk m c 2 t) (iblk m c 3 t) (iblk m c 4 t) (iblk m c 5 t) (iblk m c 6 t) y = _ :=
    (congrArg _ hy).trans (block11 m c hm t _ _)
  exact hl.trans (want11_at m c _ _ _ _ (emb11_0 t y) (emb11_1 t y)).symm
theorem array12 (c : Dev nD) (hm : Sound m c) : (dats m 0 c).arrAt (12 : Fin 15) cfg0.N = want12 m c := by
  refine (dats m 0 c).arrAt_eq_of_covers (12 : Fin 15) _ covers12 fun t hf y => ?_
  have hy : y = ix2 (⟨(y (0 : Fin 2)).val, (y (0 : Fin 2)).isLt⟩ : Fin 512) (⟨(y (1 : Fin 2)).val, (y (1 : Fin 2)).isLt⟩ : Fin 4) := by
    funext a; match a with | ⟨0, _⟩ => rfl | ⟨1, _⟩ => rfl
  refine (congrFun (after12 m c t) y).trans ?_
  have hl : gateOut (iblk m c 0 t) (iblk m c 1 t) (iblk m c 2 t) (iblk m c 3 t) (iblk m c 4 t) (iblk m c 5 t) (iblk m c 6 t) y = _ :=
    (congrArg _ hy).trans (block12 m c hm t _ _)
  exact hl.trans (want12_at m c _ _ _ _ (emb12_0 t y) (emb12_1 t y)).symm

end Cert.Kernel5Ideal.RouteVal
-- ==== Proof.RouteVal.Ref.lean ====
/-
  The reference's experts and gates, read at an index.
-/
module

public import proofs.«01_k».proof.Proof.RouteVal.Rows
public import proofs.«01_k».proof.Proof.RouteVal.Finite
public import proofs.«01_k».proof.Proof.RouteVal.Payloads
public import proofs.«01_k».proof.Proof.Gen.Reference5Ideal.Run

@[expose] public section

set_option maxRecDepth 16384

noncomputable section

namespace Cert.Reference5Ideal.RouteVal

open Cert.Reference5Ideal Cert.Reference5Ideal.Gen
open Idealize.ShloMosaic Idealize.ShloMosaic.TcCoe

/-- The product of two rows of 512 set side by side is the sum of the two products. -/
theorem sum_halves (f : Fin 1024 → EReal) : ∑ k : Fin 1024, f k = ∑ k : Fin 512, f ⟨k.val, by omega⟩ + ∑ k : Fin 512, f ⟨512 + k.val, by omega⟩ :=
  Fin.sum_univ_add (a := 512) (b := 512) f

/-- The two mixers' outputs side by side. -/
theorem side_at (a b : FVec Ideal S16384x512 .f32) (n : Fin 16384) (k : Fin 512) :
    (concatenate S16384x1024 1 [⟨S16384x512, a⟩, ⟨S16384x512, b⟩] concatenates_S16384x512_S16384x512_S16384x1024_d1 : FVec Ideal S16384x1024 .f32) (ix2 n ⟨k.val, by omega⟩) = a (ix2 n k)
    ∧ (concatenate S16384x1024 1 [⟨S16384x512, a⟩, ⟨S16384x512, b⟩] concatenates_S16384x512_S16384x512_S16384x1024_d1 : FVec Ideal S16384x1024 .f32) (ix2 n ⟨512 + k.val, by omega⟩) = b (ix2 n k) := by
  constructor
  · pointwise
  · pointwise

/-- The tokens' residuals, -/
theorem res4_at (a b : FVec Ideal S16384x512 .f32) (x : FVec Ideal S8x2048x1024 .f32) (w : FVec Ideal S1x1024x1024 .f32) :
    addf (shapeCast _ x shapeCasts_S8x2048x1024_S16384x1024) (Host.dotGeneral dot_S16384x1024_S1024x1024_S16384x1024_1_0_0_1_n_n none (concatenate S16384x1024 1 [⟨S16384x512, a⟩, ⟨S16384x512, b⟩] concatenates_S16384x512_S16384x512_S16384x1024_d1) (shapeCast _ w shapeCasts_S1x1024x1024_S1024x1024))
      = fun i : S16384x1024.Idx => OutSpec.res a b x w (i 0) (i 1) := by
  have hs := side_at a b
  revert hs
  generalize (concatenate S16384x1024 1 [⟨S16384x512, a⟩, ⟨S16384x512, b⟩] concatenates_S16384x512_S16384x512_S16384x1024_d1 : FVec Ideal S16384x1024 .f32) = C
  intro hs
  funext i
  idx_vars i
  unfold OutSpec.res
  pointwise
  rw [sum_halves]
  simp only [fun n k => (hs n k).1, fun n k => (hs n k).2]

/-- the same scaled, -/
theorem norm_at (X : FVec Ideal S16384x1024 .f32) (g : FVec Ideal S1x1024 .f32) :
    mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))
      = fun i : S16384x1024.Idx => OutSpec.scaled (fun j => X (ix2 (i 0) j)) (fun j => g (ix2 0 j)) (i 1) := by
  funext i
  idx_vars i
  pointwise [OutSpec.scaled]

/-- and their scores for the experts. -/
theorem score_at (H : FVec Ideal S16384x1024 .f32) (wr : FVec Ideal S1x1024x32 .f32) (br : FVec Ideal S1x32 .f32) :
    addf (Host.dotGeneral dot_S16384x1024_S1024x32_S16384x32_1_0_0_1_n_n none H (shapeCast _ wr shapeCasts_S1x1024x32_S1024x32)) (broadcastInDim S16384x32 ![0, 1] bcast_S1x32_S16384x32_0_1 (broadcastInDim S1x32 ![1] bcast_S32_S1x32_1 (shapeCast _ br shapeCasts_S1x32_S32)))
      = fun i : S16384x32.Idx => RouteSpec.score (fun k => H (ix2 (i 0) k)) (fun k e => wr (ix3 0 k e)) (fun e => br (ix2 0 e)) (i 1) := by
  funext i
  idx_vars i
  pointwise [RouteSpec.score]

/-- The reference's scores: what it orders. -/
def logits (a b : FVec Ideal S16384x512 .f32) (x : FVec Ideal S8x2048x1024 .f32) (w : FVec Ideal S1x1024x1024 .f32) (g : FVec Ideal S1x1024 .f32) (wr : FVec Ideal S1x1024x32 .f32) (br : FVec Ideal S1x32 .f32) :
    FVec Ideal S16384x32 .f32 :=
  let X : FVec Ideal S16384x1024 .f32 := addf (shapeCast _ x shapeCasts_S8x2048x1024_S16384x1024) (Host.dotGeneral dot_S16384x1024_S1024x1024_S16384x1024_1_0_0_1_n_n none (concatenate S16384x1024 1 [⟨S16384x512, a⟩, ⟨S16384x512, b⟩] concatenates_S16384x512_S16384x512_S16384x1024_d1) (shapeCast _ w shapeCasts_S1x1024x1024_S1024x1024))
  addf (Host.dotGeneral dot_S16384x1024_S1024x32_S16384x32_1_0_0_1_n_n none
      (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024))))
      (shapeCast _ wr shapeCasts_S1x1024x32_S1024x32))
    (broadcastInDim S16384x32 ![0, 1] bcast_S1x32_S16384x32_0_1 (broadcastInDim S1x32 ![1] bcast_S32_S1x32_1 (shapeCast _ br shapeCasts_S1x32_S32)))

theorem logits_eq (a b : FVec Ideal S16384x512 .f32) (x : FVec Ideal S8x2048x1024 .f32) (w : FVec Ideal S1x1024x1024 .f32) (g : FVec Ideal S1x1024 .f32) (wr : FVec Ideal S1x1024x32 .f32) (br : FVec Ideal S1x32 .f32) :
    logits a b x w g wr br = fun i : S16384x32.Idx => RouteSpec.tokScores a b x w g wr br (i 0) (i 1) := by
  unfold logits
  dsimp only
  rw [score_at, norm_at, res4_at]
  rfl

theorem along_eq (n : Fin 16384) (k e : Fin 32) : (ix2 n k : S16384x32.Idx).along 1 e = ix2 n e := by
  funext a
  match a with | ⟨0, _⟩ => rfl | ⟨1, _⟩ => rfl
theorem beq_one (p : Prop) [Decidable p] : (BitVec.ofBool (decide p) == 1#1) = decide p := by
  by_cases h : p <;> simp [h]
/-- The order that the reference sorts a token's scores by. -/
theorem order_eq (L : FVec Ideal S16384x32 .f32) (n : Fin 16384) (k : Fin 32) :
    (fun e e' : Fin 32 => (FloatOps.cmpfTotal (F := Ideal) (φ := .f32) .gt (L ((ix2 n k : S16384x32.Idx).along 1 e)) (L ((ix2 n k : S16384x32.Idx).along 1 e'))) == 1#1) = fun e e' => decide (L (ix2 n e') < L (ix2 n e)) := by
  funext e e'
  rw [along_eq, along_eq]
  exact beq_one _
/-- Where the sort along the experts takes its place `k` from. -/
theorem sort_at (L : FVec Ideal S16384x32 .f32) (n : Fin 16384) (k : Fin 32) (idx : IVec S16384x32 32) :
    (Host.sort2 S16384x32 1 (fun l r => FloatOps.cmpfTotal (F := Ideal) (φ := .f32) .gt l.1 r.1) L idx).1 (ix2 n k) = L (ix2 n (RouteSpec.place (fun e => L (ix2 n e)) k))
    ∧ (Host.sort2 S16384x32 1 (fun l r => FloatOps.cmpfTotal (F := Ideal) (φ := .f32) .gt l.1 r.1) L idx).2 (ix2 n k) = idx (ix2 n (RouteSpec.place (fun e => L (ix2 n e)) k)) := by
  unfold Host.sort2 RouteSpec.place
  rw [dif_pos (by decide : 1 < S16384x32.rank)]
  rw [← order_eq L n k]
  exact ⟨congrArg L (along_eq n k _), congrArg idx (along_eq n k _)⟩

theorem slice_at {α : Type} (X : S16384x32.Idx → α) (n : Fin 16384) (q : Fin 4) :
    extractStridedSlice S16384x4 (fun _ => 0) X sliceFits_S16384x32_S16384x4 (ix2 n q) = X (ix2 n ⟨q.val, by omega⟩) := by
  unfold extractStridedSlice
  refine congrArg X (funext fun a => Fin.ext ?_)
  match a with
  | ⟨0, _⟩ => exact Nat.zero_add n.val
  | ⟨1, _⟩ => exact Nat.zero_add q.val

/-- A token's experts in order, -/
theorem choice_at (L : FVec Ideal S16384x32 .f32) (n : Fin 16384) (q : Fin 4) :
    (Host.topK S16384x4 1 (FloatOps.cmpfTotal .gt) L sliceFits_S16384x32_S16384x4).2 (ix2 n q) = RouteSpec.pickOf (fun e => L (ix2 n e)) q := by
  have h := (sort_at L n ⟨q.val, by omega⟩ (fun i => if hd : 1 < S16384x32.rank then iotaInDim S16384x32 32 ⟨1, hd⟩ i else 0#32)).2
  unfold Host.topK
  dsimp only
  refine (slice_at _ n q).trans (h.trans ?_)
  rw [dif_pos (by decide : 1 < S16384x32.rank)]
  rfl
/-- and their scores. -/
theorem best_at (L : FVec Ideal S16384x32 .f32) (n : Fin 16384) (q : Fin 4) :
    (Host.topK S16384x4 1 (FloatOps.cmpfTotal .gt) L sliceFits_S16384x32_S16384x4).1 (ix2 n q) = L (ix2 n (RouteSpec.place (fun e => L (ix2 n e)) ⟨q.val, by omega⟩)) := by
  have h := (sort_at L n ⟨q.val, by omega⟩ (fun i => if hd : 1 < S16384x32.rank then iotaInDim S16384x32 32 ⟨1, hd⟩ i else 0#32)).1
  unfold Host.topK
  dsimp only
  exact (slice_at _ n q).trans h

/-- The greatest of the four, where the first is the greatest. -/
theorem greatest_at (V : FVec Ideal S16384x4 .f32) (n : Fin 16384) (h : ∀ k : Fin 4, V (ix2 n k) ≤ V (ix2 n 0)) :
    maximumf (broadcastInDim S16384 ![] bcast_S_S16384 (constant S_ .f32 0xFF800000#32)) (Host.reduce FloatOps.maximumf V (constant S_ .f32 0xFF800000#32) reducesTo_S16384x4_S16384_d1 h_S_) (ix1 n) = V (ix2 n 0) := by
  pointwise
  rw [Cert.Kernel5Ideal.RouteVal.bits_bot, bot_sup_eq]
  refine le_antisymm ?_ ?_
  · rw [Finset.fold_max_le]; exact ⟨bot_le, fun k _ => h k⟩
  · rw [Finset.le_fold_max]; exact Or.inr ⟨0, Finset.mem_univ _, le_rfl⟩

/-- The four scores' shares. -/
def shares (V : FVec Ideal S16384x4 .f32) : FVec Ideal S16384x4 .f32 :=
  let M : FVec Ideal S16384 .f32 := maximumf (broadcastInDim S16384 ![] bcast_S_S16384 (constant S_ .f32 0xFF800000#32)) (Host.reduce FloatOps.maximumf V (constant S_ .f32 0xFF800000#32) reducesTo_S16384x4_S16384_d1 h_S_)
  let E : FVec Ideal S16384x4 .f32 := Host.exp (subf V (broadcastInDim S16384x4 ![0, 1] bcast_S16384x1_S16384x4_0_1 (broadcastInDim S16384x1 ![0] bcast_S16384_S16384x1_0 M)))
  Host.divf E (broadcastInDim S16384x4 ![0, 1] bcast_S16384x1_S16384x4_0_1 (broadcastInDim S16384x1 ![0] bcast_S16384_S16384x1_0 (Host.reduceAdd E (constant S_ .f32 0x00000000#32) reducesTo_S16384x4_S16384_d1 h_S_)))

theorem shares_at (V : FVec Ideal S16384x4 .f32) (n : Fin 16384) (q : Fin 4) (h : ∀ k : Fin 4, V (ix2 n k) ≤ V (ix2 n 0)) :
    shares V (ix2 n q) = Ideal.div (Ideal.exp (V (ix2 n q) - V (ix2 n 0)))
      (Ideal.exp (V (ix2 n 0) - V (ix2 n 0)) + Ideal.exp (V (ix2 n 1) - V (ix2 n 0)) + Ideal.exp (V (ix2 n 2) - V (ix2 n 0)) + Ideal.exp (V (ix2 n 3) - V (ix2 n 0))) := by
  have hM := greatest_at V n h
  unfold shares
  dsimp only
  revert hM
  generalize (maximumf (broadcastInDim S16384 ![] bcast_S_S16384 (constant S_ .f32 0xFF800000#32)) (Host.reduce FloatOps.maximumf V (constant S_ .f32 0xFF800000#32) reducesTo_S16384x4_S16384_d1 h_S_) : FVec Ideal S16384 .f32) = M
  intro hM
  rw [← hM]
  pointwise
  rw [Fin.sum_univ_four, ← hM]

/-- A token's gates. -/
theorem gate_at (L : FVec Ideal S16384x32 .f32) (n : Fin 16384) (q : Fin 4) :
    shares (Host.topK S16384x4 1 (FloatOps.cmpfTotal .gt) L sliceFits_S16384x32_S16384x4).1 (ix2 n q) = RouteSpec.gateOf (fun e => L (ix2 n e)) q := by
  rw [shares_at _ _ _ fun k => by rw [best_at, best_at]; exact RouteSpec.place_zero (fun e => L (ix2 n e)) ⟨k.val, by omega⟩]
  simp only [best_at]
  rfl

end Cert.Reference5Ideal.RouteVal
-- ==== Proof.RouteVal.Pre.lean ====
/-
  What the precondition says: the gains and the router's weights are real, and no bias is the infinite negative.
-/
module

public import proofs.«01_k».proof.Proof.Gen.Pre_finite
public import proofs.«01_k».proof.Proof.RouteVal.Payloads
public import proofs.«01_k».proof.Proof.RouteVal.Finite
public import Idealize.ShloMosaic.Lib.Pointwise
public import Idealize.ShloMosaic.Lib.ReduceAll

@[expose] public section

set_option maxRecDepth 16384

noncomputable section

namespace Cert.Pre_finite

open Idealize.ShloMosaic

theorem and_one : ∀ a b : BitVec 1, IntOp.andi a b = 1#1 → a = 1#1 ∧ b = 1#1 := by decide
theorem bool_one : ∀ b : Bool, BitVec.ofBool b = 1#1 → b = true := by decide

instance : Subsingleton S_.Idx := ⟨fun a b => funext fun k => k.elim0⟩

/-- A number whose size is below the infinite is real. -/
theorem real_of (x : EReal) (h : Ideal.cmp .olt (max x (-x)) (Ideal.ofBits .f32 0x7F800000#32) = 1#1) : RouteSpec.IsReal x := by
  rw [Cert.Kernel5Ideal.RouteVal.bits_top] at h
  exact RouteSpec.IsReal.of_abs (of_decide_eq_true (bool_one _ h))

/-- A number above the infinite negative. -/
theorem above_of (x : EReal) (h : Ideal.cmp .ogt x (Ideal.ofBits .f32 0xFF800000#32) = 1#1) : ⊥ < x := by
  rw [Cert.Kernel5Ideal.RouteVal.bits_bot] at h
  exact of_decide_eq_true (bool_one _ h)

theorem sound {a b : FVec Ideal S16384x512 .f32} {x : FVec Ideal S8x2048x1024 .f32} {w : FVec Ideal S1x1024x1024 .f32} {g : FVec Ideal S1x1024 .f32} {wr : FVec Ideal S1x1024x32 .f32} {br : FVec Ideal S1x32 .f32}
    (h : fn (F := Ideal) a b x w g wr br = fun _ => 1#1) : RouteSpec.Sound g wr br := by
  have h0 := congrFun h (fun k => k.elim0)
  dsimp only [fn] at h0
  obtain ⟨h0, h2⟩ := and_one _ _ h0
  obtain ⟨h0, h1⟩ := and_one _ _ h0
  exact ⟨fun i => real_of _ (Host.reduce_andi_all _ _ _ _ _ h0 i), fun i => real_of _ (Host.reduce_andi_all _ _ _ _ _ h1 i), fun i => above_of _ (Host.reduce_andi_all _ _ _ _ _ h2 i)⟩

end Cert.Pre_finite
-- ==== Proof.RouteVal.Claim.lean ====
/-
  The routing: the experts chosen and their gates, which the kernel's run leaves in its third and fourth results, are what
  the reference's run leaves in its own.
-/
module

public import proofs.«01_k».proof.Defs
public import proofs.«01_k».proof.Proof.RouteVal.Array
public import proofs.«01_k».proof.Proof.RouteVal.Ref
public import proofs.«01_k».proof.Proof.RouteVal.Pre

@[expose] public section

set_option maxRecDepth 16384

noncomputable section

namespace Cert.RouteVal

open Idealize.ShloMosaic Idealize.SL.Sem

theorem ref_experts (a b : FVec Ideal Cert.Reference5Ideal.S16384x512 .f32) (x : FVec Ideal Cert.Reference5Ideal.S8x2048x1024 .f32) (w : FVec Ideal Cert.Reference5Ideal.S1x1024x1024 .f32)
    (g : FVec Ideal Cert.Reference5Ideal.S1x1024 .f32) (wr : FVec Ideal Cert.Reference5Ideal.S1x1024x32 .f32) (br : FVec Ideal Cert.Reference5Ideal.S1x32 .f32) :
    (Host.topK Cert.Reference5Ideal.S16384x4 1 (FloatOps.cmpfTotal .gt) (Cert.Reference5Ideal.RouteVal.logits a b x w g wr br) Cert.Reference5Ideal.Gen.facts.sliceFits_S16384x32_S16384x4).2
      = fun i : Cert.Reference5Ideal.S16384x4.Idx => RouteSpec.pickOf (RouteSpec.tokScores a b x w g wr br (i 0)) (i 1) := by
  funext i
  idx_vars i
  exact (Cert.Reference5Ideal.RouteVal.choice_at _ i0 i1).trans (by rw [Cert.Reference5Ideal.RouteVal.logits_eq]; rfl)

theorem ref_gates (a b : FVec Ideal Cert.Reference5Ideal.S16384x512 .f32) (x : FVec Ideal Cert.Reference5Ideal.S8x2048x1024 .f32) (w : FVec Ideal Cert.Reference5Ideal.S1x1024x1024 .f32)
    (g : FVec Ideal Cert.Reference5Ideal.S1x1024 .f32) (wr : FVec Ideal Cert.Reference5Ideal.S1x1024x32 .f32) (br : FVec Ideal Cert.Reference5Ideal.S1x32 .f32) :
    Cert.Reference5Ideal.RouteVal.shares (Host.topK Cert.Reference5Ideal.S16384x4 1 (FloatOps.cmpfTotal .gt) (Cert.Reference5Ideal.RouteVal.logits a b x w g wr br) Cert.Reference5Ideal.Gen.facts.sliceFits_S16384x32_S16384x4).1
      = fun i : Cert.Reference5Ideal.S16384x4.Idx => RouteSpec.gateOf (RouteSpec.tokScores a b x w g wr br (i 0)) (i 1) := by
  funext i
  idx_vars i
  exact (Cert.Reference5Ideal.RouteVal.gate_at _ i0 i1).trans (by rw [Cert.Reference5Ideal.RouteVal.logits_eq]; rfl)

/-- The two programs, from arguments that agree, with real gains and weights and no bias at the infinite negative, end with the same experts and the same gates. -/
theorem algebraic : Cert.algebraic_Kernel5Ideal_Reference5Ideal_pre_finite := by
  intro m g m' g' hpre hag
  have hm : ∀ c, Cert.Kernel5Ideal.RouteVal.Sound m c := fun c => Cert.Pre_finite.sound (hpre c)
  refine ⟨fun c => Cert.Kernel5Ideal.RouteVal.want11 m c, fun c => Cert.Kernel5Ideal.RouteVal.want12 m c, ?_, ?_⟩
  · exact (θ_run Cert.Kernel5Ideal.defs _ _).mono (fun r h c => ⟨(h.1 c).2.1.trans (Cert.Kernel5Ideal.RouteVal.array11 m c (hm c)), (h.1 c).2.2.trans (Cert.Kernel5Ideal.RouteVal.array12 m c (hm c)), (h.1 c).1⟩)
      (Cert.Kernel5Ideal.Route.run_result m g)
  · refine (θ_run Cert.Reference5Ideal.defs _ _).mono (fun r h c => ⟨(h c).1.trans ((ref_experts _ _ _ _ _ _ _).trans ?_), (h c).2.1.trans ((ref_gates _ _ _ _ _ _ _).trans ?_), (h c).2.2⟩)
      (Cert.Reference5Ideal.Value.run m' g')
    · obtain ⟨h0, h1, h2, h3, h4, h5, h6⟩ := hag c
      rw [h0, h1, h2, h3, h4, h5, h6]; rfl
    · obtain ⟨h0, h1, h2, h3, h4, h5, h6⟩ := hag c
      rw [h0, h1, h2, h3, h4, h5, h6]; rfl

end Cert.RouteVal
-- ==== Proof.HgrnIdeal.Tile.lean ====
/- What one trip of the recurrence's loop stores, as functions of what it loads: for each of the four heads the new state
   (`sNew0` to `sNew3`) and the eight rows of the result (`oNew0` to `oNew3`). The others are the values on the way there. -/
module

public import proofs.«01_k».proof.Proof.Gen.Kernel6Ideal.Launch
public import proofs.«01_k».proof.Proof.Gen.Kernel6Ideal.Skeleton
public import Idealize.ShloMosaic.Lib.Pipeline.Kit
public import Idealize.ShloMosaic.Lib.Pipeline.FrameBody
public import Idealize.ShloMosaic.Lib.Pipeline.ValueKit
public import Idealize.ShloMosaic.Lib.Writes
public import Idealize.ShloMosaic.Lib.WritesUnit
public import Idealize.ShloMosaic.Lib.Ring
public import Idealize.ShloMosaic.Lib.Exec
public import Idealize.ShloMosaic.Lib.Tactic

@[expose] public section

set_option maxRecDepth 65536

noncomputable section

namespace Cert.Kernel6Ideal.Hgrn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (q f x : Vec F S8x128 .f32) (s : Vec F S1x128x128 .f32) (g : Vec F S8x128 .f32) (lb : Vec F S2x512 .f32) (gw : Vec F S1x128 .f32) (tri : Vec F S8x8 .bf16)

def w63 : FVec F S1x128 .f32 :=
  k0_pay76 (k0_pay2 lb)
def w64 : FVec F S1x128 .f32 :=
  k0_pay77 (k0_pay2 lb)
def w65 : FVec F S1x128 .f32 :=
  k0_pay78 (k0_pay2 lb)
def w66 : FVec F S1x128 .f32 :=
  k0_pay79 (k0_pay2 lb)
def w71 : FVec F S128x128 .f32 :=
  k0_pay80 s
def w76 : FVec F S128x128 .f32 :=
  k0_pay81 s
def w81 : FVec F S128x128 .f32 :=
  k0_pay82 s
def w86 : FVec F S128x128 .f32 :=
  k0_pay83 s
def w94 : FVec F S8x128 .f32 :=
  k0_pay84 q
def w97 : FVec F S8x128 .f32 :=
  k0_pay85 q
def w102 : FVec F S8x128 .f32 :=
  k0_pay86 q (w97 q) (Scalar.ofBits .f32 0x3F800000#32)
def w110 : FVec F S8x128 .f32 :=
  k0_pay87 q
def w118 : FVec F S8x128 .f32 :=
  k0_pay88 q
def w131 : FVec F S8x128 .f32 :=
  k0_pay89 f (w63 lb)
def w142 : FVec F S8x128 .f32 :=
  k0_pay90 f (w64 lb)
def w172 : FVec F S8x128 .f32 :=
  k0_pay95 (w64 lb) (w142 f lb)
def w173 : FVec F S8x128 .f32 :=
  k0_pay96 f (w65 lb)
def w174 : FVec F S8x128 .f32 :=
  k0_pay97 f (w66 lb)
def w176 : FVec F S8x128 .f32 :=
  k0_pay98 (w131 f lb)
def w178 : FVec F S8x128 .f32 :=
  k0_pay99 (w64 lb) (w142 f lb)
def w180 : FVec F S8x128 .f32 :=
  k0_pay100 f (w65 lb)
def w182 : FVec F S8x128 .f32 :=
  k0_pay101 f (w66 lb)
def w183 : FVec F S8x128 .bf16 :=
  k0_pay102 (w131 f lb)
def w186 : FVec F S8x128 .bf16 :=
  k0_pay104 (w131 f lb)
def w189 : FVec F S8x128 .bf16 :=
  k0_pay105 (w131 f lb)
def w194 : FVec F S8x128 .f32 :=
  k0_pay106 (k0_pay3 tri) (w183 f lb) (w186 f lb) (w189 f lb) (constant S8x128 .f32 0x00000000#32)
def w206 : FVec F S8x128 .f32 :=
  k0_pay107 (k0_pay3 tri) (w172 f lb)
def w218 : FVec F S8x128 .f32 :=
  k0_pay108 (k0_pay3 tri) (w173 f lb)
def w230 : FVec F S8x128 .f32 :=
  k0_pay109 (k0_pay3 tri) (w174 f lb)
def w235 : FVec F S8x128 .f32 :=
  k0_pay110 (k0_pay3 tri) (w71 s) (w94 q) (w183 f lb) (w186 f lb) (w189 f lb) (constant S8x128 .f32 0x00000000#32)
def w237 : FVec F S8x128 .f32 :=
  k0_pay111 (k0_pay3 tri) (w102 q) (w172 f lb)
def w240 : FVec F S8x128 .f32 :=
  k0_pay112 (w76 s) (w237 q f lb tri)
def w245 : FVec F S8x128 .f32 :=
  k0_pay113 (w81 s) (w110 q) (w218 f lb tri)
def w250 : FVec F S8x128 .f32 :=
  k0_pay114 (w86 s) (w118 q) (w230 f lb tri)
def w251 : FVec F S8x128 .bf16 :=
  k0_pay115 x
def w252 : FVec F S8x128 .bf16 :=
  k0_pay116 x
def w253 : FVec F S8x128 .bf16 :=
  k0_pay117 x
def w254 : FVec F S8x128 .bf16 :=
  k0_pay118 x
def w255  : IVec S8x8 32 :=
  iota .tc S8x8 32 [1] iota_S8x8_d1_w32
def w256  : IVec S8x8 32 :=
  iota .tc S8x8 32 [0] iota_S8x8_d0_w32
def w258  : FVec F S8x8 .f32 :=
  k0_pay119 (F := F)
def w259  : FVec F S8x8 .f32 :=
  k0_pay120 (F := F)
def w260  : FVec F S8x8 .f32 :=
  k0_pay121 (F := F)
def w277 : FVec F S8x8 .f32 :=
  k0_pay122 (w94 q) (w176 f lb) (w194 f lb tri)
def w286 : FVec F S8x128 .f32 :=
  k0_pay123 (w178 f lb) (w206 f lb tri)
def w294 : FVec F S8x8 .f32 :=
  k0_pay124 (w102 q) w255 (w258 (F := F)) (w286 f lb tri)
def w311 : FVec F S8x8 .f32 :=
  k0_pay125 (w110 q) (w180 f lb) (w218 f lb tri) w255 (w259 (F := F))
def w328 : FVec F S8x8 .f32 :=
  k0_pay126 (w118 q) (w182 f lb) (w230 f lb tri) w255 (w260 (F := F))
def w337 : FVec F S8x128 .f32 :=
  k0_pay127 (w176 f lb) (w194 f lb tri)
def w345 : FVec F S8x8 .f32 :=
  k0_pay128 (w94 q) w255 (w277 q f lb tri) (w337 f lb tri)
def w362 : FVec F S8x8 .f32 :=
  k0_pay129 (w102 q) (w178 f lb) (w206 f lb tri) w255 (w294 q f lb tri)
def w379 : FVec F S8x8 .f32 :=
  k0_pay130 (w110 q) (w180 f lb) (w218 f lb tri) w255 (w311 q f lb tri)
def w388 : FVec F S8x128 .f32 :=
  k0_pay131 (w182 f lb) (w230 f lb tri)
def w396 : FVec F S8x8 .f32 :=
  k0_pay132 (w118 q) w255 (w328 q f lb tri) (w388 f lb tri)
def w413 : FVec F S8x8 .f32 :=
  k0_pay133 (w94 q) (w176 f lb) (w194 f lb tri) w255 (w345 q f lb tri)
def w430 : FVec F S8x8 .f32 :=
  k0_pay134 (w102 q) (w178 f lb) (w206 f lb tri) w255 (w362 q f lb tri)
def w439 : FVec F S8x128 .f32 :=
  k0_pay135 (w180 f lb) (w218 f lb tri)
def w447 : FVec F S8x8 .f32 :=
  k0_pay136 (w110 q) w255 (w379 q f lb tri) (w439 f lb tri)
def w464 : FVec F S8x8 .f32 :=
  k0_pay137 (w118 q) (w182 f lb) (w230 f lb tri) w255 (w396 q f lb tri)
def w481 : FVec F S8x8 .f32 :=
  k0_pay138 (w94 q) (w176 f lb) (w194 f lb tri) w255 (w413 q f lb tri)
def w490 : FVec F S8x128 .f32 :=
  k0_pay139 (w178 f lb) (w206 f lb tri)
def w498 : FVec F S8x8 .f32 :=
  k0_pay140 (w102 q) w255 (w430 q f lb tri) (w490 f lb tri)
def w515 : FVec F S8x8 .f32 :=
  k0_pay141 (w110 q) (w180 f lb) (w218 f lb tri) w255 (w447 q f lb tri)
def w532 : FVec F S8x8 .f32 :=
  k0_pay142 (w118 q) (w182 f lb) (w230 f lb tri) w255 (w464 q f lb tri)
def w541 : FVec F S8x128 .f32 :=
  k0_pay143 (w176 f lb) (w194 f lb tri)
def w549 : FVec F S8x8 .f32 :=
  k0_pay144 (w94 q) w255 (w481 q f lb tri) (w541 f lb tri)
def w566 : FVec F S8x8 .f32 :=
  k0_pay145 (w102 q) (w178 f lb) (w206 f lb tri) w255 (w498 q f lb tri)
def w583 : FVec F S8x8 .f32 :=
  k0_pay146 (w110 q) (w180 f lb) (w218 f lb tri) w255 (w515 q f lb tri)
def w592 : FVec F S8x128 .f32 :=
  k0_pay147 (w182 f lb) (w230 f lb tri)
def w600 : FVec F S8x8 .f32 :=
  k0_pay148 (w118 q) w255 (w532 q f lb tri) (w592 f lb tri)
def w617 : FVec F S8x8 .f32 :=
  k0_pay149 (w94 q) (w176 f lb) (w194 f lb tri) w255 (w549 q f lb tri)
def w634 : FVec F S8x8 .f32 :=
  k0_pay150 (w102 q) (w178 f lb) (w206 f lb tri) w255 (w566 q f lb tri)
def w643 : FVec F S8x128 .f32 :=
  k0_pay151 (w180 f lb) (w218 f lb tri)
def w651 : FVec F S8x8 .f32 :=
  k0_pay152 (w110 q) w255 (w583 q f lb tri) (w643 f lb tri)
def w668 : FVec F S8x8 .f32 :=
  k0_pay153 (w118 q) (w182 f lb) (w230 f lb tri) w255 (w600 q f lb tri)
def w685 : FVec F S8x8 .f32 :=
  k0_pay154 (w94 q) (w176 f lb) (w194 f lb tri) w255 (w617 q f lb tri)
def w694 : FVec F S8x128 .f32 :=
  k0_pay155 (w178 f lb) (w206 f lb tri)
def w702 : FVec F S8x8 .f32 :=
  k0_pay156 (w102 q) w255 (w634 q f lb tri) (w694 f lb tri)
def w719 : FVec F S8x8 .f32 :=
  k0_pay157 (w110 q) (w180 f lb) (w218 f lb tri) w255 (w651 q f lb tri)
def w736 : FVec F S8x8 .f32 :=
  k0_pay158 (w118 q) (w182 f lb) (w230 f lb tri) w255 (w668 q f lb tri)
def w745 : FVec F S8x128 .f32 :=
  k0_pay159 (w176 f lb) (w194 f lb tri)
def w753 : FVec F S8x8 .f32 :=
  k0_pay160 (w94 q) w255 (w685 q f lb tri) (w745 f lb tri)
def w770 : FVec F S8x8 .f32 :=
  k0_pay161 (w102 q) (w178 f lb) (w206 f lb tri) w255 (w702 q f lb tri)
def w787 : FVec F S8x8 .f32 :=
  k0_pay162 (w110 q) (w180 f lb) (w218 f lb tri) w255 (w719 q f lb tri)
def w796 : FVec F S8x128 .f32 :=
  k0_pay163 (w182 f lb) (w230 f lb tri)
def w827 : FVec F S8x128 .f32 :=
  k0_pay164 (w235 q f s lb tri) (w251 x) w255 w256 (w753 q f lb tri)
def w830 : FVec F S8x128 .f32 :=
  k0_pay165 (w240 q f s lb tri) (w252 x) w255 w256 (w770 q f lb tri)
def w833 : FVec F S8x128 .f32 :=
  k0_pay166 (w245 q f s lb tri) (w253 x) w255 w256 (w787 q f lb tri)
def w836 : FVec F S8x128 .f32 :=
  k0_pay167 (w118 q) (w250 q f s lb tri) (w254 x) w255 w256 (w736 q f lb tri) (w796 f lb tri)
def w837 : FVec F S1x128 .f32 :=
  k0_pay168 (w194 f lb tri)
def w838 : FVec F S1x128 .f32 :=
  k0_pay169 (w206 f lb tri)
def w839 : FVec F S1x128 .f32 :=
  k0_pay170 (w218 f lb tri)
def w840 : FVec F S1x128 .f32 :=
  k0_pay171 (w230 f lb tri)
def w842 : FVec F S8x128 .f32 :=
  k0_pay172 (w194 f lb tri)
def w870 : FVec F S128x128 .f32 :=
  k0_pay173 (w76 s) (w178 f lb) (w206 f lb tri) (w252 x) (w838 f lb tri)
def w875 : FVec F S128x128 .f32 :=
  k0_pay174 (w81 s) (w180 f lb) (w218 f lb tri) (w253 x) (w839 f lb tri)
def w880 : FVec F S128x128 .f32 :=
  k0_pay175 (w86 s) (w182 f lb) (w230 f lb tri) (w254 x) (w840 f lb tri)
def w891 : FVec F S8x1 .f32 :=
  k0_pay177 (w827 q f x s lb tri)
def w929 : FVec F S8x128 .f32 :=
  k0_pay180 gw (w830 q f x s lb tri)
def w934 : FVec F S8x128 .f32 :=
  k0_pay181 g
def sNew0 : FVec F S1x128x128 .f32 :=
  k0_pay176 (w71 s) (w176 f lb) (w251 x) (w837 f lb tri) (w842 f lb tri)
def oNew0 : FVec F S8x128 .f32 :=
  k0_pay178 gw (w827 q f x s lb tri) (w891 q f x s lb tri) g
def sNew1 : FVec F S1x128x128 .f32 :=
  k0_pay179 (w870 f x s lb tri)
def oNew1 : FVec F S8x128 .f32 :=
  k0_pay182 (w929 q f x s lb gw tri) g (w934 g)
def sNew2 : FVec F S1x128x128 .f32 :=
  k0_pay183 (w875 f x s lb tri)
def oNew2 : FVec F S8x128 .f32 :=
  k0_pay184 gw (w833 q f x s lb tri) g
def sNew3 : FVec F S1x128x128 .f32 :=
  k0_pay185 (w880 f x s lb tri)
def oNew3 : FVec F S8x128 .f32 :=
  k0_pay186 gw (w836 q f x s lb tri) g

end Cert.Kernel6Ideal.Hgrn

end
-- ==== Proof.HgrnIdeal.Body.lean ====
/- The kernel body of the recurrence: the states loaded, one trip of the loop for each sequence, the states stored. -/
module

public import proofs.«01_k».proof.Proof.Gen.Kernel6Ideal.Launch
public import proofs.«01_k».proof.Proof.Gen.Kernel6Ideal.Skeleton
public import Idealize.ShloMosaic.Lib.Pipeline.Kit
public import Idealize.ShloMosaic.Lib.Pipeline.FrameBody
public import Idealize.ShloMosaic.Lib.Pipeline.ValueKit
public import Idealize.ShloMosaic.Lib.Writes
public import Idealize.ShloMosaic.Lib.WritesUnit
public import Idealize.ShloMosaic.Lib.Ring
public import Idealize.ShloMosaic.Lib.Exec
public import Idealize.ShloMosaic.Lib.Tactic
public import proofs.«01_k».proof.Proof.HgrnIdeal.Tile

@[expose] public section

set_option maxRecDepth 65536

noncomputable section

namespace Cert.Kernel6Ideal.Hgrn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffer of the states, one tile for each sequence and head. -/
abbrev bufS : Memref sig .tc .vmem S64x128x128 .f32 := Memref.whole cc0_scratch0

/-- The eight rows of trip `k` in the columns of each head, -/
abbrev rowA (k : Fin k0_t1_loop.trips) : Rect S128x512 := Rect.unit (s := S128x512) (k0_off1 k) S8x128.size (k0_off1_inb k)
abbrev rowB (k : Fin k0_t1_loop.trips) : Rect S128x512 := Rect.unit (s := S128x512) (k0_off2 k) S8x128.size (k0_off2_inb k)
abbrev rowC (k : Fin k0_t1_loop.trips) : Rect S128x512 := Rect.unit (s := S128x512) (k0_off3 k) S8x128.size (k0_off3_inb k)
abbrev rowD (k : Fin k0_t1_loop.trips) : Rect S128x512 := Rect.unit (s := S128x512) (k0_off4 k) S8x128.size (k0_off4_inb k)
/-- and the tiles of its states. -/
abbrev tileA (k : Fin k0_t1_loop.trips) : Rect S64x128x128 := Rect.unit (s := S64x128x128) (k0_off5 k 0#32) S1x128x128.size (k0_off5_inb k 0)
abbrev tileB (k : Fin k0_t1_loop.trips) : Rect S64x128x128 := Rect.unit (s := S64x128x128) (k0_off5 k 1#32) S1x128x128.size (k0_off5_inb k 1)
abbrev tileC (k : Fin k0_t1_loop.trips) : Rect S64x128x128 := Rect.unit (s := S64x128x128) (k0_off5 k 2#32) S1x128x128.size (k0_off5_inb k 2)
abbrev tileD (k : Fin k0_t1_loop.trips) : Rect S64x128x128 := Rect.unit (s := S64x128x128) (k0_off5 k 3#32) S1x128x128.size (k0_off5_inb k 3)

/-- The states after one trip, from the states before it, -/
def sStep (f x : Vec F S128x512 .f32) (lb : Vec F S2x512 .f32) (tri : Vec F S8x8 .bf16) (k : Fin k0_t1_loop.trips)
    (st : bufS.view.ty.Contents (Elt F)) : bufS.view.ty.Contents (Elt F) :=
  bufS.view.writes (Elt F) st
    [⟨tileD k, sNew3 (View.ld f (rowD k)) (View.ld x (rowD k)) (bufS.view.readAt (Elt F) (tileD k).toLoadRect st) lb tri⟩,
     ⟨tileC k, sNew2 (View.ld f (rowC k)) (View.ld x (rowC k)) (bufS.view.readAt (Elt F) (tileC k).toLoadRect st) lb tri⟩,
     ⟨tileB k, sNew1 (View.ld f (rowB k)) (View.ld x (rowB k)) (bufS.view.readAt (Elt F) (tileB k).toLoadRect st) lb tri⟩,
     ⟨tileA k, sNew0 (View.ld f (rowA k)) (View.ld x (rowA k)) (bufS.view.readAt (Elt F) (tileA k).toLoadRect st) lb tri⟩]

/-- and the pieces of the result that the trip stores. -/
def oStep (q f x g : Vec F S128x512 .f32) (lb : Vec F S2x512 .f32) (gw : Vec F S1x128 .f32) (tri : Vec F S8x8 .bf16) (k : Fin k0_t1_loop.trips)
    (st : bufS.view.ty.Contents (Elt F)) : List (View.Piece (Elt F) S128x512 .f32) :=
    [⟨rowD k, oNew3 (View.ld q (rowD k)) (View.ld f (rowD k)) (View.ld x (rowD k)) (bufS.view.readAt (Elt F) (tileD k).toLoadRect st) (View.ld g (rowD k)) lb gw tri⟩,
     ⟨rowC k, oNew2 (View.ld q (rowC k)) (View.ld f (rowC k)) (View.ld x (rowC k)) (bufS.view.readAt (Elt F) (tileC k).toLoadRect st) (View.ld g (rowC k)) lb gw tri⟩,
     ⟨rowB k, oNew1 (View.ld q (rowB k)) (View.ld f (rowB k)) (View.ld x (rowB k)) (bufS.view.readAt (Elt F) (tileB k).toLoadRect st) (View.ld g (rowB k)) lb gw tri⟩,
     ⟨rowA k, oNew0 (View.ld q (rowA k)) (View.ld f (rowA k)) (View.ld x (rowA k)) (bufS.view.readAt (Elt F) (tileA k).toLoadRect st) (View.ld g (rowA k)) lb gw tri⟩]

/-- The states after `k` trips, -/
def sAt (f x : Vec F S128x512 .f32) (lb : Vec F S2x512 .f32) (tri : Vec F S8x8 .bf16) (st : bufS.view.ty.Contents (Elt F)) :
    ℕ → bufS.view.ty.Contents (Elt F)
  | 0 => st
  | k + 1 => if h : k < k0_t1_loop.trips then sStep f x lb tri ⟨k, h⟩ (sAt f x lb tri st k) else sAt f x lb tri st k

/-- and the pieces of the result that they have stored. -/
def oAt (q f x g : Vec F S128x512 .f32) (lb : Vec F S2x512 .f32) (gw : Vec F S1x128 .f32) (tri : Vec F S8x8 .bf16) (st : bufS.view.ty.Contents (Elt F)) :
    ℕ → List (View.Piece (Elt F) S128x512 .f32)
  | 0 => []
  | k + 1 => if h : k < k0_t1_loop.trips then oStep q f x g lb gw tri ⟨k, h⟩ (sAt f x lb tri st k) ++ oAt q f x g lb gw tri st k else oAt q f x g lb gw tri st k

/-- A memref of the core held whole. -/
abbrev held (c : Dev nD) {s : Shape} {e : EltTy} (b : Memref sig .tc .vmem s e) (f : b.view.ty.Contents (Elt F)) : sProp 𝕄 :=
  b.view.loc (c : Thread nD τ) ↦[b.view.set]{fullShare} f

/-- Before trip `k`: the operands as they were, the result's pieces and the states of the trips before. -/
def inv (c : Dev nD) (arg2 arg3 arg4 arg5 arg10 : Memref sig .tc .vmem S128x512 .f32)
    (q : arg2.view.ty.Contents (Elt F)) (f : arg3.view.ty.Contents (Elt F)) (x : arg4.view.ty.Contents (Elt F)) (g : arg5.view.ty.Contents (Elt F))
    (lb : Vec F S2x512 .f32) (gw : Vec F S1x128 .f32) (tri : Vec F S8x8 .bf16) (o : arg10.view.ty.Contents (Elt F)) (st : bufS.view.ty.Contents (Elt F))
    (k : ℕ) (_ : Unit) : sProp 𝕄 :=
  iprop(held c arg2 q ∗ held c arg3 f ∗ held c arg4 x ∗ held c arg5 g
    ∗ held c arg10 (arg10.view.writes (Elt F) o (oAt (arg2.view.read (Elt F) q) (arg3.view.read (Elt F) f) (arg4.view.read (Elt F) x) (arg5.view.read (Elt F) g) lb gw tri st k))
    ∗ held c bufS (sAt (arg3.view.read (Elt F) f) (arg4.view.read (Elt F) x) lb tri st k))

set_option maxHeartbeats 4000000 in
/-- One trip. -/
theorem step (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S8x8 .bf16) (harg8 : arg8.IsWhole) (arg9 : Memref sig .tc .vmem S16x4x128x128 .f32) (harg9 : arg9.IsWhole) (arg10 : Memref sig .tc .vmem S128x512 .f32) (harg10 : arg10.IsWhole) (arg11 : Memref sig .tc .vmem S16x4x128x128 .f32) (harg11 : arg11.IsWhole)
    (q : arg2.view.ty.Contents (Elt F)) (f : arg3.view.ty.Contents (Elt F)) (x : arg4.view.ty.Contents (Elt F)) (g : arg5.view.ty.Contents (Elt F))
    (lb : Vec F S2x512 .f32) (gw : Vec F S1x128 .f32) (tri : Vec F S8x8 .bf16) (o : arg10.view.ty.Contents (Elt F)) (st : bufS.view.ty.Contents (Elt F))
    (k : Fin k0_t1_loop.trips) (acc : Unit) :
    inv c arg2 arg3 arg4 arg5 arg10 q f x g lb gw tri o st k.val acc
      ⊢ wp frame (wpE (defs₀ (F := F)) Variants.none c none) Set.univ
          (k0_t1_body i arg2 harg2 arg3 harg3 arg4 harg4 arg5 harg5 arg6 harg6 arg7 harg7 arg8 harg8 arg9 harg9 arg10 harg10 arg11 harg11 bufS (Memref.isWhole_whole _) lb gw tri k acc)
          (inv c arg2 arg3 arg4 arg5 arg10 q f x g lb gw tri o st (k.val + 1)) := by
  unfold inv k0_t1_body
  iintro ⟨H2, H3, H4, H5, H10, HS⟩
  have hC : bufS.IsWhole := Memref.isWhole_whole _
  generalize hs : sAt (arg3.view.read (Elt F) f) (arg4.view.read (Elt F) x) lb tri st k.val = s
  generalize ho : oAt (arg2.view.read (Elt F) q) (arg3.view.read (Elt F) f) (arg4.view.read (Elt F) x) (arg5.view.read (Elt F) g) lb gw tri st k.val = L
  sl_exec!
  sl_step
  subst hs ho
  isplitl [H2]; · iexact H2
  isplitl [H3]; · iexact H3
  isplitl [H4]; · iexact H4
  isplitl [H5]; · iexact H5
  rw [show oAt (arg2.view.read (Elt F) q) (arg3.view.read (Elt F) f) (arg4.view.read (Elt F) x) (arg5.view.read (Elt F) g) lb gw tri st (k.val + 1)
      = oStep (arg2.view.read (Elt F) q) (arg3.view.read (Elt F) f) (arg4.view.read (Elt F) x) (arg5.view.read (Elt F) g) lb gw tri k (sAt (arg3.view.read (Elt F) f) (arg4.view.read (Elt F) x) lb tri st k.val)
        ++ oAt (arg2.view.read (Elt F) q) (arg3.view.read (Elt F) f) (arg4.view.read (Elt F) x) (arg5.view.read (Elt F) g) lb gw tri st k.val from dif_pos k.isLt,
    show sAt (arg3.view.read (Elt F) f) (arg4.view.read (Elt F) x) lb tri st (k.val + 1)
      = sStep (arg3.view.read (Elt F) f) (arg4.view.read (Elt F) x) lb tri k (sAt (arg3.view.read (Elt F) f) (arg4.view.read (Elt F) x) lb tri st k.val) from dif_pos k.isLt]
  isplitl [H10]; · iexact H10
  iexact HS

/-- The loop's invariant. -/
@[sl_loop] def loopInv (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S8x8 .bf16) (harg8 : arg8.IsWhole) (arg9 : Memref sig .tc .vmem S16x4x128x128 .f32) (harg9 : arg9.IsWhole) (arg10 : Memref sig .tc .vmem S128x512 .f32) (harg10 : arg10.IsWhole) (arg11 : Memref sig .tc .vmem S16x4x128x128 .f32) (harg11 : arg11.IsWhole)
    (q : arg2.view.ty.Contents (Elt F)) (f : arg3.view.ty.Contents (Elt F)) (x : arg4.view.ty.Contents (Elt F)) (g : arg5.view.ty.Contents (Elt F))
    (lb : Vec F S2x512 .f32) (gw : Vec F S1x128 .f32) (tri : Vec F S8x8 .bf16) (o : arg10.view.ty.Contents (Elt F)) (st : bufS.view.ty.Contents (Elt F)) :
    LoopInv (M := 𝕄) frame (wpE (defs₀ (F := F)) Variants.none (c : Thread nD τ) none) Set.univ k0_t1_loop.lb k0_t1_loop.ub k0_t1_loop.st k0_t1_ok ⟨⟩
      (k0_t1_body i arg2 harg2 arg3 harg3 arg4 harg4 arg5 harg5 arg6 harg6 arg7 harg7 arg8 harg8 arg9 harg9 arg10 harg10 arg11 harg11 bufS (Memref.isWhole_whole _) lb gw tri) where
  inv := inv c arg2 arg3 arg4 arg5 arg10 q f x g lb gw tri o st
  step := step c i arg2 harg2 arg3 harg3 arg4 harg4 arg5 harg5 arg6 harg6 arg7 harg7 arg8 harg8 arg9 harg9 arg10 harg10 arg11 harg11 q f x g lb gw tri o st

/-- A tile of the states, and one of the states as they lie in the argument and in the result. -/
abbrev tile (n : ℕ) (h : ∀ a, (![n, 0, 0] : Fin 3 → ℕ) a + S1x128x128.size a ≤ S64x128x128.size a := by decide) : Rect S64x128x128 := Rect.unit (s := S64x128x128) ![n, 0, 0] S1x128x128.size h
abbrev tile4 (s h : ℕ) (p : ∀ a, (![s, h, 0, 0] : Fin 4 → ℕ) a + S1x1x128x128.size a ≤ S16x4x128x128.size a := by decide) : Rect S16x4x128x128 := Rect.unit (s := S16x4x128x128) ![s, h, 0, 0] S1x1x128x128.size p

/-- What is read of either. -/
abbrev rdT (st : bufS.view.ty.Contents (Elt F)) (n : ℕ) (h : ∀ a, (![n, 0, 0] : Fin 3 → ℕ) a + S1x128x128.size a ≤ S64x128x128.size a := by decide) : Vec F S1x128x128 .f32 :=
  bufS.view.readAt (Elt F) (tile n h).toLoadRect st
abbrev ldT (s0 : Vec F S16x4x128x128 .f32) (s h : ℕ) (p : ∀ a, (![s, h, 0, 0] : Fin 4 → ℕ) a + S1x1x128x128.size a ≤ S16x4x128x128.size a := by decide) : Vec F S1x1x128x128 .f32 :=
  View.ld s0 (tile4 s h p)

/-- The states as they are loaded, -/
def loads (s0 : Vec F S16x4x128x128 .f32) : List (View.Piece (Elt F) S64x128x128 .f32) :=
    [⟨tile 63, k0_pay1 (ldT s0 15 3)⟩,
     ⟨tile 62, k0_pay75 (ldT s0 15 2)⟩,
     ⟨tile 61, k0_pay74 (ldT s0 15 1)⟩,
     ⟨tile 60, k0_pay73 (ldT s0 15 0)⟩,
     ⟨tile 59, k0_pay72 (ldT s0 14 3)⟩,
     ⟨tile 58, k0_pay71 (ldT s0 14 2)⟩,
     ⟨tile 57, k0_pay70 (ldT s0 14 1)⟩,
     ⟨tile 56, k0_pay69 (ldT s0 14 0)⟩,
     ⟨tile 55, k0_pay68 (k0_pay67 (ldT s0 13 3))⟩,
     ⟨tile 54, k0_pay66 (ldT s0 13 2)⟩,
     ⟨tile 53, k0_pay65 (ldT s0 13 1)⟩,
     ⟨tile 52, k0_pay64 (ldT s0 13 0)⟩,
     ⟨tile 51, k0_pay63 (k0_pay62 (ldT s0 12 3))⟩,
     ⟨tile 50, k0_pay61 (ldT s0 12 2)⟩,
     ⟨tile 49, k0_pay60 (ldT s0 12 1)⟩,
     ⟨tile 48, k0_pay59 (ldT s0 12 0)⟩,
     ⟨tile 47, k0_pay58 (ldT s0 11 3)⟩,
     ⟨tile 46, k0_pay57 (ldT s0 11 2)⟩,
     ⟨tile 45, k0_pay56 (ldT s0 11 1)⟩,
     ⟨tile 44, k0_pay55 (ldT s0 11 0)⟩,
     ⟨tile 43, k0_pay54 (ldT s0 10 3)⟩,
     ⟨tile 42, k0_pay53 (k0_pay52 (ldT s0 10 2))⟩,
     ⟨tile 41, k0_pay51 (ldT s0 10 1)⟩,
     ⟨tile 40, k0_pay50 (ldT s0 10 0)⟩,
     ⟨tile 39, k0_pay49 (ldT s0 9 3)⟩,
     ⟨tile 38, k0_pay48 (k0_pay47 (ldT s0 9 2))⟩,
     ⟨tile 37, k0_pay46 (ldT s0 9 1)⟩,
     ⟨tile 36, k0_pay45 (ldT s0 9 0)⟩,
     ⟨tile 35, k0_pay44 (ldT s0 8 3)⟩,
     ⟨tile 34, k0_pay43 (ldT s0 8 2)⟩,
     ⟨tile 33, k0_pay42 (ldT s0 8 1)⟩,
     ⟨tile 32, k0_pay41 (ldT s0 8 0)⟩,
     ⟨tile 31, k0_pay40 (ldT s0 7 3)⟩,
     ⟨tile 30, k0_pay39 (ldT s0 7 2)⟩,
     ⟨tile 29, k0_pay38 (ldT s0 7 1)⟩,
     ⟨tile 28, k0_pay37 (ldT s0 7 0)⟩,
     ⟨tile 27, k0_pay36 (ldT s0 6 3)⟩,
     ⟨tile 26, k0_pay35 (ldT s0 6 2)⟩,
     ⟨tile 25, k0_pay34 (k0_pay33 (ldT s0 6 1))⟩,
     ⟨tile 24, k0_pay32 (ldT s0 6 0)⟩,
     ⟨tile 23, k0_pay31 (ldT s0 5 3)⟩,
     ⟨tile 22, k0_pay30 (ldT s0 5 2)⟩,
     ⟨tile 21, k0_pay29 (k0_pay28 (ldT s0 5 1))⟩,
     ⟨tile 20, k0_pay27 (ldT s0 5 0)⟩,
     ⟨tile 19, k0_pay26 (ldT s0 4 3)⟩,
     ⟨tile 18, k0_pay25 (ldT s0 4 2)⟩,
     ⟨tile 17, k0_pay24 (ldT s0 4 1)⟩,
     ⟨tile 16, k0_pay23 (ldT s0 4 0)⟩,
     ⟨tile 15, k0_pay22 (ldT s0 3 3)⟩,
     ⟨tile 14, k0_pay21 (ldT s0 3 2)⟩,
     ⟨tile 13, k0_pay20 (ldT s0 3 1)⟩,
     ⟨tile 12, k0_pay19 (k0_pay18 (ldT s0 3 0))⟩,
     ⟨tile 11, k0_pay17 (ldT s0 2 3)⟩,
     ⟨tile 10, k0_pay16 (ldT s0 2 2)⟩,
     ⟨tile 9, k0_pay15 (ldT s0 2 1)⟩,
     ⟨tile 8, k0_pay14 (k0_pay13 (ldT s0 2 0))⟩,
     ⟨tile 7, k0_pay12 (ldT s0 1 3)⟩,
     ⟨tile 6, k0_pay11 (ldT s0 1 2)⟩,
     ⟨tile 5, k0_pay10 (ldT s0 1 1)⟩,
     ⟨tile 4, k0_pay9 (ldT s0 1 0)⟩,
     ⟨tile 3, k0_pay8 (ldT s0 0 3)⟩,
     ⟨tile 2, k0_pay7 (ldT s0 0 2)⟩,
     ⟨tile 1, k0_pay6 (ldT s0 0 1)⟩,
     ⟨tile 0, k0_pay5 (ldT s0 0 0)⟩]

/-- and as they are stored. -/
def saves (st : bufS.view.ty.Contents (Elt F)) : List (View.Piece (Elt F) S16x4x128x128 .f32) :=
    [⟨tile4 15 3, k0_pay4 (rdT st 63)⟩,
     ⟨tile4 15 2, k0_pay257 (rdT st 62)⟩,
     ⟨tile4 15 1, k0_pay256 (rdT st 61)⟩,
     ⟨tile4 15 0, k0_pay255 (rdT st 60)⟩,
     ⟨tile4 14 3, k0_pay254 (rdT st 59)⟩,
     ⟨tile4 14 2, k0_pay253 (rdT st 58)⟩,
     ⟨tile4 14 1, k0_pay252 (rdT st 57)⟩,
     ⟨tile4 14 0, k0_pay251 (rdT st 56)⟩,
     ⟨tile4 13 3, k0_pay250 (k0_pay249 (rdT st 55))⟩,
     ⟨tile4 13 2, k0_pay248 (rdT st 54)⟩,
     ⟨tile4 13 1, k0_pay247 (rdT st 53)⟩,
     ⟨tile4 13 0, k0_pay246 (rdT st 52)⟩,
     ⟨tile4 12 3, k0_pay245 (k0_pay244 (rdT st 51))⟩,
     ⟨tile4 12 2, k0_pay243 (rdT st 50)⟩,
     ⟨tile4 12 1, k0_pay242 (rdT st 49)⟩,
     ⟨tile4 12 0, k0_pay241 (rdT st 48)⟩,
     ⟨tile4 11 3, k0_pay240 (rdT st 47)⟩,
     ⟨tile4 11 2, k0_pay239 (rdT st 46)⟩,
     ⟨tile4 11 1, k0_pay238 (rdT st 45)⟩,
     ⟨tile4 11 0, k0_pay237 (rdT st 44)⟩,
     ⟨tile4 10 3, k0_pay236 (rdT st 43)⟩,
     ⟨tile4 10 2, k0_pay235 (k0_pay234 (rdT st 42))⟩,
     ⟨tile4 10 1, k0_pay233 (rdT st 41)⟩,
     ⟨tile4 10 0, k0_pay232 (rdT st 40)⟩,
     ⟨tile4 9 3, k0_pay231 (rdT st 39)⟩,
     ⟨tile4 9 2, k0_pay230 (k0_pay229 (rdT st 38))⟩,
     ⟨tile4 9 1, k0_pay228 (rdT st 37)⟩,
     ⟨tile4 9 0, k0_pay227 (rdT st 36)⟩,
     ⟨tile4 8 3, k0_pay226 (rdT st 35)⟩,
     ⟨tile4 8 2, k0_pay225 (rdT st 34)⟩,
     ⟨tile4 8 1, k0_pay224 (rdT st 33)⟩,
     ⟨tile4 8 0, k0_pay223 (rdT st 32)⟩,
     ⟨tile4 7 3, k0_pay222 (rdT st 31)⟩,
     ⟨tile4 7 2, k0_pay221 (rdT st 30)⟩,
     ⟨tile4 7 1, k0_pay220 (rdT st 29)⟩,
     ⟨tile4 7 0, k0_pay219 (rdT st 28)⟩,
     ⟨tile4 6 3, k0_pay218 (rdT st 27)⟩,
     ⟨tile4 6 2, k0_pay217 (rdT st 26)⟩,
     ⟨tile4 6 1, k0_pay216 (k0_pay215 (rdT st 25))⟩,
     ⟨tile4 6 0, k0_pay214 (rdT st 24)⟩,
     ⟨tile4 5 3, k0_pay213 (rdT st 23)⟩,
     ⟨tile4 5 2, k0_pay212 (rdT st 22)⟩,
     ⟨tile4 5 1, k0_pay211 (k0_pay210 (rdT st 21))⟩,
     ⟨tile4 5 0, k0_pay209 (rdT st 20)⟩,
     ⟨tile4 4 3, k0_pay208 (rdT st 19)⟩,
     ⟨tile4 4 2, k0_pay207 (rdT st 18)⟩,
     ⟨tile4 4 1, k0_pay206 (rdT st 17)⟩,
     ⟨tile4 4 0, k0_pay205 (rdT st 16)⟩,
     ⟨tile4 3 3, k0_pay204 (rdT st 15)⟩,
     ⟨tile4 3 2, k0_pay203 (rdT st 14)⟩,
     ⟨tile4 3 1, k0_pay202 (rdT st 13)⟩,
     ⟨tile4 3 0, k0_pay201 (k0_pay200 (rdT st 12))⟩,
     ⟨tile4 2 3, k0_pay199 (rdT st 11)⟩,
     ⟨tile4 2 2, k0_pay198 (rdT st 10)⟩,
     ⟨tile4 2 1, k0_pay197 (rdT st 9)⟩,
     ⟨tile4 2 0, k0_pay196 (k0_pay195 (rdT st 8))⟩,
     ⟨tile4 1 3, k0_pay194 (rdT st 7)⟩,
     ⟨tile4 1 2, k0_pay193 (rdT st 6)⟩,
     ⟨tile4 1 1, k0_pay192 (rdT st 5)⟩,
     ⟨tile4 1 0, k0_pay191 (rdT st 4)⟩,
     ⟨tile4 0 3, k0_pay190 (rdT st 3)⟩,
     ⟨tile4 0 2, k0_pay189 (rdT st 2)⟩,
     ⟨tile4 0 1, k0_pay188 (rdT st 1)⟩,
     ⟨tile4 0 0, k0_pay187 (rdT st 0)⟩]

abbrev allL : Rect S2x512 := Rect.unit (s := S2x512) ![0, 0] S2x512.size inb_S2x512_S2x512_0_0
abbrev allG : Rect S1x128 := Rect.unit (s := S1x128) ![0, 0] S1x128.size inb_S1x128_S1x128_0_0
abbrev allT : Rect S8x8 := Rect.unit (s := S8x8) ![0, 0] S8x8.size inb_S8x8_S8x8_0_0

theorem cond1 (i : grid0.Coords) : Scalar.cmpi .ne (Scalar.extui (Scalar.cmpi .eq (BitVec.ofNat 32 (i 1).val) 0#32)) 0#32 = 1#1 := by
  have h : (i 1).val = 0 := Nat.lt_one_iff.mp (i 1).isLt
  rw [h]; rfl

theorem cond2 (i : grid0.Coords) : k0_cond2 i = 1#1 := cond1 i

/-- The states as the loop finds them, -/
def st0 (s0 : Vec F S16x4x128x128 .f32) : bufS.view.ty.Contents (Elt F) := bufS.view.writes (Elt F) bufS.view.junk (loads s0)
/-- and as it leaves them. -/
def st1 (f x : Vec F S128x512 .f32) (lb : Vec F S2x512 .f32) (tri : Vec F S8x8 .bf16) (s0 : Vec F S16x4x128x128 .f32) : bufS.view.ty.Contents (Elt F) :=
  sAt f x (View.ld lb allL) (View.ld tri allT) (st0 s0) (Scf.trips k0_t1_loop.lb k0_t1_loop.ub k0_t1_loop.st)

/-- What the body leaves in the second result's block. -/
def sOut (f x : Vec F S128x512 .f32) (lb : Vec F S2x512 .f32) (tri : Vec F S8x8 .bf16) (s0 : Vec F S16x4x128x128 .f32) : Vec F S16x4x128x128 .f32 :=
  View.canon (saves (st1 f x lb tri s0))

/-- The stored tiles fill the block. -/
theorem saves_cover (st : bufS.view.ty.Contents (Elt F)) : ∀ y : S16x4x128x128.Idx, ∃ p ∈ saves st, y ∈ p.1.set :=
  View.cover_of_tiled (saves st) S1x1x128x128.size (by rfl)

set_option maxHeartbeats 40000000 in
/-- The body: the operands as they were, the result and the states as the loop leaves them. -/
theorem run (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S8x8 .bf16) (harg8 : arg8.IsWhole) (arg9 : Memref sig .tc .vmem S16x4x128x128 .f32) (harg9 : arg9.IsWhole) (arg10 : Memref sig .tc .vmem S128x512 .f32) (harg10 : arg10.IsWhole) (arg11 : Memref sig .tc .vmem S16x4x128x128 .f32) (harg11 : arg11.IsWhole)
    (q f x g : Vec F S128x512 .f32) (lb : Vec F S2x512 .f32) (gw : Vec F S1x128 .f32) (tri : Vec F S8x8 .bf16) (s0 : Vec F S16x4x128x128 .f32)
    (K : PUnit → sProp 𝕄) :
    iprop(owns (c : Thread nD τ) arg2 fullShare q ∗ owns (c : Thread nD τ) arg3 fullShare f ∗ owns (c : Thread nD τ) arg4 fullShare x ∗ owns (c : Thread nD τ) arg5 fullShare g
        ∗ owns (c : Thread nD τ) arg6 fullShare lb ∗ owns (c : Thread nD τ) arg7 fullShare gw ∗ owns (c : Thread nD τ) arg8 fullShare tri ∗ owns (c : Thread nD τ) arg9 fullShare s0
        ∗ (∃ d, owns (c : Thread nD τ) arg10 fullShare d) ∗ (∃ d, owns (c : Thread nD τ) arg11 fullShare d) ∗ (∃ d, owns (c : Thread nD τ) bufS fullShare d)
        ∗ (iprop(owns (c : Thread nD τ) arg2 fullShare q ∗ owns (c : Thread nD τ) arg3 fullShare f ∗ owns (c : Thread nD τ) arg4 fullShare x ∗ owns (c : Thread nD τ) arg5 fullShare g
            ∗ owns (c : Thread nD τ) arg6 fullShare lb ∗ owns (c : Thread nD τ) arg7 fullShare gw ∗ owns (c : Thread nD τ) arg8 fullShare tri ∗ owns (c : Thread nD τ) arg9 fullShare s0
            ∗ (∃ d, owns (c : Thread nD τ) arg10 fullShare d) ∗ owns (c : Thread nD τ) arg11 fullShare (sOut f x lb tri s0) ∗ (∃ d, owns (c : Thread nD τ) bufS fullShare d)) -∗ K ⟨⟩))
      ⊢ wp frame (wpE (defs₀ (F := F)) Variants.none c none) Set.univ (cc0_hgrn2_mix i arg2 harg2 arg3 harg3 arg4 harg4 arg5 harg5 arg6 harg6 arg7 harg7 arg8 harg8 arg9 harg9 arg10 harg10 arg11 harg11 bufS (Memref.isWhole_whole _)) K := by
  rw [cc0_hgrn2_mix_eq_skeleton]; unfold cc0_hgrn2_mix_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%dS, %fS, -, HS⟩, Hk⟩
  have hC : bufS.IsWhole := Memref.isWhole_whole _
  sl_exec! (disch := first | exact cond1 i | exact cond2 i)
  sl_step
  subst hf2 hf3 hf4 hf5 hf6 hf7 hf8 hf9
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; iexists _; isplitr
    swap; · iexact H10
    ipureintro; rfl
  isplitl [H11]
  · iexists _; isplitr
    swap; · iexact H11
    ipureintro
    refine Eq.trans (congrArg (fun L => arg11.view.read (Elt F) (arg11.view.writes (Elt F) _ L)) (?_ : _ = saves (st1 (arg3.view.read (Elt F) f3) (arg4.view.read (Elt F) f4) (arg6.view.read (Elt F) f6) (arg8.view.read (Elt F) f8) (arg9.view.read (Elt F) f9)))) (View.read_writes_eq_canon _ _ _ (saves_cover _))
    rfl
  iexists _; iexists _; isplitr
  swap; · iexact HS
  ipureintro; rfl

end Cert.Kernel6Ideal.Hgrn

end
-- ==== Proof.HgrnIdeal.Run.lean ====
/-
  The run of the recurrence's kernel: what every grid point leaves in the block of the second result, the states; the pipeline's
  obligation at every point; and the launch. Of the first result the run says nothing.
-/
module

public import proofs.«01_k».proof.Proof.HgrnIdeal.Body
public import proofs.«01_k».proof.Proof.Gen.Kernel6Ideal.Points
public import proofs.«01_k».proof.Proof.Gen.Kernel6Ideal.Frame
public import Idealize.ShloMosaic.Lib.Pipeline.Quiescent
public import Idealize.ShloMosaic.Lib.Claim

@[expose] public section

set_option maxRecDepth 16384
set_option Elab.async false

noncomputable section

namespace Cert.Kernel6Ideal.Hgrn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The states are stored at every point. -/
theorem idle9 (t : Fin cfg0.N) : cfg0.idle 9 (cfg0.grid.coords t) = false := by
  show idle0 9 (cfg0.grid.coords t) = false
  have h := cond2 (cfg0.grid.coords t)
  show (!(k0_cond2 (grid0.coords t) == 1#1)) = false
  rw [show k0_cond2 (grid0.coords t) = 1#1 from h]
  rfl

/-- The result of which nothing is said. -/
def fgt : Fin cfg0.W → Bool := fun w => decide (w.val = 8)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed 8 t
    | ⟨9, _⟩ => sOut (iblk m c 1 t) (iblk m c 2 t) (iblk m c 4 t) (iblk m c 6 t) (iblk m c 7 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after9 (c : Dev nD) (t : Fin cfg0.N) : (dats m 0 c).after 9 t = sOut (iblk m c 1 t) (iblk m c 2 t) (iblk m c 4 t) (iblk m c 6 t) (iblk m c 7 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ X, owns (c : Thread nD τ) (st0_8 t) fullShare X) ∗ (∃ d, owns (c : Thread nD τ) (st0_9 t) fullShare ((dats m 0 c).before 9 t d)))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ X, owns (c : Thread nD τ) (st0_8 t) fullShare X) ∗ owns (c : Thread nD τ) (st0_9 t) fullShare ((dats m 0 c).after 9 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after9]
  unfold Pipeline.ΦA; rw [scopedRest0_eq]
  iintro ⟨⟨⟨%fC, HC⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HC]; · iexists fC; rw [owns_whole]; iexact HC
  iintro ⟨H0, H1, H2, H3, H4, H5, H6, H7, H8, H9, ⟨%dC, HC⟩⟩
  isplitl [HC Hp]
  · isplitl [HC]
    · iexists dC; rw [owns_whole]; exact .rfl
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ fgt := fun t => by
  rw [bigSep_W0, bigSep_W0, defs₀_row, idle9 t]
  exact triple_restated (sound_body m c t) rfl .rfl fun _ => .rfl

set_option backward.isDefEq.respectTransparency.types false in
set_option maxHeartbeats 800000 in
/-- The launch: every weakly fair execution of @main terminates, with each array as the pipeline leaves it and every semaphore
    counter at zero. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- An input's array ends as the region found it. -/
theorem in_end {r : PUnit × MemSt nD τ sig (Elt F)} (h : Pipeline.RDat.FramePost cfg0 (fun c => (dats m 0 c).toRForget fgt) (V m) r)
    (c : Dev nD) (w : Fin 10) (hin : (cfg0.win w).isOut = false) :
    r.2.mem ((cfg0.win w).arr.view.loc (c : Thread nD τ)) = V m c (Pipeline.arrRef spec0 w) :=
  (Pipeline.RDat.FramePost.arr_in h c w hin).trans (A_eq m c w)

/-- The run with its second result: it ends at what the pipeline computes, every argument as it was, every counter at zero. -/
theorem run_result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((cfg0.win (9 : Fin 10)).arr.view.loc (c : Thread nD τ)) = (dats m 0 c).arrAt (9 : Fin 10) cfg0.N)
      ∧ r.2.sem = fun _ => 0) :=
  (θ_run defs _ _).mono (fun _ (h : _ ∧ _) => ⟨fun c => ⟨⟨
      (in_end m h.1 c (0 : Fin 10) rfl).trans (V_main_arg0 m c),
      (in_end m h.1 c (4 : Fin 10) rfl).trans (V_main_arg1 m c),
      (in_end m h.1 c (5 : Fin 10) rfl).trans (V_main_arg2 m c),
      ((h.1 c).2 main_arg3 (Pipeline.mem_restRefs_of main_arg3 (by decide) (by decide))).trans (V_main_arg3 m c)⟩,
      ((dats m 0 c).toRForget_arrAt_iff (w := (9 : Fin 10)) (by decide) _ _).mp ((h.1 c).1 (9 : Fin 10))⟩, h.2⟩) (run_main m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run_result m ρ)

end Cert.Kernel6Ideal.Hgrn

end
-- ==== Proof.HgrnVal.Pay.lean ====
/- What one trip of the recurrence's loop leaves of a head's state, at one place of it: the old state carried forward by the
   exponential of the summed logarithms of the gates, and the eight rows added to it. -/
module

public import proofs.«01_k».proof.Proof.HgrnIdeal.Tile
public import proofs.«01_k».proof.Proof.RouteVal.Finite
public import proofs.«01_k».proof.Proof.RouteVal.Payloads
public import Idealize.ShloMosaic.Lib.Pointwise

@[expose] public section

set_option maxRecDepth 65536

noncomputable section

namespace Cert.HgrnVal

open Cert.Kernel6Ideal Cert.Kernel6Ideal.Gen Cert.Kernel6Ideal.Hgrn
open Idealize.ShloMosaic

/-- The lower bound of a column: the first entry of the softmax of its two logits. -/
def lbS (l : Fin 2 → EReal) : EReal :=
  Ideal.div (Ideal.exp (l 0 - Finset.univ.fold max ⊥ l)) (∑ r, Ideal.exp (l r - Finset.univ.fold max ⊥ l))

/-- A forget gate: the logistic function lifted above the bound. -/
def gate (b z : EReal) : EReal := b + (1 - b) * Ideal.div 1 (1 + Ideal.exp (0 - z))

/-- The kernel's sum of the logarithms up to a row: a product with a matrix of ones and zeros, of the logarithm and of the two
    remainders its narrower copies leave. -/
def gK (tri : Fin 8 → Fin 8 → EReal) (L : Fin 8 → EReal) (t : Fin 8) : EReal :=
  ∑ x, tri t x * L x + ∑ x, tri t x * (L x - L x) + ∑ x, tri t x * (L x - L x - (L x - L x))

/-- The new state at a place, as the kernel computes it. -/
def newK (b : EReal) (z x : Fin 8 → EReal) (tri : Fin 8 → Fin 8 → EReal) (s : EReal) : EReal :=
  s * Ideal.exp (gK tri (fun j => Ideal.log (gate b (z j))) 7) +
    ∑ t, x t * ((1 - gate b (z t)) *
      Ideal.exp (gK tri (fun j => Ideal.log (gate b (z j))) 7 - gK tri (fun j => Ideal.log (gate b (z j))) t))

theorem bound_at (lb : Vec Ideal S2x512 .f32) (c : Fin 512) :
    k0_pay2 lb (ix2 (0 : Fin 1) c) = lbS fun r => lb (ix2 r c) := by
  unfold k0_pay2
  pointwise
  simp only [Cert.Kernel5Ideal.RouteVal.bits_bot]
  rfl

theorem bound0 (lb : Vec Ideal S2x512 .f32) (k : Fin 128) :
    w63 lb (ix2 (0 : Fin 1) k) = lbS fun r => lb (ix2 r (⟨k.val, by omega⟩ : Fin 512)) := by
  rw [← bound_at]
  unfold w63
  pointwise [k0_pay76]

theorem gate0 (f : Vec Ideal S8x128 .f32) (lb : Vec Ideal S2x512 .f32) (t : Fin 8) (k : Fin 128) :
    w131 f lb (ix2 t k) = gate (lbS fun r => lb (ix2 r (⟨k.val, by omega⟩ : Fin 512))) (f (ix2 t k)) := by
  rw [← bound0]
  unfold w131
  pointwise [k0_pay89]
  rfl

theorem sum0 (f : Vec Ideal S8x128 .f32) (lb : Vec Ideal S2x512 .f32) (tri : Vec Ideal S8x8 .bf16) (t : Fin 8) (k : Fin 128) :
    w194 f lb tri (ix2 t k)
      = gK (fun t j => tri (ix2 t j)) (fun j => Ideal.log (gate (lbS fun r => lb (ix2 r (⟨k.val, by omega⟩ : Fin 512))) (f (ix2 j k)))) t := by
  unfold w194 w183 w186 w189
  pointwise [k0_pay106, k0_pay3, k0_pay102, k0_pay104, k0_pay105, k0_pay103, k0_pay94]
  simp only [gate0]
  rfl

theorem new0 (f : Vec Ideal S8x128 .f32) (x : Vec Ideal S8x128 .f32) (s : Vec Ideal S1x128x128 .f32) (lb : Vec Ideal S2x512 .f32) (tri : Vec Ideal S8x8 .bf16) (v k : Fin 128) :
    sNew0 f x s lb tri (ix3 (0 : Fin 1) v k)
      = newK (lbS fun r => lb (ix2 r (⟨k.val, by omega⟩ : Fin 512))) (fun t => f (ix2 t k)) (fun t => x (ix2 t v))
          (fun t j => tri (ix2 t j)) (s (ix3 (0 : Fin 1) v k)) := by
  unfold sNew0 w71 w176 w251 w837 w842
  pointwise [k0_pay176, k0_pay80, k0_pay98, k0_pay115, k0_pay168, k0_pay172]
  simp only [gate0, sum0]
  rfl

theorem bound1 (lb : Vec Ideal S2x512 .f32) (k : Fin 128) :
    w64 lb (ix2 (0 : Fin 1) k) = lbS fun r => lb (ix2 r (⟨128 + k.val, by omega⟩ : Fin 512)) := by
  rw [← bound_at]
  unfold w64
  pointwise [k0_pay77]

theorem gate1 (f : Vec Ideal S8x128 .f32) (lb : Vec Ideal S2x512 .f32) (t : Fin 8) (k : Fin 128) :
    k0_pay91 (w64 lb) (w142 f lb) (ix2 t k) = gate (lbS fun r => lb (ix2 r (⟨128 + k.val, by omega⟩ : Fin 512))) (f (ix2 t k)) := by
  rw [← bound1]
  unfold w142
  pointwise [k0_pay91, k0_pay90]
  rfl

theorem sum1 (f : Vec Ideal S8x128 .f32) (lb : Vec Ideal S2x512 .f32) (tri : Vec Ideal S8x8 .bf16) (t : Fin 8) (k : Fin 128) :
    w206 f lb tri (ix2 t k)
      = gK (fun t j => tri (ix2 t j)) (fun j => Ideal.log (gate (lbS fun r => lb (ix2 r (⟨128 + k.val, by omega⟩ : Fin 512))) (f (ix2 j k)))) t := by
  unfold w206 w172
  pointwise [k0_pay107, k0_pay3, k0_pay95]
  simp only [gate1]
  rfl

theorem new1 (f : Vec Ideal S8x128 .f32) (x : Vec Ideal S8x128 .f32) (s : Vec Ideal S1x128x128 .f32) (lb : Vec Ideal S2x512 .f32) (tri : Vec Ideal S8x8 .bf16) (v k : Fin 128) :
    sNew1 f x s lb tri (ix3 (0 : Fin 1) v k)
      = newK (lbS fun r => lb (ix2 r (⟨128 + k.val, by omega⟩ : Fin 512))) (fun t => f (ix2 t k)) (fun t => x (ix2 t v))
          (fun t j => tri (ix2 t j)) (s (ix3 (0 : Fin 1) v k)) := by
  unfold sNew1 w870 w76 w178 w252 w838
  pointwise [k0_pay179, k0_pay173, k0_pay81, k0_pay99, k0_pay116, k0_pay169]
  simp only [gate1, sum1]
  rfl

theorem bound2 (lb : Vec Ideal S2x512 .f32) (k : Fin 128) :
    w65 lb (ix2 (0 : Fin 1) k) = lbS fun r => lb (ix2 r (⟨256 + k.val, by omega⟩ : Fin 512)) := by
  rw [← bound_at]
  unfold w65
  pointwise [k0_pay78]

theorem gate2 (f : Vec Ideal S8x128 .f32) (lb : Vec Ideal S2x512 .f32) (t : Fin 8) (k : Fin 128) :
    k0_pay92 f (w65 lb) (ix2 t k) = gate (lbS fun r => lb (ix2 r (⟨256 + k.val, by omega⟩ : Fin 512))) (f (ix2 t k)) := by
  rw [← bound2]
  pointwise [k0_pay92]
  rfl

theorem sum2 (f : Vec Ideal S8x128 .f32) (lb : Vec Ideal S2x512 .f32) (tri : Vec Ideal S8x8 .bf16) (t : Fin 8) (k : Fin 128) :
    w218 f lb tri (ix2 t k)
      = gK (fun t j => tri (ix2 t j)) (fun j => Ideal.log (gate (lbS fun r => lb (ix2 r (⟨256 + k.val, by omega⟩ : Fin 512))) (f (ix2 j k)))) t := by
  unfold w218 w173
  pointwise [k0_pay108, k0_pay3, k0_pay96]
  simp only [gate2]
  rfl

theorem new2 (f : Vec Ideal S8x128 .f32) (x : Vec Ideal S8x128 .f32) (s : Vec Ideal S1x128x128 .f32) (lb : Vec Ideal S2x512 .f32) (tri : Vec Ideal S8x8 .bf16) (v k : Fin 128) :
    sNew2 f x s lb tri (ix3 (0 : Fin 1) v k)
      = newK (lbS fun r => lb (ix2 r (⟨256 + k.val, by omega⟩ : Fin 512))) (fun t => f (ix2 t k)) (fun t => x (ix2 t v))
          (fun t j => tri (ix2 t j)) (s (ix3 (0 : Fin 1) v k)) := by
  unfold sNew2 w875 w81 w180 w253 w839
  pointwise [k0_pay183, k0_pay174, k0_pay82, k0_pay100, k0_pay117, k0_pay170]
  simp only [gate2, sum2]
  rfl

theorem bound3 (lb : Vec Ideal S2x512 .f32) (k : Fin 128) :
    w66 lb (ix2 (0 : Fin 1) k) = lbS fun r => lb (ix2 r (⟨384 + k.val, by omega⟩ : Fin 512)) := by
  rw [← bound_at]
  unfold w66
  pointwise [k0_pay79]

theorem gate3 (f : Vec Ideal S8x128 .f32) (lb : Vec Ideal S2x512 .f32) (t : Fin 8) (k : Fin 128) :
    k0_pay93 f (w66 lb) (ix2 t k) = gate (lbS fun r => lb (ix2 r (⟨384 + k.val, by omega⟩ : Fin 512))) (f (ix2 t k)) := by
  rw [← bound3]
  pointwise [k0_pay93]
  rfl

theorem sum3 (f : Vec Ideal S8x128 .f32) (lb : Vec Ideal S2x512 .f32) (tri : Vec Ideal S8x8 .bf16) (t : Fin 8) (k : Fin 128) :
    w230 f lb tri (ix2 t k)
      = gK (fun t j => tri (ix2 t j)) (fun j => Ideal.log (gate (lbS fun r => lb (ix2 r (⟨384 + k.val, by omega⟩ : Fin 512))) (f (ix2 j k)))) t := by
  unfold w230 w174
  pointwise [k0_pay109, k0_pay3, k0_pay97]
  simp only [gate3]
  rfl

theorem new3 (f : Vec Ideal S8x128 .f32) (x : Vec Ideal S8x128 .f32) (s : Vec Ideal S1x128x128 .f32) (lb : Vec Ideal S2x512 .f32) (tri : Vec Ideal S8x8 .bf16) (v k : Fin 128) :
    sNew3 f x s lb tri (ix3 (0 : Fin 1) v k)
      = newK (lbS fun r => lb (ix2 r (⟨384 + k.val, by omega⟩ : Fin 512))) (fun t => f (ix2 t k)) (fun t => x (ix2 t v))
          (fun t j => tri (ix2 t j)) (s (ix3 (0 : Fin 1) v k)) := by
  unfold sNew3 w880 w86 w182 w254 w840
  pointwise [k0_pay185, k0_pay175, k0_pay83, k0_pay101, k0_pay118, k0_pay171]
  simp only [gate3, sum3]
  rfl

end Cert.HgrnVal

end
-- ==== Proof.HgrnVal.State.lean ====
/- The states of a block of samples through the kernel's body: loaded turned about, put through the loop, and stored turned
   back. At one place of one head, the kernel's new state of the old one there. -/
module

public import proofs.«01_k».proof.Proof.HgrnVal.Pay
public import proofs.«01_k».proof.Proof.HgrnIdeal.Body

@[expose] public section

set_option maxRecDepth 65536

noncomputable section

namespace Cert.HgrnVal

open Cert.Kernel6Ideal Cert.Kernel6Ideal.Gen Cert.Kernel6Ideal.Hgrn
open Idealize.ShloMosaic

/-- The places of the tile of a sample's head in the scratch, and of the sample's rows and the head's columns in a block. -/
def tl (r : Fin 16) (h : Fin 4) : Fin 64 := ⟨4 * r.val + h.val, by omega⟩
def rw8 (r : Fin 16) (t : Fin 8) : Fin 128 := ⟨8 * r.val + t.val, by omega⟩
def cl (h : Fin 4) (k : Fin 128) : Fin 512 := ⟨128 * h.val + k.val, by omega⟩

/-- The new state of a sample's head at a place. -/
def headNew (f x : Vec Ideal S128x512 .f32) (lb : Vec Ideal S2x512 .f32) (tri : Vec Ideal S8x8 .bf16) (r : Fin 16) (h : Fin 4)
    (v k : Fin 128) (s : EReal) : EReal :=
  newK (lbS fun a => lb (ix2 a (cl h k))) (fun t => f (ix2 (rw8 r t) (cl h k))) (fun t => x (ix2 (rw8 r t) (cl h v)))
    (fun t j => tri (ix2 t j)) s

/-- The scratch read. -/
abbrev rd (st : bufS.view.ty.Contents (Elt Ideal)) : S64x128x128.Idx → EReal := bufS.view.read (Elt Ideal) st

/-- The turned tile that is loaded, at a place, -/
theorem load_ok (s0 : Vec Ideal S16x4x128x128 .f32) (n r h : ℕ) {p} {p'} (hr : r < 16 := by decide) (hh : h < 4 := by decide) (hn : n = 4 * r + h := by rfl)
    (x : S1x128x128.Idx) :
    k0_pay1 (View.ld s0 (tile4 r h p)) x
      = (fun y : S64x128x128.Idx => s0 (ix4 (⟨(y 0).val / 4, Nat.div_lt_of_lt_mul (y 0).isLt⟩ : Fin 16)
          (⟨(y 0).val % 4, Nat.mod_lt _ (by decide)⟩ : Fin 4) (y 2) (y 1))) ((tile n p').emb x) := by
  subst hn
  obtain ⟨a, v, k, rfl⟩ : ∃ (a : Fin 1) (v k : Fin 128), x = ix3 a v k := ⟨x 0, x 1, x 2, eq_ix3 x⟩
  obtain rfl : a = 0 := Subsingleton.elim _ _
  have e : k0_pay1 (View.ld s0 (tile4 r h p)) (ix3 (0 : Fin 1) v k) = View.ld s0 (tile4 r h p) (ix4 (0 : Fin 1) (0 : Fin 1) k v) := by
    pointwise [k0_pay1]
  rw [e]
  refine congrArg s0 (funext fun b => Fin.ext ?_)
  match b with
  | ⟨0, _⟩ => show r + 1 * 0 = (4 * r + h + 1 * 0) / 4; omega
  | ⟨1, _⟩ => show h + 1 * 0 = (4 * r + h + 1 * 0) % 4; omega
  | ⟨2, _⟩ => rfl
  | ⟨3, _⟩ => rfl

/-- and the turned tile that is stored. -/
theorem save_ok (st : bufS.view.ty.Contents (Elt Ideal)) (n r h : ℕ) {p} {p'} (hr : r < 16 := by decide) (hh : h < 4 := by decide) (hn : n = 4 * r + h := by rfl)
    (x : S1x1x128x128.Idx) :
    k0_pay4 (bufS.view.readAt (Elt Ideal) (tile n p').toLoadRect st) x
      = (fun y : S16x4x128x128.Idx => rd st (ix3 (tl (y 0) (y 1)) (y 3) (y 2))) ((tile4 r h p).emb x) := by
  subst hn
  obtain ⟨a, b, k, v, rfl⟩ : ∃ (a b : Fin 1) (k v : Fin 128), x = ix4 a b k v := ⟨x 0, x 1, x 2, x 3, eq_ix4 x⟩
  obtain rfl : a = 0 := Subsingleton.elim _ _
  obtain rfl : b = 0 := Subsingleton.elim _ _
  generalize hw : bufS.view.readAt (Elt Ideal) (tile (4 * r + h) p').toLoadRect st = w
  have e : k0_pay4 w (ix4 (0 : Fin 1) (0 : Fin 1) k v) = w (ix3 (0 : Fin 1) v k) := by
    pointwise [k0_pay4]
  rw [e, ← hw]
  refine congrArg (rd st) (funext fun b => Fin.ext ?_)
  match b with
  | ⟨0, _⟩ => show 4 * r + h + 1 * 0 = 4 * (r + 1 * 0) + (h + 1 * 0); omega
  | ⟨1, _⟩ => rfl
  | ⟨2, _⟩ => rfl

theorem loads_cover (s0 : Vec Ideal S16x4x128x128 .f32) : ∀ y : S64x128x128.Idx, ∃ p ∈ loads s0, y ∈ p.1.set :=
  View.cover_of_tiled (loads s0) S1x128x128.size (by rfl)

theorem st0_at (s0 : Vec Ideal S16x4x128x128 .f32) (r : Fin 16) (h : Fin 4) (v k : Fin 128) :
    rd (st0 s0) (ix3 (tl r h) v k) = s0 (ix4 r h k v) := by
  refine (View.read_writes_apply_of_pieces bufS.view _ (fun y : S64x128x128.Idx => s0 (ix4 (⟨(y 0).val / 4, Nat.div_lt_of_lt_mul (y 0).isLt⟩ : Fin 16)
          (⟨(y 0).val % 4, Nat.mod_lt _ (by decide)⟩ : Fin 4) (y 2) (y 1))) (loads s0) ?_ _ (loads_cover s0 _)).trans ?_
  · unfold loads
    simp only [List.forall_mem_cons]
    refine ⟨load_ok s0 63 15 3, load_ok s0 62 15 2, load_ok s0 61 15 1, load_ok s0 60 15 0, load_ok s0 59 14 3, load_ok s0 58 14 2, load_ok s0 57 14 1, load_ok s0 56 14 0, load_ok s0 55 13 3, load_ok s0 54 13 2, load_ok s0 53 13 1, load_ok s0 52 13 0, load_ok s0 51 12 3, load_ok s0 50 12 2, load_ok s0 49 12 1, load_ok s0 48 12 0, load_ok s0 47 11 3, load_ok s0 46 11 2, load_ok s0 45 11 1, load_ok s0 44 11 0, load_ok s0 43 10 3, load_ok s0 42 10 2, load_ok s0 41 10 1, load_ok s0 40 10 0, load_ok s0 39 9 3, load_ok s0 38 9 2, load_ok s0 37 9 1, load_ok s0 36 9 0, load_ok s0 35 8 3, load_ok s0 34 8 2, load_ok s0 33 8 1, load_ok s0 32 8 0, load_ok s0 31 7 3, load_ok s0 30 7 2, load_ok s0 29 7 1, load_ok s0 28 7 0, load_ok s0 27 6 3, load_ok s0 26 6 2, load_ok s0 25 6 1, load_ok s0 24 6 0, load_ok s0 23 5 3, load_ok s0 22 5 2, load_ok s0 21 5 1, load_ok s0 20 5 0, load_ok s0 19 4 3, load_ok s0 18 4 2, load_ok s0 17 4 1, load_ok s0 16 4 0, load_ok s0 15 3 3, load_ok s0 14 3 2, load_ok s0 13 3 1, load_ok s0 12 3 0, load_ok s0 11 2 3, load_ok s0 10 2 2, load_ok s0 9 2 1, load_ok s0 8 2 0, load_ok s0 7 1 3, load_ok s0 6 1 2, load_ok s0 5 1 1, load_ok s0 4 1 0, load_ok s0 3 0 3, load_ok s0 2 0 2, load_ok s0 1 0 1, load_ok s0 0 0 0, ?_⟩
    exact fun p hp => absurd hp List.not_mem_nil
  · refine congrArg s0 (funext fun b => Fin.ext ?_)
    have hr := r.isLt
    have hh := h.isLt
    match b with
    | ⟨0, _⟩ => show (4 * r.val + h.val) / 4 = r.val; omega
    | ⟨1, _⟩ => show (4 * r.val + h.val) % 4 = h.val; omega
    | ⟨2, _⟩ => rfl
    | ⟨3, _⟩ => rfl

theorem saves_at (st : bufS.view.ty.Contents (Elt Ideal)) (r : Fin 16) (h : Fin 4) (k v : Fin 128) :
    View.canon (saves st) (ix4 r h k v) = rd st (ix3 (tl r h) v k) := by
  refine (View.canon_apply_of_pieces (fun y : S16x4x128x128.Idx => rd st (ix3 (tl (y 0) (y 1)) (y 3) (y 2))) (saves st) ?_ _
    (saves_cover st _)).trans rfl
  unfold saves
  simp only [List.forall_mem_cons]
  refine ⟨save_ok st 63 15 3, save_ok st 62 15 2, save_ok st 61 15 1, save_ok st 60 15 0, save_ok st 59 14 3, save_ok st 58 14 2, save_ok st 57 14 1, save_ok st 56 14 0, save_ok st 55 13 3, save_ok st 54 13 2, save_ok st 53 13 1, save_ok st 52 13 0, save_ok st 51 12 3, save_ok st 50 12 2, save_ok st 49 12 1, save_ok st 48 12 0, save_ok st 47 11 3, save_ok st 46 11 2, save_ok st 45 11 1, save_ok st 44 11 0, save_ok st 43 10 3, save_ok st 42 10 2, save_ok st 41 10 1, save_ok st 40 10 0, save_ok st 39 9 3, save_ok st 38 9 2, save_ok st 37 9 1, save_ok st 36 9 0, save_ok st 35 8 3, save_ok st 34 8 2, save_ok st 33 8 1, save_ok st 32 8 0, save_ok st 31 7 3, save_ok st 30 7 2, save_ok st 29 7 1, save_ok st 28 7 0, save_ok st 27 6 3, save_ok st 26 6 2, save_ok st 25 6 1, save_ok st 24 6 0, save_ok st 23 5 3, save_ok st 22 5 2, save_ok st 21 5 1, save_ok st 20 5 0, save_ok st 19 4 3, save_ok st 18 4 2, save_ok st 17 4 1, save_ok st 16 4 0, save_ok st 15 3 3, save_ok st 14 3 2, save_ok st 13 3 1, save_ok st 12 3 0, save_ok st 11 2 3, save_ok st 10 2 2, save_ok st 9 2 1, save_ok st 8 2 0, save_ok st 7 1 3, save_ok st 6 1 2, save_ok st 5 1 1, save_ok st 4 1 0, save_ok st 3 0 3, save_ok st 2 0 2, save_ok st 1 0 1, save_ok st 0 0 0, ?_⟩
  exact fun p hp => absurd hp List.not_mem_nil

end Cert.HgrnVal

end
-- ==== Proof.HgrnVal.Loop.lean ====
/- The states after the loop: each sample's tiles are rewritten at the sample's own trip and at no other. -/
module

public import proofs.«01_k».proof.Proof.HgrnVal.State

@[expose] public section

set_option maxRecDepth 65536

noncomputable section

namespace Cert.HgrnVal

open Cert.Kernel6Ideal Cert.Kernel6Ideal.Gen Cert.Kernel6Ideal.Hgrn
open Idealize.ShloMosaic

theorem trips_eq : k0_t1_loop.trips = 16 := by decide +kernel
theorem lt16 (k : Fin k0_t1_loop.trips) : k.val < 16 := lt_of_lt_of_eq k.isLt trips_eq
/-- The sample of a trip. -/
def smp (k : Fin k0_t1_loop.trips) : Fin 16 := ⟨k.val, lt16 k⟩

theorem hit_eq (k h : ℕ) : 4 * k + h = 4 * k + h + 0 := by omega
theorem miss_or {r k h h' : ℕ} (hh : h < 4) (hh' : h' < 4) (hn : ¬ (r = k ∧ h = h')) :
    4 * r + h < 4 * k + h' ∨ 4 * k + h' + 1 ≤ 4 * r + h := by omega

theorem row0 (f : Vec Ideal S128x512 .f32) (k : Fin k0_t1_loop.trips) (t : Fin 8) (c : Fin 128) :
    View.ld (Val := Elt Ideal) (e' := .f32) f (rowA k) (ix2 t c) = f (ix2 (rw8 (smp k) t) (cl 0 c)) := by
  have h := k0_off1_eq k
  refine View.ld_unit_apply_of (Val := Elt Ideal) (e := .f32) f _ _ _ _ _ fun a => ?_
  match a with
  | ⟨0, _⟩ => exact (congrArg (· + t.val) (congrFun h 0)).symm
  | ⟨1, _⟩ => exact (congrArg (· + c.val) (congrFun h 1)).symm

theorem tile0 (st : bufS.view.ty.Contents (Elt Ideal)) (k : Fin k0_t1_loop.trips) (v c : Fin 128) :
    bufS.view.readAt (Elt Ideal) (tileA k).toLoadRect st (ix3 (0 : Fin 1) v c) = rd st (ix3 (tl (smp k) 0) v c) := by
  have h := k0_off5_eq k (0 : Fin 4)
  refine View.ld_unit_apply_of (Val := Elt Ideal) (e := .f32) (rd st) _ _ _ _ _ fun a => ?_
  match a with
  | ⟨0, _⟩ => exact (congrArg (· + 0) (congrFun h 0)).symm
  | ⟨1, _⟩ => exact ((congrArg (· + v.val) (congrFun h 1)).trans (Nat.zero_add _)).symm
  | ⟨2, _⟩ => exact ((congrArg (· + c.val) (congrFun h 2)).trans (Nat.zero_add _)).symm

theorem piece0 (f x : Vec Ideal S128x512 .f32) (lb : Vec Ideal S2x512 .f32) (tri : Vec Ideal S8x8 .bf16) (k : Fin k0_t1_loop.trips)
    (st : bufS.view.ty.Contents (Elt Ideal)) (v c : Fin 128) :
    sNew0 (View.ld f (rowA k)) (View.ld x (rowA k)) (bufS.view.readAt (Elt Ideal) (tileA k).toLoadRect st) lb tri (ix3 (0 : Fin 1) v c)
      = headNew f x lb tri (smp k) 0 v c (rd st (ix3 (tl (smp k) 0) v c)) := by
  rw [new0, tile0]
  unfold headNew
  have e : (⟨c.val, by omega⟩ : Fin 512) = cl 0 c := Fin.ext (Nat.zero_add _).symm
  rw [e]
  exact congrArg₂ (fun a b => newK (lbS fun a => lb (ix2 a (cl 0 c))) a b (fun t j => tri (ix2 t j)) (rd st (ix3 (tl (smp k) 0) v c)))
    (funext fun t => row0 f k t c) (funext fun t => row0 x k t v)
theorem row1 (f : Vec Ideal S128x512 .f32) (k : Fin k0_t1_loop.trips) (t : Fin 8) (c : Fin 128) :
    View.ld (Val := Elt Ideal) (e' := .f32) f (rowB k) (ix2 t c) = f (ix2 (rw8 (smp k) t) (cl 1 c)) := by
  have h := k0_off2_eq k
  refine View.ld_unit_apply_of (Val := Elt Ideal) (e := .f32) f _ _ _ _ _ fun a => ?_
  match a with
  | ⟨0, _⟩ => exact (congrArg (· + t.val) (congrFun h 0)).symm
  | ⟨1, _⟩ => exact (congrArg (· + c.val) (congrFun h 1)).symm

theorem tile1 (st : bufS.view.ty.Contents (Elt Ideal)) (k : Fin k0_t1_loop.trips) (v c : Fin 128) :
    bufS.view.readAt (Elt Ideal) (tileB k).toLoadRect st (ix3 (0 : Fin 1) v c) = rd st (ix3 (tl (smp k) 1) v c) := by
  have h := k0_off5_eq k (1 : Fin 4)
  refine View.ld_unit_apply_of (Val := Elt Ideal) (e := .f32) (rd st) _ _ _ _ _ fun a => ?_
  match a with
  | ⟨0, _⟩ => exact (congrArg (· + 0) (congrFun h 0)).symm
  | ⟨1, _⟩ => exact ((congrArg (· + v.val) (congrFun h 1)).trans (Nat.zero_add _)).symm
  | ⟨2, _⟩ => exact ((congrArg (· + c.val) (congrFun h 2)).trans (Nat.zero_add _)).symm

theorem piece1 (f x : Vec Ideal S128x512 .f32) (lb : Vec Ideal S2x512 .f32) (tri : Vec Ideal S8x8 .bf16) (k : Fin k0_t1_loop.trips)
    (st : bufS.view.ty.Contents (Elt Ideal)) (v c : Fin 128) :
    sNew1 (View.ld f (rowB k)) (View.ld x (rowB k)) (bufS.view.readAt (Elt Ideal) (tileB k).toLoadRect st) lb tri (ix3 (0 : Fin 1) v c)
      = headNew f x lb tri (smp k) 1 v c (rd st (ix3 (tl (smp k) 1) v c)) := by
  rw [new1, tile1]
  unfold headNew
  exact congrArg₂ (fun a b => newK (lbS fun a => lb (ix2 a (cl 1 c))) a b (fun t j => tri (ix2 t j)) (rd st (ix3 (tl (smp k) 1) v c)))
    (funext fun t => row1 f k t c) (funext fun t => row1 x k t v)
theorem row2 (f : Vec Ideal S128x512 .f32) (k : Fin k0_t1_loop.trips) (t : Fin 8) (c : Fin 128) :
    View.ld (Val := Elt Ideal) (e' := .f32) f (rowC k) (ix2 t c) = f (ix2 (rw8 (smp k) t) (cl 2 c)) := by
  have h := k0_off3_eq k
  refine View.ld_unit_apply_of (Val := Elt Ideal) (e := .f32) f _ _ _ _ _ fun a => ?_
  match a with
  | ⟨0, _⟩ => exact (congrArg (· + t.val) (congrFun h 0)).symm
  | ⟨1, _⟩ => exact (congrArg (· + c.val) (congrFun h 1)).symm

theorem tile2 (st : bufS.view.ty.Contents (Elt Ideal)) (k : Fin k0_t1_loop.trips) (v c : Fin 128) :
    bufS.view.readAt (Elt Ideal) (tileC k).toLoadRect st (ix3 (0 : Fin 1) v c) = rd st (ix3 (tl (smp k) 2) v c) := by
  have h := k0_off5_eq k (2 : Fin 4)
  refine View.ld_unit_apply_of (Val := Elt Ideal) (e := .f32) (rd st) _ _ _ _ _ fun a => ?_
  match a with
  | ⟨0, _⟩ => exact (congrArg (· + 0) (congrFun h 0)).symm
  | ⟨1, _⟩ => exact ((congrArg (· + v.val) (congrFun h 1)).trans (Nat.zero_add _)).symm
  | ⟨2, _⟩ => exact ((congrArg (· + c.val) (congrFun h 2)).trans (Nat.zero_add _)).symm

theorem piece2 (f x : Vec Ideal S128x512 .f32) (lb : Vec Ideal S2x512 .f32) (tri : Vec Ideal S8x8 .bf16) (k : Fin k0_t1_loop.trips)
    (st : bufS.view.ty.Contents (Elt Ideal)) (v c : Fin 128) :
    sNew2 (View.ld f (rowC k)) (View.ld x (rowC k)) (bufS.view.readAt (Elt Ideal) (tileC k).toLoadRect st) lb tri (ix3 (0 : Fin 1) v c)
      = headNew f x lb tri (smp k) 2 v c (rd st (ix3 (tl (smp k) 2) v c)) := by
  rw [new2, tile2]
  unfold headNew
  exact congrArg₂ (fun a b => newK (lbS fun a => lb (ix2 a (cl 2 c))) a b (fun t j => tri (ix2 t j)) (rd st (ix3 (tl (smp k) 2) v c)))
    (funext fun t => row2 f k t c) (funext fun t => row2 x k t v)
theorem row3 (f : Vec Ideal S128x512 .f32) (k : Fin k0_t1_loop.trips) (t : Fin 8) (c : Fin 128) :
    View.ld (Val := Elt Ideal) (e' := .f32) f (rowD k) (ix2 t c) = f (ix2 (rw8 (smp k) t) (cl 3 c)) := by
  have h := k0_off4_eq k
  refine View.ld_unit_apply_of (Val := Elt Ideal) (e := .f32) f _ _ _ _ _ fun a => ?_
  match a with
  | ⟨0, _⟩ => exact (congrArg (· + t.val) (congrFun h 0)).symm
  | ⟨1, _⟩ => exact (congrArg (· + c.val) (congrFun h 1)).symm

theorem tile3 (st : bufS.view.ty.Contents (Elt Ideal)) (k : Fin k0_t1_loop.trips) (v c : Fin 128) :
    bufS.view.readAt (Elt Ideal) (tileD k).toLoadRect st (ix3 (0 : Fin 1) v c) = rd st (ix3 (tl (smp k) 3) v c) := by
  have h := k0_off5_eq k (3 : Fin 4)
  refine View.ld_unit_apply_of (Val := Elt Ideal) (e := .f32) (rd st) _ _ _ _ _ fun a => ?_
  match a with
  | ⟨0, _⟩ => exact (congrArg (· + 0) (congrFun h 0)).symm
  | ⟨1, _⟩ => exact ((congrArg (· + v.val) (congrFun h 1)).trans (Nat.zero_add _)).symm
  | ⟨2, _⟩ => exact ((congrArg (· + c.val) (congrFun h 2)).trans (Nat.zero_add _)).symm

theorem piece3 (f x : Vec Ideal S128x512 .f32) (lb : Vec Ideal S2x512 .f32) (tri : Vec Ideal S8x8 .bf16) (k : Fin k0_t1_loop.trips)
    (st : bufS.view.ty.Contents (Elt Ideal)) (v c : Fin 128) :
    sNew3 (View.ld f (rowD k)) (View.ld x (rowD k)) (bufS.view.readAt (Elt Ideal) (tileD k).toLoadRect st) lb tri (ix3 (0 : Fin 1) v c)
      = headNew f x lb tri (smp k) 3 v c (rd st (ix3 (tl (smp k) 3) v c)) := by
  rw [new3, tile3]
  unfold headNew
  exact congrArg₂ (fun a b => newK (lbS fun a => lb (ix2 a (cl 3 c))) a b (fun t j => tri (ix2 t j)) (rd st (ix3 (tl (smp k) 3) v c)))
    (funext fun t => row3 f k t c) (funext fun t => row3 x k t v)

/-- One trip: the four tiles of its sample are new, the others as they were. -/
theorem step_at (f x : Vec Ideal S128x512 .f32) (lb : Vec Ideal S2x512 .f32) (tri : Vec Ideal S8x8 .bf16) (k : Fin k0_t1_loop.trips)
    (st : bufS.view.ty.Contents (Elt Ideal)) (r : Fin 16) (h : Fin 4) (v c : Fin 128) :
    rd (sStep f x lb tri k st) (ix3 (tl r h) v c)
      = if r = smp k then headNew f x lb tri r h v c (rd st (ix3 (tl r h) v c)) else rd st (ix3 (tl r h) v c) := by
  unfold sStep
  by_cases hr : r = smp k
  · subst hr
    rw [if_pos rfl]
    match h with
    | ⟨0, _⟩ =>
      refine (View.read_writes_cons_unit_of_not_mem bufS.view st _ _ _ _ (k0_off5_eq k (3 : Fin 4)) 0
        (miss_or (r := k.val) (h := 0) (by decide) (by decide) (by omega))).trans ?_
      refine (View.read_writes_cons_unit_of_not_mem bufS.view st _ _ _ _ (k0_off5_eq k (2 : Fin 4)) 0
        (miss_or (r := k.val) (h := 0) (by decide) (by decide) (by omega))).trans ?_
      refine (View.read_writes_cons_unit_of_not_mem bufS.view st _ _ _ _ (k0_off5_eq k (1 : Fin 4)) 0
        (miss_or (r := k.val) (h := 0) (by decide) (by decide) (by omega))).trans ?_
      refine (View.read_writes_cons_unit_of_mem bufS.view st _ _ _ _ (ix3 (0 : Fin 1) v c) (k0_off5_eq k (0 : Fin 4)) fun a => ?_).trans
        (piece0 f x lb tri k st v c)
      match a with
      | ⟨0, _⟩ => rfl
      | ⟨1, _⟩ => exact (Nat.zero_add _).symm
      | ⟨2, _⟩ => exact (Nat.zero_add _).symm
    | ⟨1, _⟩ =>
      refine (View.read_writes_cons_unit_of_not_mem bufS.view st _ _ _ _ (k0_off5_eq k (3 : Fin 4)) 0
        (miss_or (r := k.val) (h := 1) (by decide) (by decide) (by omega))).trans ?_
      refine (View.read_writes_cons_unit_of_not_mem bufS.view st _ _ _ _ (k0_off5_eq k (2 : Fin 4)) 0
        (miss_or (r := k.val) (h := 1) (by decide) (by decide) (by omega))).trans ?_
      refine (View.read_writes_cons_unit_of_mem bufS.view st _ _ _ _ (ix3 (0 : Fin 1) v c) (k0_off5_eq k (1 : Fin 4)) fun a => ?_).trans
        (piece1 f x lb tri k st v c)
      match a with
      | ⟨0, _⟩ => rfl
      | ⟨1, _⟩ => exact (Nat.zero_add _).symm
      | ⟨2, _⟩ => exact (Nat.zero_add _).symm
    | ⟨2, _⟩ =>
      refine (View.read_writes_cons_unit_of_not_mem bufS.view st _ _ _ _ (k0_off5_eq k (3 : Fin 4)) 0
        (miss_or (r := k.val) (h := 2) (by decide) (by decide) (by omega))).trans ?_
      refine (View.read_writes_cons_unit_of_mem bufS.view st _ _ _ _ (ix3 (0 : Fin 1) v c) (k0_off5_eq k (2 : Fin 4)) fun a => ?_).trans
        (piece2 f x lb tri k st v c)
      match a with
      | ⟨0, _⟩ => rfl
      | ⟨1, _⟩ => exact (Nat.zero_add _).symm
      | ⟨2, _⟩ => exact (Nat.zero_add _).symm
    | ⟨3, _⟩ =>
      refine (View.read_writes_cons_unit_of_mem bufS.view st _ _ _ _ (ix3 (0 : Fin 1) v c) (k0_off5_eq k (3 : Fin 4)) fun a => ?_).trans
        (piece3 f x lb tri k st v c)
      match a with
      | ⟨0, _⟩ => rfl
      | ⟨1, _⟩ => exact (Nat.zero_add _).symm
      | ⟨2, _⟩ => exact (Nat.zero_add _).symm
  · rw [if_neg hr]
    have hk : r.val ≠ k.val := fun e => hr (Fin.ext e)
    have hh := h.isLt
    refine (View.read_writes_cons_unit_of_not_mem bufS.view st _ _ _ _ (k0_off5_eq k (3 : Fin 4)) 0
        (miss_or (r := r.val) (h := h.val) hh (by decide) fun e => hk e.1)).trans ?_
    refine (View.read_writes_cons_unit_of_not_mem bufS.view st _ _ _ _ (k0_off5_eq k (2 : Fin 4)) 0
        (miss_or (r := r.val) (h := h.val) hh (by decide) fun e => hk e.1)).trans ?_
    refine (View.read_writes_cons_unit_of_not_mem bufS.view st _ _ _ _ (k0_off5_eq k (1 : Fin 4)) 0
        (miss_or (r := r.val) (h := h.val) hh (by decide) fun e => hk e.1)).trans ?_
    refine (View.read_writes_cons_unit_of_not_mem bufS.view st _ _ _ _ (k0_off5_eq k (0 : Fin 4)) 0
        (miss_or (r := r.val) (h := h.val) hh (by decide) fun e => hk e.1)).trans ?_
    rfl

/-- After `n` trips: the first `n` samples are new. -/
theorem sAt_at (f x : Vec Ideal S128x512 .f32) (lb : Vec Ideal S2x512 .f32) (tri : Vec Ideal S8x8 .bf16)
    (st : bufS.view.ty.Contents (Elt Ideal)) (r : Fin 16) (h : Fin 4) (v c : Fin 128) : ∀ n : ℕ, n ≤ 16 →
    rd (sAt f x lb tri st n) (ix3 (tl r h) v c)
      = if r.val < n then headNew f x lb tri r h v c (rd st (ix3 (tl r h) v c)) else rd st (ix3 (tl r h) v c)
  | 0, _ => by rw [if_neg (Nat.not_lt_zero _)]; rfl
  | n + 1, hn => by
    have ih := sAt_at f x lb tri st r h v c n (Nat.le_of_succ_le hn)
    have hlt : n < k0_t1_loop.trips := lt_of_lt_of_eq hn trips_eq.symm
    show rd (if h : n < k0_t1_loop.trips then sStep f x lb tri ⟨n, h⟩ (sAt f x lb tri st n) else sAt f x lb tri st n) _ = _
    rw [dif_pos hlt, step_at, ih]
    by_cases e : r.val = n
    · have e' : r = smp ⟨n, hlt⟩ := Fin.ext e
      rw [if_pos e', if_neg (by omega), if_pos (by omega)]
    · have e' : ¬ r = smp ⟨n, hlt⟩ := fun q => e (congrArg Fin.val q)
      rw [if_neg e']
      by_cases l : r.val < n
      · rw [if_pos l, if_pos (by omega)]
      · rw [if_neg l, if_neg (by omega)]

/-- What the body leaves in the second result's block, at a place. -/
theorem sOut_at (f x : Vec Ideal S128x512 .f32) (lb : Vec Ideal S2x512 .f32) (tri : Vec Ideal S8x8 .bf16) (s0 : Vec Ideal S16x4x128x128 .f32)
    (r : Fin 16) (h : Fin 4) (k v : Fin 128) :
    sOut f x lb tri s0 (ix4 r h k v) = headNew f x lb tri r h v k (s0 (ix4 r h k v)) := by
  unfold sOut
  rw [saves_at]
  unfold st1
  have e : Scf.trips k0_t1_loop.lb k0_t1_loop.ub k0_t1_loop.st = 16 := trips_eq
  rw [e, sAt_at _ _ _ _ _ _ _ _ _ 16 le_rfl, if_pos r.isLt, st0_at]
  have e1 : View.ld lb allL = lb := View.ld_unit_zero (by funext a; match a with | ⟨0, _⟩ => rfl | ⟨1, _⟩ => rfl) _ lb
  have e2 : View.ld tri allT = tri := View.ld_unit_zero (by funext a; match a with | ⟨0, _⟩ => rfl | ⟨1, _⟩ => rfl) _ tri
  rw [e1, e2]

end Cert.HgrnVal

end
-- ==== Proof.HgrnVal.Ref.lean ====
/- The reference's new states, read at an index: the same sum written with a running sum of the logarithms. -/
module

public import proofs.«01_k».proof.Proof.HgrnVal.Pay
public import proofs.«01_k».proof.Proof.Gen.Reference6Ideal.Run

@[expose] public section

set_option maxRecDepth 65536

noncomputable section

namespace Cert.HgrnVal.Ref

open Cert.Reference6Ideal Cert.Reference6Ideal.Gen Cert.HgrnVal
open Idealize.ShloMosaic Idealize.ShloMosaic.TcCoe

/-- A sum begun at zero, as a sum over the places. -/
theorem foldl_add {N : ℕ} (g : Fin N → EReal) : (List.finRange N).foldl (fun r n => r + g n) 0 = ∑ n, g n := by
  rw [Fin.sum_univ_def, List.sum_eq_foldl, List.foldl_map]

/-- The sum up to a row: the rows at or before it. -/
def pre (L : Fin 8 → EReal) (t : Fin 8) : EReal := ∑ j : Fin 8, if j ≤ t then L j else 0

/-- The window of eight rows that ends at a row holds the rows up to it. -/
theorem pre_window (L : Fin 8 → EReal) (t : Fin 8) :
    (∑ w : Fin 8, if h : 7 ≤ t.val + w.val then L ⟨t.val + w.val - 7, by omega⟩ else 0) = pre L t := by
  unfold pre
  fin_cases t <;> simp [Fin.sum_univ_eight, Fin.le_def] <;> rfl

theorem zero_at : (broadcastInDim S_ ![] bcast_S_S_ (constant (F := Ideal) S_ .f32 0x00000000#32)) (Shape.Idx.first h_S_) = (0 : EReal) := by
  pointwise

theorem numel4 : (⟨4, ![1, 1, 8, 1]⟩ : Shape).numel = 8 := by decide +kernel
theorem numel2 : (⟨2, ![2, 1]⟩ : Shape).numel = 2 := by decide +kernel
theorem place4 : ∀ (w : Fin 8) (a : Fin 4), ((⟨4, ![1, 1, 8, 1]⟩ : Shape).rowMajor.symm (w.cast numel4.symm) a).val = (![0, 0, w.val, 0] : Fin 4 → ℕ) a := by
  decide +kernel
theorem place2 : ∀ (w : Fin 2) (a : Fin 2), ((⟨2, ![2, 1]⟩ : Shape).rowMajor.symm (w.cast numel2.symm) a).val = (![w.val, 0] : Fin 2 → ℕ) a := by
  decide +kernel

theorem sum_cast {N n : ℕ} (e : N = n) (g : Fin N → EReal) : ∑ i, g i = ∑ w : Fin n, g (w.cast e.symm) := by
  subst e; rfl

/-- The running sum over the rows. -/
theorem sum_at (x : FVec Ideal S128x4x8x128 .f32) (b : Fin 128) (h : Fin 4) (t : Fin 8) (c : Fin 128) :
    Host.reduceWindowAdd (F := Ideal) ![1, 1, 8, 1] ![1, 1, 1, 1] ![0, 0, 7, 0] ![0, 0, 0, 0] x (broadcastInDim S_ ![] bcast_S_S_ (constant (F := Ideal) S_ .f32 0x00000000#32)) reduceWindows_S128x4x8x128_S128x4x8x128_w1s1p0_0_w1s1p0_0_w8s1p7_0_w1s1p0_0 h_S_ (ix4 b h t c)
      = pre (fun j => x (ix4 b h j c)) t := by
  unfold Host.reduceWindowAdd
  rw [zero_at]
  change Host.reduceWindow (· + ·) ![1, 1, 8, 1] ![1, 1, 1, 1] ![0, 0, 7, 0] ![0, 0, 0, 0] x (fun _ : (⟨0, ![]⟩ : Shape).Idx => (0 : EReal)) reduceWindows_S128x4x8x128_S128x4x8x128_w1s1p0_0_w1s1p0_0_w8s1p7_0_w1s1p0_0 (by decide) (ix4 b h t c) = _
  unfold Host.reduceWindow
  refine (foldl_add _).trans ?_
  rw [← pre_window]
  refine (sum_cast numel4 _).trans (Finset.sum_congr rfl fun w _ => ?_)
  have p0 := place4 w 0
  have p1 := place4 w 1
  have p2 := place4 w 2
  have p3 := place4 w 3
  have hb := b.isLt
  have hh := h.isLt
  have ht := t.isLt
  have hw := w.isLt
  have hc := c.isLt
  dsimp only
  split
  · next hin =>
    have h2 := (hin 2).1
    change 7 ≤ t.val * 1 + ((⟨4, ![1, 1, 8, 1]⟩ : Shape).rowMajor.symm (w.cast numel4.symm) 2).val at h2
    rw [p2] at h2
    change 7 ≤ t.val * 1 + w.val at h2
    rw [dif_pos (by omega)]
    refine congrArg x (funext fun a => Fin.ext ?_)
    match a with
    | ⟨0, _⟩ =>
      show b.val * 1 + ((⟨4, ![1, 1, 8, 1]⟩ : Shape).rowMajor.symm (w.cast numel4.symm) 0).val - 0 = b.val
      rw [p0]; show b.val * 1 + 0 - 0 = b.val; omega
    | ⟨1, _⟩ =>
      show h.val * 1 + ((⟨4, ![1, 1, 8, 1]⟩ : Shape).rowMajor.symm (w.cast numel4.symm) 1).val - 0 = h.val
      rw [p1]; show h.val * 1 + 0 - 0 = h.val; omega
    | ⟨2, _⟩ =>
      show t.val * 1 + ((⟨4, ![1, 1, 8, 1]⟩ : Shape).rowMajor.symm (w.cast numel4.symm) 2).val - 7 = t.val + w.val - 7
      rw [p2]; show t.val * 1 + w.val - 7 = _; omega
    | ⟨3, _⟩ =>
      show c.val * 1 + ((⟨4, ![1, 1, 8, 1]⟩ : Shape).rowMajor.symm (w.cast numel4.symm) 3).val - 0 = c.val
      rw [p3]; show c.val * 1 + 0 - 0 = c.val; omega
  · next hin =>
    rw [dif_neg fun hle => hin fun a => by
      match a with
      | ⟨0, _⟩ =>
        show 0 ≤ b.val * 1 + ((⟨4, ![1, 1, 8, 1]⟩ : Shape).rowMajor.symm (w.cast numel4.symm) 0).val ∧ b.val * 1 + ((⟨4, ![1, 1, 8, 1]⟩ : Shape).rowMajor.symm (w.cast numel4.symm) 0).val - 0 < 128
        rw [p0]; show 0 ≤ b.val * 1 + 0 ∧ b.val * 1 + 0 - 0 < 128; omega
      | ⟨1, _⟩ =>
        show 0 ≤ h.val * 1 + ((⟨4, ![1, 1, 8, 1]⟩ : Shape).rowMajor.symm (w.cast numel4.symm) 1).val ∧ h.val * 1 + ((⟨4, ![1, 1, 8, 1]⟩ : Shape).rowMajor.symm (w.cast numel4.symm) 1).val - 0 < 4
        rw [p1]; show 0 ≤ h.val * 1 + 0 ∧ h.val * 1 + 0 - 0 < 4; omega
      | ⟨2, _⟩ =>
        show 7 ≤ t.val * 1 + ((⟨4, ![1, 1, 8, 1]⟩ : Shape).rowMajor.symm (w.cast numel4.symm) 2).val ∧ t.val * 1 + ((⟨4, ![1, 1, 8, 1]⟩ : Shape).rowMajor.symm (w.cast numel4.symm) 2).val - 7 < 8
        rw [p2]; show 7 ≤ t.val * 1 + w.val ∧ t.val * 1 + w.val - 7 < 8; omega
      | ⟨3, _⟩ =>
        show 0 ≤ c.val * 1 + ((⟨4, ![1, 1, 8, 1]⟩ : Shape).rowMajor.symm (w.cast numel4.symm) 3).val ∧ c.val * 1 + ((⟨4, ![1, 1, 8, 1]⟩ : Shape).rowMajor.symm (w.cast numel4.symm) 3).val - 0 < 128
        rw [p3]; show 0 ≤ c.val * 1 + 0 ∧ c.val * 1 + 0 - 0 < 128; omega]

/-- The running sum over the two layers, at the first: that layer alone. -/
theorem first_at (x : FVec Ideal S2x512 .f32) (c : Fin 512) :
    Host.reduceWindowAdd (F := Ideal) ![2, 1] ![1, 1] ![1, 0] ![0, 0] x (broadcastInDim S_ ![] bcast_S_S_ (constant (F := Ideal) S_ .f32 0x00000000#32)) reduceWindows_S2x512_S2x512_w2s1p1_0_w1s1p0_0 h_S_ (ix2 (0 : Fin 2) c)
      = x (ix2 (0 : Fin 2) c) := by
  unfold Host.reduceWindowAdd
  rw [zero_at]
  change Host.reduceWindow (· + ·) ![2, 1] ![1, 1] ![1, 0] ![0, 0] x (fun _ : (⟨0, ![]⟩ : Shape).Idx => (0 : EReal)) reduceWindows_S2x512_S2x512_w2s1p1_0_w1s1p0_0 (by decide) (ix2 (0 : Fin 2) c) = _
  unfold Host.reduceWindow
  refine (foldl_add _).trans ?_
  refine (sum_cast numel2 _).trans ?_
  rw [Fin.sum_univ_two]
  have hc := c.isLt
  have p0 := place2 0 0
  have q0 := place2 1 0
  have q1 := place2 1 1
  dsimp only
  rw [dif_neg fun hin => by
    have h0 := (hin 0).1
    change 1 ≤ 0 * 1 + ((⟨2, ![2, 1]⟩ : Shape).rowMajor.symm ((0 : Fin 2).cast numel2.symm) 0).val at h0
    rw [p0] at h0
    exact absurd h0 (by decide), zero_add]
  rw [dif_pos fun a => by
    match a with
    | ⟨0, _⟩ =>
      show 1 ≤ 0 * 1 + ((⟨2, ![2, 1]⟩ : Shape).rowMajor.symm ((1 : Fin 2).cast numel2.symm) 0).val ∧ 0 * 1 + ((⟨2, ![2, 1]⟩ : Shape).rowMajor.symm ((1 : Fin 2).cast numel2.symm) 0).val - 1 < 2
      rw [q0]; exact ⟨by decide, by decide⟩
    | ⟨1, _⟩ =>
      show 0 ≤ c.val * 1 + ((⟨2, ![2, 1]⟩ : Shape).rowMajor.symm ((1 : Fin 2).cast numel2.symm) 1).val ∧ c.val * 1 + ((⟨2, ![2, 1]⟩ : Shape).rowMajor.symm ((1 : Fin 2).cast numel2.symm) 1).val - 0 < 512
      rw [q1]; show 0 ≤ c.val * 1 + 0 ∧ c.val * 1 + 0 - 0 < 512; omega]
  refine congrArg x (funext fun a => Fin.ext ?_)
  match a with
  | ⟨0, _⟩ =>
    show 0 * 1 + ((⟨2, ![2, 1]⟩ : Shape).rowMajor.symm ((1 : Fin 2).cast numel2.symm) 0).val - 1 = 0
    rw [q0]; rfl
  | ⟨1, _⟩ =>
    show c.val * 1 + ((⟨2, ![2, 1]⟩ : Shape).rowMajor.symm ((1 : Fin 2).cast numel2.symm) 1).val - 0 = c.val
    rw [q1]; show c.val * 1 + 0 - 0 = c.val; omega

/-- The reference's bounds, -/
def softR (lb : FVec Ideal S2x512 .f32) : FVec Ideal S2x512 .f32 :=
  Host.divf (Host.exp (subf lb (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf lb (constant S_ .f32 0xFF800000#32) reducesTo_S2x512_S512_d0 h_S_)))))) (broadcastInDim S2x512 ![0, 1] bcast_S1x512_S2x512_0_1 (broadcastInDim S1x512 ![1] bcast_S512_S1x512_1 (Host.reduceAdd (Host.exp (subf lb (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf lb (constant S_ .f32 0xFF800000#32) reducesTo_S2x512_S512_d0 h_S_)))))) (constant S_ .f32 0x00000000#32) reducesTo_S2x512_S512_d0 h_S_)))
def boundR (lb : FVec Ideal S2x512 .f32) : FVec Ideal S512 .f32 :=
  shapeCast S512 (extractStridedSlice S1x512 ![0, 0] (Host.reduceWindowAdd ![2, 1] ![1, 1] ![1, 0] ![0, 0] (softR lb) (broadcastInDim S_ ![] bcast_S_S_ (constant S_ .f32 0x00000000#32)) reduceWindows_S2x512_S2x512_w2s1p1_0_w1s1p0_0 h_S_) slices_S2x512_S1x512_0_0) shapeCasts_S1x512_S512
/-- gates, -/
def gateR (B : FVec Ideal S512 .f32) (z : FVec Ideal S1024x2048 .f32) : FVec Ideal S128x8x512 .f32 :=
  addf (broadcastInDim S128x8x512 ![0, 1, 2] bcast_S1x1x512_S128x8x512_0_1_2 (broadcastInDim S1x1x512 ![2] bcast_S512_S1x1x512_2 B)) (mulf (broadcastInDim S128x8x512 ![0, 1, 2] bcast_S1x1x512_S128x8x512_0_1_2 (broadcastInDim S1x1x512 ![2] bcast_S512_S1x1x512_2 (subf (broadcastInDim S512 ![] bcast_S_S512 (constant S_ .f32 0x3F800000#32)) B))) (Host.divf (broadcastInDim S128x8x512 ![] bcast_S_S128x8x512 (constant S_ .f32 0x3F800000#32)) (addf (broadcastInDim S128x8x512 ![] bcast_S_S128x8x512 (constant S_ .f32 0x3F800000#32)) (Host.exp (Host.negf (extractStridedSlice S128x8x512 ![0, 0, 512] (shapeCast _ z shapeCasts_S1024x2048_S128x8x2048) slices_S128x8x2048_S128x8x512_0_0_512))))))
/-- running sums of their logarithms, -/
def sumR (G : FVec Ideal S128x8x512 .f32) : FVec Ideal S128x4x8x128 .f32 :=
  Host.reduceWindowAdd ![1, 1, 8, 1] ![1, 1, 1, 1] ![0, 0, 7, 0] ![0, 0, 0, 0] (transpose S128x4x8x128 [0, 2, 1, 3] (shapeCast _ (Host.log G) shapeCasts_S128x8x512_S128x8x4x128) transposes_S128x8x4x128_S128x4x8x128_0_2_1_3) (broadcastInDim S_ ![] bcast_S_S_ (constant S_ .f32 0x00000000#32)) reduceWindows_S128x4x8x128_S128x4x8x128_w1s1p0_0_w1s1p0_0_w8s1p7_0_w1s1p0_0 h_S_
/-- and new states. -/
def outR (A : FVec Ideal S128x4x8x128 .f32) (G : FVec Ideal S128x8x512 .f32) (z : FVec Ideal S1024x2048 .f32) (s0 : FVec Ideal S1x128x4x128x128 .f32) :
    FVec Ideal S128x4x128x128 .f32 :=
  addf (mulf (broadcastInDim S128x4x128x128 ![0, 1, 2, 3] bcast_S128x4x128x1_S128x4x128x128_0_1_2_3 (broadcastInDim S128x4x128x1 ![0, 1, 2] bcast_S128x4x128_S128x4x128x1_0_1_2 (Host.exp (shapeCast _ (extractStridedSlice S128x4x1x128 ![0, 0, 7, 0] A slices_S128x4x8x128_S128x4x1x128_0_0_7_0) shapeCasts_S128x4x1x128_S128x4x128)))) (shapeCast _ s0 shapeCasts_S1x128x4x128x128_S128x4x128x128)) (Host.dotGeneral dot_S128x4x8x128_S128x4x8x128_S128x4x128x128_2_2_3_3_01_01 none (mulf (transpose S128x4x8x128 [0, 2, 1, 3] (shapeCast _ (subf (broadcastInDim S128x8x512 ![] bcast_S_S128x8x512 (constant S_ .f32 0x3F800000#32)) G) shapeCasts_S128x8x512_S128x8x4x128) transposes_S128x8x4x128_S128x4x8x128_0_2_1_3) (Host.exp (subf (broadcastInDim S128x4x8x128 ![0, 1, 2, 3] bcast_S128x4x1x128_S128x4x8x128_0_1_2_3 (extractStridedSlice S128x4x1x128 ![0, 0, 7, 0] A slices_S128x4x8x128_S128x4x1x128_0_0_7_0)) A))) (transpose S128x4x8x128 [0, 2, 1, 3] (shapeCast _ (extractStridedSlice S128x8x512 ![0, 0, 1024] (shapeCast _ z shapeCasts_S1024x2048_S128x8x2048) slices_S128x8x2048_S128x8x512_0_0_1024) shapeCasts_S128x8x512_S128x8x4x128) transposes_S128x8x4x128_S128x4x8x128_0_2_1_3))

theorem res_eq (m : (ℓ : Loc nD τ sig) → Buf (Elt Ideal) ℓ) (c : Dev nD) :
    Cert.Reference6Ideal.Value.res_main_v53 m c
      = outR (sumR (gateR (boundR (m ((c.tc : Thread nD τ).loc main_arg1))) (m ((c.tc : Thread nD τ).loc main_arg0))))
          (gateR (boundR (m ((c.tc : Thread nD τ).loc main_arg1))) (m ((c.tc : Thread nD τ).loc main_arg0)))
          (m ((c.tc : Thread nD τ).loc main_arg0)) (m ((c.tc : Thread nD τ).loc main_arg3)) := by
  unfold Cert.Reference6Ideal.Value.res_main_v53 outR sumR gateR boundR softR
  rfl

theorem soft_at (lb : FVec Ideal S2x512 .f32) (c : Fin 512) : softR lb (ix2 (0 : Fin 2) c) = lbS fun r => lb (ix2 r c) := by
  unfold softR
  pointwise
  simp only [Cert.Kernel5Ideal.RouteVal.bits_bot]
  unfold lbS
  rw [max_eq_right bot_le]

theorem boundR_at (lb : FVec Ideal S2x512 .f32) (c : Fin 512) : boundR lb (ix1 c) = lbS fun r => lb (ix2 r c) := by
  rw [← soft_at, ← first_at (softR lb)]
  unfold boundR
  generalize softR lb = x
  pointwise

/-- A column among the heads, and a row of the array. -/
def cl (h : Fin 4) (k : Fin 128) : Fin 512 := ⟨h.val * 128 + k.val, by omega⟩
def ro (b : Fin 128) (t : Fin 8) : Fin 1024 := ⟨b.val * 8 + t.val, by omega⟩

theorem gateR_at (B : FVec Ideal S512 .f32) (z : FVec Ideal S1024x2048 .f32) (b : Fin 128) (t : Fin 8) (c : Fin 512) :
    gateR B z (ix3 b t c) = gate (B (ix1 c)) (z (ix2 (ro b t) ⟨512 + c.val, by omega⟩)) := by
  unfold gateR gate ro
  pointwise
  rw [zero_sub]

theorem sumR_at (G : FVec Ideal S128x8x512 .f32) (b : Fin 128) (h : Fin 4) (t : Fin 8) (k : Fin 128) :
    sumR G (ix4 b h t k) = pre (fun j => Ideal.log (G (ix3 b j (cl h k)))) t := by
  unfold sumR
  rw [sum_at]
  refine congrArg (fun L => pre L t) (funext fun j => ?_)
  unfold cl
  pointwise

theorem outR_at (A : FVec Ideal S128x4x8x128 .f32) (G : FVec Ideal S128x8x512 .f32) (z : FVec Ideal S1024x2048 .f32) (s0 : FVec Ideal S1x128x4x128x128 .f32)
    (b : Fin 128) (h : Fin 4) (k v : Fin 128) :
    outR A G z s0 (ix4 b h k v)
      = Ideal.exp (A (ix4 b h 7 k)) * s0 (ix5 (0 : Fin 1) b h k v)
        + ∑ t : Fin 8, (1 - G (ix3 b t (cl h k))) * Ideal.exp (A (ix4 b h 7 k) - A (ix4 b h t k)) * z (ix2 (ro b t) ⟨1024 + (cl h v).val, by omega⟩) := by
  unfold outR cl ro
  pointwise

end Cert.HgrnVal.Ref

end
-- ==== Proof.HgrnVal.Real.lean ====
/- No gate's logarithm is the infinite positive, whatever the logits are, so the remainders that the kernel's sum adds to it
   change nothing: they are zero of a real, and the infinite negative of itself. The kernel's new state is the reference's. -/
module

public import proofs.«01_k».proof.Proof.HgrnVal.Ref

@[expose] public section

set_option maxRecDepth 65536

noncomputable section

namespace Cert.HgrnVal

open Idealize.ShloMosaic Cert.RouteSpec Cert.HgrnVal.Ref

theorem fold_two (l : Fin 2 → EReal) : Finset.univ.fold max ⊥ l = max (l 0) (l 1) := by
  have h : (Finset.univ : Finset (Fin 2)) = {0, 1} := by decide
  rw [h, Finset.fold_insert (by decide), Finset.fold_singleton, max_eq_left (bot_le : ⊥ ≤ l 1)]

theorem div_real (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

/-- The exponential of what is not positive is a real between zero and one. -/
theorem exp_real {z : EReal} (h : z ≤ 0) : ∃ r : ℝ, 0 ≤ r ∧ Ideal.exp z = (r : EReal) := by
  induction z with
  | bot => exact ⟨0, le_rfl, Ideal.exp_bot⟩
  | top => exact absurd h (by decide)
  | coe a => exact ⟨Real.exp a, (Real.exp_pos a).le, Ideal.exp_coe a⟩

/-- A bound is a real between zero and one, or the infinite negative where neither exponential is positive. -/
theorem bound_real (l : Fin 2 → EReal) : lbS l = ⊥ ∨ ∃ b : ℝ, 0 ≤ b ∧ b ≤ 1 ∧ lbS l = (b : EReal) := by
  obtain ⟨p, hp, ep⟩ := exp_real (EReal.sub_nonpos.2 (le_max_left (l 0) (l 1)))
  obtain ⟨q, hq, eq⟩ := exp_real (EReal.sub_nonpos.2 (le_max_right (l 0) (l 1)))
  unfold lbS
  rw [fold_two, Fin.sum_univ_two, ep, eq, ← EReal.coe_add]
  rcases (add_nonneg hp hq).eq_or_lt with h | h
  · left
    have h0 : p = 0 := by linarith
    rw [← h, h0]
    unfold Ideal.div
    simp
  · exact Or.inr ⟨p / (p + q), by positivity, (div_le_one h).2 (by linarith), div_real _ _ h⟩

/-- The logistic function is a real between zero and one, at the infinities too. -/
theorem logistic_real (z : EReal) : ∃ r : ℝ, 0 ≤ r ∧ Ideal.div 1 (1 + Ideal.exp (0 - z)) = (r : EReal) := by
  rw [zero_sub]
  induction z with
  | bot =>
    refine ⟨0, le_rfl, ?_⟩
    rw [EReal.neg_bot, Ideal.exp_top]
    have h : (1 : EReal) + ⊤ = ⊤ := EReal.add_top_of_ne_bot (by decide)
    rw [h]
    unfold Ideal.div
    simp
  | top =>
    refine ⟨1, zero_le_one, ?_⟩
    rw [EReal.neg_top, Ideal.exp_bot, add_zero]
    unfold Ideal.div
    simp
  | coe a =>
    have p := Real.exp_pos (-a)
    refine ⟨1 / (1 + Real.exp (-a)), by positivity, ?_⟩
    rw [← EReal.coe_neg, Ideal.exp_coe, ← EReal.coe_one, ← EReal.coe_add, div_real _ _ (by positivity)]

/-- A gate's logarithm is not the infinite positive. -/
theorem log_ne_top (l : Fin 2 → EReal) (z : EReal) : Ideal.log (gate (lbS l) z) ≠ ⊤ := by
  obtain ⟨r, hr, he⟩ := logistic_real z
  unfold gate
  rcases bound_real l with h | ⟨b, h0, h1, hb⟩
  · rw [h, EReal.bot_add]
    exact bot_ne_top
  · rw [hb, he, ← EReal.coe_one, ← EReal.coe_sub, ← EReal.coe_mul, ← EReal.coe_add, Ideal.log_coe]
    split
    · exact bot_ne_top
    · exact EReal.coe_ne_top _

/-- What is not the infinite positive, with its two remainders, is itself. -/
theorem parts_eq {x : EReal} (h : x ≠ ⊤) : x + (x - x) + (x - x - (x - x)) = x := by
  induction x with
  | bot => rfl
  | top => exact absurd rfl h
  | coe a =>
    have e : (a : EReal) - a = 0 := by rw [← EReal.coe_sub, sub_self, EReal.coe_zero]
    rw [e, sub_zero, add_zero, add_zero]

/-- The kernel's sum up to a row is the sum up to that row. -/
theorem gK_eq {tri : Fin 8 → Fin 8 → EReal} (ht : ∀ t j, tri t j = if j ≤ t then 1 else 0) {L : Fin 8 → EReal} (hL : ∀ j, L j ≠ ⊤)
    (t : Fin 8) : gK tri L t = pre L t := by
  unfold gK pre
  rw [← Finset.sum_add_distrib, ← Finset.sum_add_distrib]
  refine Finset.sum_congr rfl fun j _ => ?_
  rw [ht]
  split
  · rw [one_mul, one_mul, one_mul, parts_eq (hL j)]
  · rw [zero_mul, zero_mul, zero_mul, add_zero, add_zero]

/-- The new state at a place, as the reference computes it. -/
def newR (b : EReal) (z x : Fin 8 → EReal) (s : EReal) : EReal :=
  Ideal.exp (pre (fun j => Ideal.log (gate b (z j))) 7) * s
    + ∑ t : Fin 8, (1 - gate b (z t))
        * Ideal.exp (pre (fun j => Ideal.log (gate b (z j))) 7 - pre (fun j => Ideal.log (gate b (z j))) t) * x t

theorem newK_eq {tri : Fin 8 → Fin 8 → EReal} (ht : ∀ t j, tri t j = if j ≤ t then 1 else 0) (l : Fin 2 → EReal)
    (z x : Fin 8 → EReal) (s : EReal) : newK (lbS l) z x tri s = newR (lbS l) z x s := by
  unfold newK newR
  have h := gK_eq ht fun j => log_ne_top l (z j)
  simp only [h]
  rw [mul_comm s]
  exact congrArg _ (Finset.sum_congr rfl fun t _ => mul_comm _ _)

end Cert.HgrnVal

end
-- ==== Proof.HgrnVal.Array.lean ====
/- The states' array after the kernel's run, index by index. -/
module

public import proofs.«01_k».proof.Proof.HgrnVal.Loop
public import proofs.«01_k».proof.Proof.HgrnVal.Real
public import proofs.«01_k».proof.Proof.HgrnIdeal.Run

@[expose] public section

set_option maxRecDepth 65536

noncomputable section

namespace Cert.HgrnVal

open Cert.Kernel6Ideal Cert.Kernel6Ideal.Gen Cert.Kernel6Ideal.Hgrn
open Idealize.ShloMosaic Idealize.ShloMosaic.TcCoe
open Idealize.ShloMosaic.Pipeline (Dat Cfg Window)

variable (m : (ℓ : Loc nD τ sig) → Buf (Elt Ideal) ℓ)

/-- The two arrays that the region finds computed: the old states and the matrix of ones and zeros. -/
theorem V_main_v0 (c : Dev nD) : V m c main_v0 = shapeCast _ (m ((c : Thread nD τ).loc main_arg3)) shapeCasts_S1x128x4x128x128_S128x4x128x128 := by
  unfold V; after_results <;> rfl
theorem V_main_v4 (c : Dev nD) : V m c main_v4 = uitofp (F := Ideal) (s := S8x8) .bf16 (cmpi .sge (iotaInDim S8x8 32 0) (iotaInDim S8x8 32 1)) := by
  unfold V; after_results <;> rfl

theorem states_at (s : FVec Ideal S1x128x4x128x128 .f32) (b : Fin 128) (h : Fin 4) (k v : Fin 128) :
    shapeCast S128x4x128x128 s shapeCasts_S1x128x4x128x128_S128x4x128x128 (ix4 b h k v) = s (ix5 (0 : Fin 1) b h k v) := by
  pointwise

theorem ones_word : ∀ t j : Fin 8, IntOp.cmpi .sge (BitVec.ofNat 32 t.val) (BitVec.ofNat 32 j.val) = if j ≤ t then 1#1 else 0#1 := by
  decide +kernel
theorem ones_at (t j : Fin 8) :
    uitofp (F := Ideal) (s := S8x8) .bf16 (cmpi .sge (iotaInDim S8x8 32 0) (iotaInDim S8x8 32 1)) (ix2 t j) = if j ≤ t then (1 : EReal) else 0 := by
  pointwise
  rw [ones_word]
  by_cases h : j ≤ t
  · rw [if_pos h, if_pos h]
    change (((1#1 : BitVec 1).toNat : ℝ) : EReal) = 1
    rw [show (1#1 : BitVec 1).toNat = 1 from rfl, Nat.cast_one, EReal.coe_one]
  · rw [if_neg h, if_neg h]
    change (((0#1 : BitVec 1).toNat : ℝ) : EReal) = 0
    rw [show (0#1 : BitVec 1).toNat = 0 from rfl, Nat.cast_zero, EReal.coe_zero]

theorem N_eq : cfg0.N = 8 := (by decide +kernel : grid0.N = 8)
theorem lt8 (t : Fin cfg0.N) : t.val < 8 := lt_of_lt_of_eq t.isLt N_eq
theorem index1 : ∀ t : Fin cfg0.N, win0_1.index t = ![t.val, 1] := (by decide +kernel : ∀ t : Fin grid0.N, win0_1.index t = ![t.val, 1])
theorem index2 : ∀ t : Fin cfg0.N, win0_2.index t = ![t.val, 2] := (by decide +kernel : ∀ t : Fin grid0.N, win0_2.index t = ![t.val, 2])
theorem index4 : ∀ t : Fin cfg0.N, win0_4.index t = ![0, 0] := (by decide +kernel : ∀ t : Fin grid0.N, win0_4.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val, 0, 0, 0] := (by decide +kernel : ∀ t : Fin grid0.N, win0_7.index t = ![t.val, 0, 0, 0])
theorem index9 : ∀ t : Fin cfg0.N, win0_9.index t = ![t.val, 0, 0, 0] := (by decide +kernel : ∀ t : Fin grid0.N, win0_9.index t = ![t.val, 0, 0, 0])

theorem row_lt {n r : ℕ} (hn : n < 8) (hr : r < 128) : n * 128 + r < 1024 := by omega
theorem smp_lt {n r : ℕ} (hn : n < 8) (hr : r < 16) : n * 16 + r < 128 := by omega
theorem row_eq (n r s : ℕ) : n * s + 1 * r = n * s + r := by omega
theorem col_eq (n r : ℕ) : 0 * n + 1 * r = r := by omega
theorem f_eq (c : ℕ) : 1 * 512 + 1 * c = 512 + c := by omega
theorem x_eq (c : ℕ) : 2 * 512 + 1 * c = 1024 + c := by omega

/-- The input windows' blocks at a point, read off the arguments. -/
theorem iblk1_at (c : Dev nD) (t : Fin cfg0.N) (r : Fin 128) (k : Fin 512) : iblk m c 1 t (ix2 r k : S128x512.Idx)
    = m ((c : Thread nD τ).loc main_arg0) (ix2 (⟨t.val * 128 + r.val, row_lt (lt8 t) r.isLt⟩ : Fin 1024) (⟨512 + k.val, by omega⟩ : Fin 2048)) := by
  rw [← V_main_arg0 m c]
  refine congrArg (V m c main_arg0) (funext fun a => Fin.ext ?_)
  have h := congrFun (index1 t) a
  change win0_1.index t a * S128x512.size a + 1 * ((ix2 r k : S128x512.Idx) a).val = _
  rw [h]
  match a with
  | ⟨0, _⟩ => exact row_eq t.val r.val 128
  | ⟨1, _⟩ => exact f_eq k.val

theorem iblk2_at (c : Dev nD) (t : Fin cfg0.N) (r : Fin 128) (k : Fin 512) : iblk m c 2 t (ix2 r k : S128x512.Idx)
    = m ((c : Thread nD τ).loc main_arg0) (ix2 (⟨t.val * 128 + r.val, row_lt (lt8 t) r.isLt⟩ : Fin 1024) (⟨1024 + k.val, by omega⟩ : Fin 2048)) := by
  rw [← V_main_arg0 m c]
  refine congrArg (V m c main_arg0) (funext fun a => Fin.ext ?_)
  have h := congrFun (index2 t) a
  change win0_2.index t a * S128x512.size a + 1 * ((ix2 r k : S128x512.Idx) a).val = _
  rw [h]
  match a with
  | ⟨0, _⟩ => exact row_eq t.val r.val 128
  | ⟨1, _⟩ => exact x_eq k.val

theorem iblk4_at (c : Dev nD) (t : Fin cfg0.N) (r : Fin 2) (k : Fin 512) : iblk m c 4 t (ix2 r k : S2x512.Idx)
    = m ((c : Thread nD τ).loc main_arg1) (ix2 r k) := by
  rw [← V_main_arg1 m c]
  refine congrArg (V m c main_arg1) (funext fun a => Fin.ext ?_)
  have h := congrFun (index4 t) a
  change win0_4.index t a * S2x512.size a + 1 * ((ix2 r k : S2x512.Idx) a).val = _
  rw [h]
  match a with
  | ⟨0, _⟩ => exact col_eq _ r.val
  | ⟨1, _⟩ => exact col_eq _ k.val

theorem iblk6_at (c : Dev nD) (t : Fin cfg0.N) (i j : Fin 8) : iblk m c 6 t (ix2 i j : S8x8.Idx) = if j ≤ i then (1 : EReal) else 0 := by
  have h : iblk m c 6 t (ix2 i j : S8x8.Idx) = V m c main_v4 (ix2 i j) := by
    refine congrArg (V m c main_v4) (funext fun a => Fin.ext ?_)
    have h := congrFun (index6 t) a
    change win0_6.index t a * S8x8.size a + 1 * ((ix2 i j : S8x8.Idx) a).val = _
    rw [h]
    match a with
    | ⟨0, _⟩ => exact col_eq _ i.val
    | ⟨1, _⟩ => exact col_eq _ j.val
  rw [h, V_main_v4]
  exact ones_at i j

theorem iblk7_at (c : Dev nD) (t : Fin cfg0.N) (r : Fin 16) (h : Fin 4) (k v : Fin 128) : iblk m c 7 t (ix4 r h k v : S16x4x128x128.Idx)
    = m ((c : Thread nD τ).loc main_arg3) (ix5 (0 : Fin 1) (⟨t.val * 16 + r.val, smp_lt (lt8 t) r.isLt⟩ : Fin 128) h k v) := by
  have e : iblk m c 7 t (ix4 r h k v : S16x4x128x128.Idx) = V m c main_v0 (ix4 (⟨t.val * 16 + r.val, smp_lt (lt8 t) r.isLt⟩ : Fin 128) h k v) := by
    refine congrArg (V m c main_v0) (funext fun a => Fin.ext ?_)
    have h' := congrFun (index7 t) a
    change win0_7.index t a * S16x4x128x128.size a + 1 * ((ix4 r h k v : S16x4x128x128.Idx) a).val = _
    rw [h']
    match a with
    | ⟨0, _⟩ => exact row_eq t.val r.val 16
    | ⟨1, _⟩ => exact col_eq _ h.val
    | ⟨2, _⟩ => exact col_eq _ k.val
    | ⟨3, _⟩ => exact col_eq _ v.val
  rw [e, V_main_v0]
  exact states_at _ _ _ _ _

/-- A sample's new state at a place, from the arguments as the reference computes it. -/
def stateOf (z : Cert.Reference6Ideal.S1024x2048.Idx → EReal) (lb : Cert.Reference6Ideal.S2x512.Idx → EReal)
    (s0 : Cert.Reference6Ideal.S1x128x4x128x128.Idx → EReal) (b : Fin 128) (h : Fin 4) (k v : Fin 128) : EReal :=
  newR (lbS fun a => lb (ix2 a (Ref.cl h k)))
    (fun t => z (ix2 (Ref.ro b t) (⟨512 + (Ref.cl h k).val, by omega⟩ : Fin 2048)))
    (fun t => z (ix2 (Ref.ro b t) (⟨1024 + (Ref.cl h v).val, by omega⟩ : Fin 2048)))
    (s0 (ix5 (0 : Fin 1) b h k v))

theorem rowNo (n r t : ℕ) : n * 128 + (8 * r + t) = (n * 16 + r) * 8 + t := by omega
theorem cl_eq (h : Fin 4) (k : Fin 128) : cl h k = Ref.cl h k := Fin.ext (congrArg (· + k.val) (Nat.mul_comm 128 h.val))
theorem ro_eq (n : ℕ) (hn : n < 8) (r : Fin 16) (t : Fin 8) :
    (⟨n * 128 + (rw8 r t).val, row_lt hn (rw8 r t).isLt⟩ : Fin 1024) = Ref.ro ⟨n * 16 + r.val, smp_lt hn r.isLt⟩ t :=
  Fin.ext (rowNo n r.val t.val)

/-- A block of the result, read off the arguments. -/
theorem block9 (c : Dev nD) (t : Fin cfg0.N) (r : Fin 16) (h : Fin 4) (k v : Fin 128) :
    sOut (iblk m c 1 t) (iblk m c 2 t) (iblk m c 4 t) (iblk m c 6 t) (iblk m c 7 t) (ix4 r h k v)
      = stateOf (m ((c : Thread nD τ).loc main_arg0)) (m ((c : Thread nD τ).loc main_arg1)) (m ((c : Thread nD τ).loc main_arg3))
          ⟨t.val * 16 + r.val, smp_lt (lt8 t) r.isLt⟩ h k v := by
  rw [sOut_at]
  unfold headNew
  simp only [iblk1_at, iblk2_at, iblk4_at, iblk7_at, cl_eq, ro_eq]
  refine (newK_eq (fun i j => iblk6_at m c t i j) _ _ _ _).trans ?_
  unfold stateOf
  simp only [ro_eq t.val (lt8 t) r]

/-- The states' array wanted. -/
def want9 (c : Dev nD) : Vec Ideal S128x4x128x128 .f32 := fun i =>
  stateOf (m ((c : Thread nD τ).loc main_arg0)) (m ((c : Thread nD τ).loc main_arg1)) (m ((c : Thread nD τ).loc main_arg3)) (i 0) (i 1) (i 2) (i 3)

theorem covers9 : (cfg0.win (9 : Fin 10)).Covers := by decide +kernel

theorem emb9 (t : Fin cfg0.N) (r : Fin 16) (h : Fin 4) (k v : Fin 128) :
    ((cfg0.win (9 : Fin 10)).blk t).view.emb (ix4 r h k v : S16x4x128x128.Idx) = (ix4 (⟨t.val * 16 + r.val, smp_lt (lt8 t) r.isLt⟩ : Fin 128) h k v : S128x4x128x128.Idx) := by
  funext a
  refine Fin.ext ?_
  have h' := congrFun (index9 t) a
  change win0_9.index t a * S16x4x128x128.size a + 1 * ((ix4 r h k v : S16x4x128x128.Idx) a).val = _
  rw [h']
  match a with
  | ⟨0, _⟩ => exact row_eq t.val r.val 16
  | ⟨1, _⟩ => exact col_eq _ h.val
  | ⟨2, _⟩ => exact col_eq _ k.val
  | ⟨3, _⟩ => exact col_eq _ v.val

/-- The states' array after the run. -/
theorem array9 (c : Dev nD) :
    (dats m 0 c).arrAt (9 : Fin 10) cfg0.N = want9 m c := by
  refine (dats m 0 c).arrAt_eq_of_covers (9 : Fin 10) _ covers9 fun t hf y => ?_
  obtain ⟨r, h, k, v, rfl⟩ : ∃ (r : Fin 16) (h : Fin 4) (k v : Fin 128), y = (ix4 r h k v : S16x4x128x128.Idx) := ⟨y 0, y 1, y 2, y 3, eq_ix4 y⟩
  refine (congrFun (after9 m c t) _).trans ((block9 m c t r h k v).trans ?_)
  exact (congrArg (want9 m c) (emb9 t r h k v)).symm

end Cert.HgrnVal

end
-- ==== Proof.HgrnVal.Claim.lean ====
/-
  The recurrence of the sample: the states that the kernel's run leaves in its second result are what the reference's run
  leaves in its own.
-/
module

public import proofs.«01_k».proof.Defs
public import proofs.«01_k».proof.Proof.HgrnVal.Array
public import proofs.«01_k».proof.Proof.HgrnVal.Ref

@[expose] public section

set_option maxRecDepth 16384

noncomputable section

namespace Cert.HgrnVal

open Idealize.ShloMosaic Idealize.SL.Sem

theorem ref_states (z : FVec Ideal Cert.Reference6Ideal.S1024x2048 .f32) (lb : FVec Ideal Cert.Reference6Ideal.S2x512 .f32) (s0 : FVec Ideal Cert.Reference6Ideal.S1x128x4x128x128 .f32) :
    Ref.outR (Ref.sumR (Ref.gateR (Ref.boundR lb) z)) (Ref.gateR (Ref.boundR lb) z) z s0
      = fun i : Cert.Reference6Ideal.S128x4x128x128.Idx => stateOf z lb s0 (i 0) (i 1) (i 2) (i 3) := by
  funext i
  idx_vars i
  refine (Ref.outR_at _ _ _ _ i0 i1 i2 i3).trans ?_
  simp only [Ref.sumR_at, Ref.gateR_at, Ref.boundR_at]
  rfl

/-- The two programs, from arguments that agree, end with the same states. -/
theorem algebraic : Cert.algebraic_Kernel6Ideal_Reference6Ideal := by
  intro m g m' g' _ hag
  refine ⟨fun c => want9 m c, ?_, ?_⟩
  · exact (θ_run Cert.Kernel6Ideal.defs _ _).mono (fun r h c => ⟨(h.1 c).2.trans (array9 m c), (h.1 c).1⟩)
      (Cert.Kernel6Ideal.Hgrn.run_result m g)
  · refine (θ_run Cert.Reference6Ideal.defs _ _).mono (fun r h c => ⟨(h c).1.trans ((Ref.res_eq m' c).trans ((ref_states _ _ _).trans ?_)), (h c).2⟩)
      (Cert.Reference6Ideal.Value.run m' g')
    obtain ⟨h0, h1, h2, h3⟩ := hag c
    rw [h0, h1, h3]; rfl

end Cert.HgrnVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite
public import proofs.«01_k».proof.Proof.Gen.Pre_experts
public import proofs.«01_k».proof.Proof.FfnVal.Claim
public import proofs.«01_k».proof.Proof.Proj.Claim
public import proofs.«01_k».proof.Proof.Rows.Value
public import proofs.«01_k».proof.Proof.Out.Run
public import proofs.«01_k».proof.Proof.OutVal.Claim
public import proofs.«01_k».proof.Proof.Route.Run
public import proofs.«01_k».proof.Proof.RouteVal.Claim
public import proofs.«01_k».proof.Proof.Hgrn.Run
public import proofs.«01_k».proof.Proof.HgrnIdeal.Run
public import proofs.«01_k».proof.Proof.HgrnVal.Claim
public import Idealize.ShloMosaic.Adequacy
public import Idealize.ShloMosaic.Init

@[expose] public section

noncomputable section

namespace Cert.Proof

open Idealize.ShloMosaic Idealize.SL.Sem Cert.Kernel

/-- The frame of the experts' kernel, as written -/
theorem frame_Kernel : Cert.quiescent_Kernel := fun _ g h =>
  (θ_run Cert.Kernel.defs _ _).mono (fun _ h => ⟨fun c => (h.1 c).1, h.2⟩) (Cert.Kernel.Ffn.run_result (Cert.FfnVal.good h) g)

/-- and over the extended reals. -/
theorem frame_KernelIdeal : Cert.quiescent_KernelIdeal := fun _ g h =>
  (θ_run Cert.KernelIdeal.defs _ _).mono (fun _ h => ⟨fun c => (h.1 c).1, h.2⟩) (Cert.KernelIdeal.Ffn.run_result (Cert.FfnVal.goodIdeal h) g)

/-- The frame of the experts' reference. -/
theorem frame_ReferenceIdeal : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The frame of the projection's reference. -/
theorem frame_Reference2Ideal : Cert.quiescent_Reference2Ideal := fun m g _ =>
  (θ_run Cert.Reference2Ideal.defs _ _).mono (fun r h => ⟨fun c => (h c).2.2, sem_eq_zero_of_no_sems (by decide) r.2⟩) (Cert.Reference2Ideal.Value.run m g)

/-- The frame of the last rows' reference. -/
theorem frame_Reference3Ideal : Cert.quiescent_Reference3Ideal := fun m g _ =>
  (θ_run Cert.Reference3Ideal.defs _ _).mono (fun r h => ⟨fun c => (h c).2, sem_eq_zero_of_no_sems (by decide) r.2⟩) (Cert.Reference3Ideal.Value.run m g)

/-- The frame of the output projection's reference. -/
theorem frame_Reference4Ideal : Cert.quiescent_Reference4Ideal := fun m g _ =>
  (θ_run Cert.Reference4Ideal.defs _ _).mono (fun r h => ⟨fun c => (h c).2.2, sem_eq_zero_of_no_sems (by decide) r.2⟩) (Cert.Reference4Ideal.Value.run m g)

/-- The frame of the routing's reference. -/
theorem frame_Reference5Ideal : Cert.quiescent_Reference5Ideal := fun m g _ =>
  (θ_run Cert.Reference5Ideal.defs _ _).mono (fun r h => ⟨fun c => (h c).2.2, sem_eq_zero_of_no_sems (by decide) r.2⟩) (Cert.Reference5Ideal.Value.run m g)

/-- The frame of the recurrence's reference. -/
theorem frame_Reference6Ideal : Cert.quiescent_Reference6Ideal := fun m g _ =>
  (θ_run Cert.Reference6Ideal.defs _ _).mono (fun r h => ⟨fun c => (h c).2, sem_eq_zero_of_no_sems (by decide) r.2⟩) (Cert.Reference6Ideal.Value.run m g)

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_experts.Gen.facts, Cert.Pre_finite.Gen.facts,
  frame_Kernel, frame_KernelIdeal, frame_ReferenceIdeal, fun m g _ => Cert.Kernel2.Gen.frame m g, fun m g _ => Cert.Kernel2Ideal.Gen.frame m g, frame_Reference2Ideal,
  fun m g _ => Cert.Kernel3.Gen.frame m g, fun m g _ => Cert.Kernel3Ideal.Gen.frame m g, frame_Reference3Ideal,
  fun m g _ => Cert.Kernel4.Out.frame m g, fun m g _ => Cert.Kernel4Ideal.Out.frame m g, frame_Reference4Ideal,
  fun m g _ => Cert.Kernel5.Route.frame m g, fun m g _ => Cert.Kernel5Ideal.Route.frame m g, fun m g _ => Cert.Kernel5Ideal.Route.frame m g, frame_Reference5Ideal, fun m g _ => frame_Reference5Ideal m g trivial,
  fun m g _ => Cert.Kernel6.Hgrn.frame m g, fun m g _ => Cert.Kernel6Ideal.Hgrn.frame m g, frame_Reference6Ideal,
  trivial, Cert.FfnVal.algebraic, trivial, Cert.ProjVal.algebraic, trivial, Cert.RowsVal.algebraic, trivial, Cert.OutVal.algebraic, trivial, Cert.RouteVal.algebraic, trivial, Cert.HgrnVal.algebraic⟩

end Cert.Proof

end
